-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4, 512]⟩ ⟨2, ![64, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S4x512 : Shape := ⟨2, ![4, 512]⟩
abbrev S128x512 : Shape := ⟨2, ![128, 512]⟩
abbrev S8 : Shape := ⟨1, ![8]⟩
abbrev S16 : Shape := ⟨1, ![16]⟩
abbrev S_ : Shape := ⟨0, ![]⟩
abbrev S64x1024 : Shape := ⟨2, ![64, 1024]⟩
abbrev S1 : Shape := ⟨1, ![1]⟩
abbrev S8x512 : Shape := ⟨2, ![8, 512]⟩

abbrev nBuf : Space → Nat
  | .hbm => 8
  | .vmem => 13
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S4x512, .f32⟩
  | .local _ .vmem, ⟨0, _⟩ => ⟨S64x512, .f32⟩
  | .local _ .vmem, ⟨1, _⟩ => ⟨S512x1024, .f32⟩
  | .local _ .vmem, ⟨2, _⟩ => ⟨S1024x512, .f32⟩
  | .local _ .vmem, ⟨3, _⟩ => ⟨S512x1024, .f32⟩
  | .local _ .vmem, ⟨4, _⟩ => ⟨S1024x512, .f32⟩
  | .local _ .vmem, ⟨5, _⟩ => ⟨S512x1024, .f32⟩
  | .local _ .vmem, ⟨6, _⟩ => ⟨S1024x512, .f32⟩
  | .local _ .vmem, ⟨7, _⟩ => ⟨S4x512, .f32⟩
  | .local _ .vmem, ⟨8, _⟩ => ⟨S64x512, .f32⟩
  | .local _ .vmem, ⟨9, _⟩ => ⟨S128x512, .f32⟩
  | .local _ .vmem, ⟨10, _⟩ => ⟨S128x512, .f32⟩
  | .local _ .vmem, ⟨11, _⟩ => ⟨S64x512, .f32⟩
  | .local _ .vmem, ⟨12, _⟩ => ⟨S64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_8 : BitVec 32 := 1#32
  let v28 : BitVec 32 := Scalar.addi v2 c1_i32_8
  let c16_i32_9 : BitVec 32 := 16#32
  let v29 : BitVec 32 := Scalar.remsi v28 c16_i32_9
  let c1_i32_11 : BitVec 32 := 1#32
  let v30 : BitVec 32 := Scalar.muli v29 c1_i32_11
  let v31 : BitVec 32 := Scalar.addi c0_i32_12 v30
  v31.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_13 : BitVec 32 := 2#32
  let v32 : BitVec 32 := Scalar.addi v2 c2_i32_13
  let c16_i32_14 : BitVec 32 := 16#32
  let v33 : BitVec 32 := Scalar.remsi v32 c16_i32_14
  let c1_i32_16 : BitVec 32 := 1#32
  let v34 : BitVec 32 := Scalar.muli v33 c1_i32_16
  let v35 : BitVec 32 := Scalar.addi c0_i32_17 v34
  v35.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v36 : BitVec 32 := Scalar.addi v2 c3_i32
  let c16_i32_18 : BitVec 32 := 16#32
  let v37 : BitVec 32 := Scalar.remsi v36 c16_i32_18
  let c1_i32_20 : BitVec 32 := 1#32
  let v38 : BitVec 32 := Scalar.muli v37 c1_i32_20
  let v39 : BitVec 32 := Scalar.addi c0_i32_21 v38
  v39.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_22 : BitVec 32 := 4#32
  let v40 : BitVec 32 := Scalar.addi v2 c4_i32_22
  let c16_i32_23 : BitVec 32 := 16#32
  let v41 : BitVec 32 := Scalar.remsi v40 c16_i32_23
  let c1_i32_25 : BitVec 32 := 1#32
  let v42 : BitVec 32 := Scalar.muli v41 c1_i32_25
  let v43 : BitVec 32 := Scalar.addi c0_i32_26 v42
  v43.toNat
def k0_dev5 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v44 : BitVec 32 := Scalar.addi v2 c5_i32
  let c16_i32_27 : BitVec 32 := 16#32
  let v45 : BitVec 32 := Scalar.remsi v44 c16_i32_27
  let c1_i32_29 : BitVec 32 := 1#32
  let v46 : BitVec 32 := Scalar.muli v45 c1_i32_29
  let v47 : BitVec 32 := Scalar.addi c0_i32_30 v46
  v47.toNat
def k0_dev6 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v48 : BitVec 32 := Scalar.addi v2 c6_i32
  let c16_i32_31 : BitVec 32 := 16#32
  let v49 : BitVec 32 := Scalar.remsi v48 c16_i32_31
  let c1_i32_33 : BitVec 32 := 1#32
  let v50 : BitVec 32 := Scalar.muli v49 c1_i32_33
  let v51 : BitVec 32 := Scalar.addi c0_i32_34 v50
  v51.toNat
def k0_dev7 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v52 : BitVec 32 := Scalar.addi v2 c7_i32
  let c16_i32_35 : BitVec 32 := 16#32
  let v53 : BitVec 32 := Scalar.remsi v52 c16_i32_35
  let c1_i32_37 : BitVec 32 := 1#32
  let v54 : BitVec 32 := Scalar.muli v53 c1_i32_37
  let v55 : BitVec 32 := Scalar.addi c0_i32_38 v54
  v55.toNat
def k0_dev8 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_39 : BitVec 32 := 8#32
  let v56 : BitVec 32 := Scalar.addi v2 c8_i32_39
  let c16_i32_40 : BitVec 32 := 16#32
  let v57 : BitVec 32 := Scalar.remsi v56 c16_i32_40
  let c1_i32_42 : BitVec 32 := 1#32
  let v58 : BitVec 32 := Scalar.muli v57 c1_i32_42
  let v59 : BitVec 32 := Scalar.addi c0_i32_43 v58
  v59.toNat
def k0_dev9 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v60 : BitVec 32 := Scalar.addi v2 c9_i32
  let c16_i32_44 : BitVec 32 := 16#32
  let v61 : BitVec 32 := Scalar.remsi v60 c16_i32_44
  let c1_i32_46 : BitVec 32 := 1#32
  let v62 : BitVec 32 := Scalar.muli v61 c1_i32_46
  let v63 : BitVec 32 := Scalar.addi c0_i32_47 v62
  v63.toNat
def k0_dev10 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v64 : BitVec 32 := Scalar.addi v2 c10_i32
  let c16_i32_48 : BitVec 32 := 16#32
  let v65 : BitVec 32 := Scalar.remsi v64 c16_i32_48
  let c1_i32_50 : BitVec 32 := 1#32
  let v66 : BitVec 32 := Scalar.muli v65 c1_i32_50
  let v67 : BitVec 32 := Scalar.addi c0_i32_51 v66
  v67.toNat
def k0_dev11 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v68 : BitVec 32 := Scalar.addi v2 c11_i32
  let c16_i32_52 : BitVec 32 := 16#32
  let v69 : BitVec 32 := Scalar.remsi v68 c16_i32_52
  let c1_i32_54 : BitVec 32 := 1#32
  let v70 : BitVec 32 := Scalar.muli v69 c1_i32_54
  let v71 : BitVec 32 := Scalar.addi c0_i32_55 v70
  v71.toNat
def k0_dev12 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_56 : BitVec 32 := 12#32
  let v72 : BitVec 32 := Scalar.addi v2 c12_i32_56
  let c16_i32_57 : BitVec 32 := 16#32
  let v73 : BitVec 32 := Scalar.remsi v72 c16_i32_57
  let c1_i32_59 : BitVec 32 := 1#32
  let v74 : BitVec 32 := Scalar.muli v73 c1_i32_59
  let v75 : BitVec 32 := Scalar.addi c0_i32_60 v74
  v75.toNat
def k0_dev13 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v76 : BitVec 32 := Scalar.addi v2 c13_i32
  let c16_i32_61 : BitVec 32 := 16#32
  let v77 : BitVec 32 := Scalar.remsi v76 c16_i32_61
  let c1_i32_63 : BitVec 32 := 1#32
  let v78 : BitVec 32 := Scalar.muli v77 c1_i32_63
  let v79 : BitVec 32 := Scalar.addi c0_i32_64 v78
  v79.toNat
def k0_dev14 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v80 : BitVec 32 := Scalar.addi v2 c14_i32
  let c16_i32_65 : BitVec 32 := 16#32
  let v81 : BitVec 32 := Scalar.remsi v80 c16_i32_65
  let c1_i32_67 : BitVec 32 := 1#32
  let v82 : BitVec 32 := Scalar.muli v81 c1_i32_67
  let v83 : BitVec 32 := Scalar.addi c0_i32_68 v82
  v83.toNat
def k0_dev15 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v84 : BitVec 32 := Scalar.addi v2 c15_i32
  let c16_i32_69 : BitVec 32 := 16#32
  let v85 : BitVec 32 := Scalar.remsi v84 c16_i32_69
  let c1_i32_71 : BitVec 32 := 1#32
  let v86 : BitVec 32 := Scalar.muli v85 c1_i32_71
  let v87 : BitVec 32 := Scalar.addi c0_i32_72 v86
  v87.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_84 : BitVec 32 := 4#32
  let v102 : BitVec 1 := Scalar.cmpi .ne v2 c4_i32_84
  let v103 : BitVec 32 := Scalar.extui v102
  let c0_i32_86 : BitVec 32 := 0#32
  let v104 : BitVec 1 := Scalar.cmpi .ne v103 c0_i32_86
  v104

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_83 : BitVec 32 := 8#32
  let v101 : BitVec 32 := Scalar.muli v2 c8_i32_83
  let c0_i32_938 : BitVec 32 := 0#32
  ![v101.toNat, 0]
def k0_dev16 : Nat :=
  let c0_i32_937 : BitVec 32 := 0#32
  let c4_i32_935 : BitVec 32 := 4#32
  let c1_i32_936 : BitVec 32 := 1#32
  let v1126 : BitVec 32 := Scalar.muli c4_i32_935 c1_i32_936
  let v1127 : BitVec 32 := Scalar.addi c0_i32_937 v1126
  v1127.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_88 : BitVec 32 := 5#32
  let v106 : BitVec 1 := Scalar.cmpi .ne v2 c5_i32_88
  let v107 : BitVec 32 := Scalar.extui v106
  let c0_i32_90 : BitVec 32 := 0#32
  let v108 : BitVec 1 := Scalar.cmpi .ne v107 c0_i32_90
  v108

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_87 : BitVec 32 := 8#32
  let v105 : BitVec 32 := Scalar.muli v2 c8_i32_87
  let c0_i32_938 : BitVec 32 := 0#32
  ![v105.toNat, 0]
def k0_dev17 : Nat :=
  let c0_i32_937 : BitVec 32 := 0#32
  let c5_i32_935 : BitVec 32 := 5#32
  let c1_i32_936 : BitVec 32 := 1#32
  let v1126 : BitVec 32 := Scalar.muli c5_i32_935 c1_i32_936
  let v1127 : BitVec 32 := Scalar.addi c0_i32_937 v1126
  v1127.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_92 : BitVec 32 := 6#32
  let v110 : BitVec 1 := Scalar.cmpi .ne v2 c6_i32_92
  let v111 : BitVec 32 := Scalar.extui v110
  let c0_i32_94 : BitVec 32 := 0#32
  let v112 : BitVec 1 := Scalar.cmpi .ne v111 c0_i32_94
  v112

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_91 : BitVec 32 := 8#32
  let v109 : BitVec 32 := Scalar.muli v2 c8_i32_91
  let c0_i32_938 : BitVec 32 := 0#32
  ![v109.toNat, 0]
def k0_dev18 : Nat :=
  let c0_i32_937 : BitVec 32 := 0#32
  let c6_i32_935 : BitVec 32 := 6#32
  let c1_i32_936 : BitVec 32 := 1#32
  let v1126 : BitVec 32 := Scalar.muli c6_i32_935 c1_i32_936
  let v1127 : BitVec 32 := Scalar.addi c0_i32_937 v1126
  v1127.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_96 : BitVec 32 := 7#32
  let v114 : BitVec 1 := Scalar.cmpi .ne v2 c7_i32_96
  let v115 : BitVec 32 := Scalar.extui v114
  let c0_i32_98 : BitVec 32 := 0#32
  let v116 : BitVec 1 := Scalar.cmpi .ne v115 c0_i32_98
  v116

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_95 : BitVec 32 := 8#32
  let v113 : BitVec 32 := Scalar.muli v2 c8_i32_95
  let c0_i32_938 : BitVec 32 := 0#32
  ![v113.toNat, 0]
def k0_dev19 : Nat :=
  let c0_i32_937 : BitVec 32 := 0#32
  let c7_i32_935 : BitVec 32 := 7#32
  let c1_i32_936 : BitVec 32 := 1#32
  let v1126 : BitVec 32 := Scalar.muli c7_i32_935 c1_i32_936
  let v1127 : BitVec 32 := Scalar.addi c0_i32_937 v1126
  v1127.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_100 : BitVec 32 := 8#32
  let v118 : BitVec 1 := Scalar.cmpi .ne v2 c8_i32_100
  let v119 : BitVec 32 := Scalar.extui v118
  let c0_i32_102 : BitVec 32 := 0#32
  let v120 : BitVec 1 := Scalar.cmpi .ne v119 c0_i32_102
  v120

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_99 : BitVec 32 := 8#32
  let v117 : BitVec 32 := Scalar.muli v2 c8_i32_99
  let c0_i32_938 : BitVec 32 := 0#32
  ![v117.toNat, 0]
def k0_dev20 : Nat :=
  let c0_i32_937 : BitVec 32 := 0#32
  let c8_i32_935 : BitVec 32 := 8#32
  let c1_i32_936 : BitVec 32 := 1#32
  let v1126 : BitVec 32 := Scalar.muli c8_i32_935 c1_i32_936
  let v1127 : BitVec 32 := Scalar.addi c0_i32_937 v1126
  v1127.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_104 : BitVec 32 := 9#32
  let v122 : BitVec 1 := Scalar.cmpi .ne v2 c9_i32_104
  let v123 : BitVec 32 := Scalar.extui v122
  let c0_i32_106 : BitVec 32 := 0#32
  let v124 : BitVec 1 := Scalar.cmpi .ne v123 c0_i32_106
  v124

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_103 : BitVec 32 := 8#32
  let v121 : BitVec 32 := Scalar.muli v2 c8_i32_103
  let c0_i32_938 : BitVec 32 := 0#32
  ![v121.toNat, 0]
def k0_dev21 : Nat :=
  let c0_i32_937 : BitVec 32 := 0#32
  let c9_i32_935 : BitVec 32 := 9#32
  let c1_i32_936 : BitVec 32 := 1#32
  let v1126 : BitVec 32 := Scalar.muli c9_i32_935 c1_i32_936
  let v1127 : BitVec 32 := Scalar.addi c0_i32_937 v1126
  v1127.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_108 : BitVec 32 := 10#32
  let v126 : BitVec 1 := Scalar.cmpi .ne v2 c10_i32_108
  let v127 : BitVec 32 := Scalar.extui v126
  let c0_i32_110 : BitVec 32 := 0#32
  let v128 : BitVec 1 := Scalar.cmpi .ne v127 c0_i32_110
  v128

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_107 : BitVec 32 := 8#32
  let v125 : BitVec 32 := Scalar.muli v2 c8_i32_107
  let c0_i32_938 : BitVec 32 := 0#32
  ![v125.toNat, 0]
def k0_dev22 : Nat :=
  let c0_i32_937 : BitVec 32 := 0#32
  let c10_i32_935 : BitVec 32 := 10#32
  let c1_i32_936 : BitVec 32 := 1#32
  let v1126 : BitVec 32 := Scalar.muli c10_i32_935 c1_i32_936
  let v1127 : BitVec 32 := Scalar.addi c0_i32_937 v1126
  v1127.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_112 : BitVec 32 := 11#32
  let v130 : BitVec 1 := Scalar.cmpi .ne v2 c11_i32_112
  let v131 : BitVec 32 := Scalar.extui v130
  let c0_i32_114 : BitVec 32 := 0#32
  let v132 : BitVec 1 := Scalar.cmpi .ne v131 c0_i32_114
  v132

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_111 : BitVec 32 := 8#32
  let v129 : BitVec 32 := Scalar.muli v2 c8_i32_111
  let c0_i32_938 : BitVec 32 := 0#32
  ![v129.toNat, 0]
def k0_dev23 : Nat :=
  let c0_i32_937 : BitVec 32 := 0#32
  let c11_i32_935 : BitVec 32 := 11#32
  let c1_i32_936 : BitVec 32 := 1#32
  let v1126 : BitVec 32 := Scalar.muli c11_i32_935 c1_i32_936
  let v1127 : BitVec 32 := Scalar.addi c0_i32_937 v1126
  v1127.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 1 := Scalar.cmpi .sge v2 c4_i32
  let c12_i32 : BitVec 32 := 12#32
  let v4 : BitVec 1 := Scalar.cmpi .slt v2 c12_i32
  let v5 : BitVec 1 := Scalar.andi v3 v4
  let v193 : BitVec 32 := Scalar.extui v5
  let c0_i32_190 : BitVec 32 := 0#32
  let v194 : BitVec 1 := Scalar.cmpi .ne v193 c0_i32_190
  v194

def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v6 : BitVec 32 := Scalar.subi v2 c4_i32_0
  let c0_i32 : BitVec 32 := 0#32
  let v7 : BitVec 32 := Scalar.maxsi v6 c0_i32
  let c8_i32 : BitVec 32 := 8#32
  let v8 : BitVec 32 := Scalar.muli v7 c8_i32
  let v1126 : Index := Scalar.indexCast v8
  let c0_935 : Index := 0#32
  ![v1126.toNat, 0]
def k0_off18 (d0 : Dev nD) (c1_i32_936 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1128 : BitVec 32 := Scalar.addi v2 c1_i32_936
  let c16_i32_937 : BitVec 32 := 16#32
  let v1129 : BitVec 32 := Scalar.remsi v1128 c16_i32_937
  ![v1129.toNat]
def k0_off19 (d0 : Dev nD) (c1_i32_936 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1128 : BitVec 32 := Scalar.addi v2 c1_i32_936
  let c16_i32_937 : BitVec 32 := 16#32
  let v1129 : BitVec 32 := Scalar.remsi v1128 c16_i32_937
  let c8_i32_939 : BitVec 32 := 8#32
  let v1131 : BitVec 32 := Scalar.muli v1129 c8_i32_939
  let c0_i32_943 : BitVec 32 := 0#32
  ![v1131.toNat, 0]
def k0_off20 (d0 : Dev nD) (c1_i32_936 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1128 : BitVec 32 := Scalar.addi v2 c1_i32_936
  let c16_i32_937 : BitVec 32 := 16#32
  let v1129 : BitVec 32 := Scalar.remsi v1128 c16_i32_937
  let c8_i32_945 : BitVec 32 := 8#32
  let v1138 : BitVec 32 := Scalar.muli v1129 c8_i32_945
  let v1139 : Index := Scalar.indexCast v1138
  let c0_946 : Index := 0#32
  ![v1139.toNat, 0]
def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_117 : BitVec 32 := 4#32
  let v135 : BitVec 32 := Scalar.subi v2 c4_i32_117
  let c0_i32_118 : BitVec 32 := 0#32
  let v136 : BitVec 32 := Scalar.maxsi v135 c0_i32_118
  ![v136.toNat]
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v6 : BitVec 32 := Scalar.subi v2 c4_i32_0
  let c0_i32 : BitVec 32 := 0#32
  let v7 : BitVec 32 := Scalar.maxsi v6 c0_i32
  let c8_i32 : BitVec 32 := 8#32
  let v8 : BitVec 32 := Scalar.muli v7 c8_i32
  let c0_i32_1104 : BitVec 32 := 0#32
  ![v8.toNat, 0]
def k0_dev24 (d0 : Dev nD) : Nat :=
  let c0_i32_1103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_115 : BitVec 32 := 1#32
  let v133 : BitVec 32 := Scalar.addi v2 c1_i32_115
  let c16_i32_116 : BitVec 32 := 16#32
  let v134 : BitVec 32 := Scalar.remsi v133 c16_i32_116
  let c1_i32_1102 : BitVec 32 := 1#32
  let v1342 : BitVec 32 := Scalar.muli v134 c1_i32_1102
  let v1343 : BitVec 32 := Scalar.addi c0_i32_1103 v1342
  v1343.toNat
def k0_dev25 (d0 : Dev nD) : Nat :=
  let c0_i32_1107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_119 : BitVec 32 := 2#32
  let v137 : BitVec 32 := Scalar.addi v2 c2_i32_119
  let c16_i32_120 : BitVec 32 := 16#32
  let v138 : BitVec 32 := Scalar.remsi v137 c16_i32_120
  let c1_i32_1106 : BitVec 32 := 1#32
  let v1350 : BitVec 32 := Scalar.muli v138 c1_i32_1106
  let v1351 : BitVec 32 := Scalar.addi c0_i32_1107 v1350
  v1351.toNat
def k0_dev26 (d0 : Dev nD) : Nat :=
  let c0_i32_1111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_123 : BitVec 32 := 3#32
  let v141 : BitVec 32 := Scalar.addi v2 c3_i32_123
  let c16_i32_124 : BitVec 32 := 16#32
  let v142 : BitVec 32 := Scalar.remsi v141 c16_i32_124
  let c1_i32_1110 : BitVec 32 := 1#32
  let v1358 : BitVec 32 := Scalar.muli v142 c1_i32_1110
  let v1359 : BitVec 32 := Scalar.addi c0_i32_1111 v1358
  v1359.toNat
def k0_dev27 (d0 : Dev nD) : Nat :=
  let c0_i32_1115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_127 : BitVec 32 := 4#32
  let v145 : BitVec 32 := Scalar.addi v2 c4_i32_127
  let c16_i32_128 : BitVec 32 := 16#32
  let v146 : BitVec 32 := Scalar.remsi v145 c16_i32_128
  let c1_i32_1114 : BitVec 32 := 1#32
  let v1366 : BitVec 32 := Scalar.muli v146 c1_i32_1114
  let v1367 : BitVec 32 := Scalar.addi c0_i32_1115 v1366
  v1367.toNat
def k0_dev28 (d0 : Dev nD) : Nat :=
  let c0_i32_1119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_131 : BitVec 32 := 5#32
  let v149 : BitVec 32 := Scalar.addi v2 c5_i32_131
  let c16_i32_132 : BitVec 32 := 16#32
  let v150 : BitVec 32 := Scalar.remsi v149 c16_i32_132
  let c1_i32_1118 : BitVec 32 := 1#32
  let v1374 : BitVec 32 := Scalar.muli v150 c1_i32_1118
  let v1375 : BitVec 32 := Scalar.addi c0_i32_1119 v1374
  v1375.toNat
def k0_dev29 (d0 : Dev nD) : Nat :=
  let c0_i32_1123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_135 : BitVec 32 := 6#32
  let v153 : BitVec 32 := Scalar.addi v2 c6_i32_135
  let c16_i32_136 : BitVec 32 := 16#32
  let v154 : BitVec 32 := Scalar.remsi v153 c16_i32_136
  let c1_i32_1122 : BitVec 32 := 1#32
  let v1382 : BitVec 32 := Scalar.muli v154 c1_i32_1122
  let v1383 : BitVec 32 := Scalar.addi c0_i32_1123 v1382
  v1383.toNat
def k0_dev30 (d0 : Dev nD) : Nat :=
  let c0_i32_1127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_139 : BitVec 32 := 7#32
  let v157 : BitVec 32 := Scalar.addi v2 c7_i32_139
  let c16_i32_140 : BitVec 32 := 16#32
  let v158 : BitVec 32 := Scalar.remsi v157 c16_i32_140
  let c1_i32_1126 : BitVec 32 := 1#32
  let v1390 : BitVec 32 := Scalar.muli v158 c1_i32_1126
  let v1391 : BitVec 32 := Scalar.addi c0_i32_1127 v1390
  v1391.toNat
def k0_dev31 (d0 : Dev nD) : Nat :=
  let c0_i32_1131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_143 : BitVec 32 := 8#32
  let v161 : BitVec 32 := Scalar.addi v2 c8_i32_143
  let c16_i32_144 : BitVec 32 := 16#32
  let v162 : BitVec 32 := Scalar.remsi v161 c16_i32_144
  let c1_i32_1130 : BitVec 32 := 1#32
  let v1398 : BitVec 32 := Scalar.muli v162 c1_i32_1130
  let v1399 : BitVec 32 := Scalar.addi c0_i32_1131 v1398
  v1399.toNat
def k0_dev32 (d0 : Dev nD) : Nat :=
  let c0_i32_1135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_147 : BitVec 32 := 9#32
  let v165 : BitVec 32 := Scalar.addi v2 c9_i32_147
  let c16_i32_148 : BitVec 32 := 16#32
  let v166 : BitVec 32 := Scalar.remsi v165 c16_i32_148
  let c1_i32_1134 : BitVec 32 := 1#32
  let v1406 : BitVec 32 := Scalar.muli v166 c1_i32_1134
  let v1407 : BitVec 32 := Scalar.addi c0_i32_1135 v1406
  v1407.toNat
def k0_dev33 (d0 : Dev nD) : Nat :=
  let c0_i32_1139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_151 : BitVec 32 := 10#32
  let v169 : BitVec 32 := Scalar.addi v2 c10_i32_151
  let c16_i32_152 : BitVec 32 := 16#32
  let v170 : BitVec 32 := Scalar.remsi v169 c16_i32_152
  let c1_i32_1138 : BitVec 32 := 1#32
  let v1414 : BitVec 32 := Scalar.muli v170 c1_i32_1138
  let v1415 : BitVec 32 := Scalar.addi c0_i32_1139 v1414
  v1415.toNat
def k0_dev34 (d0 : Dev nD) : Nat :=
  let c0_i32_1143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_155 : BitVec 32 := 11#32
  let v173 : BitVec 32 := Scalar.addi v2 c11_i32_155
  let c16_i32_156 : BitVec 32 := 16#32
  let v174 : BitVec 32 := Scalar.remsi v173 c16_i32_156
  let c1_i32_1142 : BitVec 32 := 1#32
  let v1422 : BitVec 32 := Scalar.muli v174 c1_i32_1142
  let v1423 : BitVec 32 := Scalar.addi c0_i32_1143 v1422
  v1423.toNat
def k0_dev35 (d0 : Dev nD) : Nat :=
  let c0_i32_1147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_159 : BitVec 32 := 12#32
  let v177 : BitVec 32 := Scalar.addi v2 c12_i32_159
  let c16_i32_160 : BitVec 32 := 16#32
  let v178 : BitVec 32 := Scalar.remsi v177 c16_i32_160
  let c1_i32_1146 : BitVec 32 := 1#32
  let v1430 : BitVec 32 := Scalar.muli v178 c1_i32_1146
  let v1431 : BitVec 32 := Scalar.addi c0_i32_1147 v1430
  v1431.toNat
def k0_dev36 (d0 : Dev nD) : Nat :=
  let c0_i32_1151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_163 : BitVec 32 := 13#32
  let v181 : BitVec 32 := Scalar.addi v2 c13_i32_163
  let c16_i32_164 : BitVec 32 := 16#32
  let v182 : BitVec 32 := Scalar.remsi v181 c16_i32_164
  let c1_i32_1150 : BitVec 32 := 1#32
  let v1438 : BitVec 32 := Scalar.muli v182 c1_i32_1150
  let v1439 : BitVec 32 := Scalar.addi c0_i32_1151 v1438
  v1439.toNat
def k0_dev37 (d0 : Dev nD) : Nat :=
  let c0_i32_1155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_167 : BitVec 32 := 14#32
  let v185 : BitVec 32 := Scalar.addi v2 c14_i32_167
  let c16_i32_168 : BitVec 32 := 16#32
  let v186 : BitVec 32 := Scalar.remsi v185 c16_i32_168
  let c1_i32_1154 : BitVec 32 := 1#32
  let v1446 : BitVec 32 := Scalar.muli v186 c1_i32_1154
  let v1447 : BitVec 32 := Scalar.addi c0_i32_1155 v1446
  v1447.toNat
def k0_dev38 (d0 : Dev nD) : Nat :=
  let c0_i32_1159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_171 : BitVec 32 := 15#32
  let v189 : BitVec 32 := Scalar.addi v2 c15_i32_171
  let c16_i32_172 : BitVec 32 := 16#32
  let v190 : BitVec 32 := Scalar.remsi v189 c16_i32_172
  let c1_i32_1158 : BitVec 32 := 1#32
  let v1454 : BitVec 32 := Scalar.muli v190 c1_i32_1158
  let v1455 : BitVec 32 := Scalar.addi c0_i32_1159 v1454
  v1455.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_223 : BitVec 32 := 4#32
  let v219 : BitVec 1 := Scalar.cmpi .ne v2 c4_i32_223
  let v220 : BitVec 32 := Scalar.extui v219
  let c0_i32_225 : BitVec 32 := 0#32
  let v221 : BitVec 1 := Scalar.cmpi .ne v220 c0_i32_225
  v221

def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_83 : BitVec 32 := 8#32
  let v101 : BitVec 32 := Scalar.muli v2 c8_i32_83
  let c0_i32_939 : BitVec 32 := 0#32
  ![v101.toNat, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_226 : BitVec 32 := 5#32
  let v222 : BitVec 1 := Scalar.cmpi .ne v2 c5_i32_226
  let v223 : BitVec 32 := Scalar.extui v222
  let c0_i32_228 : BitVec 32 := 0#32
  let v224 : BitVec 1 := Scalar.cmpi .ne v223 c0_i32_228
  v224

def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_87 : BitVec 32 := 8#32
  let v105 : BitVec 32 := Scalar.muli v2 c8_i32_87
  let c0_i32_939 : BitVec 32 := 0#32
  ![v105.toNat, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_229 : BitVec 32 := 6#32
  let v225 : BitVec 1 := Scalar.cmpi .ne v2 c6_i32_229
  let v226 : BitVec 32 := Scalar.extui v225
  let c0_i32_231 : BitVec 32 := 0#32
  let v227 : BitVec 1 := Scalar.cmpi .ne v226 c0_i32_231
  v227

def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_91 : BitVec 32 := 8#32
  let v109 : BitVec 32 := Scalar.muli v2 c8_i32_91
  let c0_i32_939 : BitVec 32 := 0#32
  ![v109.toNat, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_232 : BitVec 32 := 7#32
  let v228 : BitVec 1 := Scalar.cmpi .ne v2 c7_i32_232
  let v229 : BitVec 32 := Scalar.extui v228
  let c0_i32_234 : BitVec 32 := 0#32
  let v230 : BitVec 1 := Scalar.cmpi .ne v229 c0_i32_234
  v230

def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_95 : BitVec 32 := 8#32
  let v113 : BitVec 32 := Scalar.muli v2 c8_i32_95
  let c0_i32_938 : BitVec 32 := 0#32
  ![v113.toNat, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_235 : BitVec 32 := 8#32
  let v231 : BitVec 1 := Scalar.cmpi .ne v2 c8_i32_235
  let v232 : BitVec 32 := Scalar.extui v231
  let c0_i32_237 : BitVec 32 := 0#32
  let v233 : BitVec 1 := Scalar.cmpi .ne v232 c0_i32_237
  v233

def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_99 : BitVec 32 := 8#32
  let v117 : BitVec 32 := Scalar.muli v2 c8_i32_99
  let c0_i32_938 : BitVec 32 := 0#32
  ![v117.toNat, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_238 : BitVec 32 := 9#32
  let v234 : BitVec 1 := Scalar.cmpi .ne v2 c9_i32_238
  let v235 : BitVec 32 := Scalar.extui v234
  let c0_i32_240 : BitVec 32 := 0#32
  let v236 : BitVec 1 := Scalar.cmpi .ne v235 c0_i32_240
  v236

def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_103 : BitVec 32 := 8#32
  let v121 : BitVec 32 := Scalar.muli v2 c8_i32_103
  let c0_i32_938 : BitVec 32 := 0#32
  ![v121.toNat, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_241 : BitVec 32 := 10#32
  let v237 : BitVec 1 := Scalar.cmpi .ne v2 c10_i32_241
  let v238 : BitVec 32 := Scalar.extui v237
  let c0_i32_243 : BitVec 32 := 0#32
  let v239 : BitVec 1 := Scalar.cmpi .ne v238 c0_i32_243
  v239

def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_107 : BitVec 32 := 8#32
  let v125 : BitVec 32 := Scalar.muli v2 c8_i32_107
  let c0_i32_938 : BitVec 32 := 0#32
  ![v125.toNat, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_244 : BitVec 32 := 11#32
  let v240 : BitVec 1 := Scalar.cmpi .ne v2 c11_i32_244
  let v241 : BitVec 32 := Scalar.extui v240
  let c0_i32_246 : BitVec 32 := 0#32
  let v242 : BitVec 1 := Scalar.cmpi .ne v241 c0_i32_246
  v242

def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_111 : BitVec 32 := 8#32
  let v129 : BitVec 32 := Scalar.muli v2 c8_i32_111
  let c0_i32_938 : BitVec 32 := 0#32
  ![v129.toNat, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 1 := Scalar.cmpi .sge v2 c4_i32
  let c12_i32 : BitVec 32 := 12#32
  let v4 : BitVec 1 := Scalar.cmpi .slt v2 c12_i32
  let v5 : BitVec 1 := Scalar.andi v3 v4
  let v243 : BitVec 32 := Scalar.extui v5
  let c0_i32_262 : BitVec 32 := 0#32
  let v244 : BitVec 1 := Scalar.cmpi .ne v243 c0_i32_262
  v244

def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v6 : BitVec 32 := Scalar.subi v2 c4_i32_0
  let c0_i32 : BitVec 32 := 0#32
  let v7 : BitVec 32 := Scalar.maxsi v6 c0_i32
  let c8_i32 : BitVec 32 := 8#32
  let v8 : BitVec 32 := Scalar.muli v7 c8_i32
  let c0_i32_936 : BitVec 32 := 0#32
  ![v8.toNat, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_275 : BitVec 32 := 4#32
  let v258 : BitVec 1 := Scalar.cmpi .ne v2 c4_i32_275
  let v259 : BitVec 32 := Scalar.extui v258
  let c0_i32_277 : BitVec 32 := 0#32
  let v260 : BitVec 1 := Scalar.cmpi .ne v259 c0_i32_277
  v260

def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_274 : BitVec 32 := 8#32
  let v257 : BitVec 32 := Scalar.muli v2 c8_i32_274
  let c0_i32_938 : BitVec 32 := 0#32
  ![v257.toNat, 0]
def k0_dev39 : Nat :=
  let c0_i32_937 : BitVec 32 := 0#32
  let c4_i32_935 : BitVec 32 := 4#32
  let c1_i32_936 : BitVec 32 := 1#32
  let v1126 : BitVec 32 := Scalar.muli c4_i32_935 c1_i32_936
  let v1127 : BitVec 32 := Scalar.addi c0_i32_937 v1126
  v1127.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_279 : BitVec 32 := 5#32
  let v262 : BitVec 1 := Scalar.cmpi .ne v2 c5_i32_279
  let v263 : BitVec 32 := Scalar.extui v262
  let c0_i32_281 : BitVec 32 := 0#32
  let v264 : BitVec 1 := Scalar.cmpi .ne v263 c0_i32_281
  v264

def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_278 : BitVec 32 := 8#32
  let v261 : BitVec 32 := Scalar.muli v2 c8_i32_278
  let c0_i32_938 : BitVec 32 := 0#32
  ![v261.toNat, 0]
def k0_dev40 : Nat :=
  let c0_i32_937 : BitVec 32 := 0#32
  let c5_i32_935 : BitVec 32 := 5#32
  let c1_i32_936 : BitVec 32 := 1#32
  let v1126 : BitVec 32 := Scalar.muli c5_i32_935 c1_i32_936
  let v1127 : BitVec 32 := Scalar.addi c0_i32_937 v1126
  v1127.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_283 : BitVec 32 := 6#32
  let v266 : BitVec 1 := Scalar.cmpi .ne v2 c6_i32_283
  let v267 : BitVec 32 := Scalar.extui v266
  let c0_i32_285 : BitVec 32 := 0#32
  let v268 : BitVec 1 := Scalar.cmpi .ne v267 c0_i32_285
  v268

def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_282 : BitVec 32 := 8#32
  let v265 : BitVec 32 := Scalar.muli v2 c8_i32_282
  let c0_i32_938 : BitVec 32 := 0#32
  ![v265.toNat, 0]
def k0_dev41 : Nat :=
  let c0_i32_937 : BitVec 32 := 0#32
  let c6_i32_935 : BitVec 32 := 6#32
  let c1_i32_936 : BitVec 32 := 1#32
  let v1126 : BitVec 32 := Scalar.muli c6_i32_935 c1_i32_936
  let v1127 : BitVec 32 := Scalar.addi c0_i32_937 v1126
  v1127.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_287 : BitVec 32 := 7#32
  let v270 : BitVec 1 := Scalar.cmpi .ne v2 c7_i32_287
  let v271 : BitVec 32 := Scalar.extui v270
  let c0_i32_289 : BitVec 32 := 0#32
  let v272 : BitVec 1 := Scalar.cmpi .ne v271 c0_i32_289
  v272

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_286 : BitVec 32 := 8#32
  let v269 : BitVec 32 := Scalar.muli v2 c8_i32_286
  let c0_i32_938 : BitVec 32 := 0#32
  ![v269.toNat, 0]
def k0_dev42 : Nat :=
  let c0_i32_937 : BitVec 32 := 0#32
  let c7_i32_935 : BitVec 32 := 7#32
  let c1_i32_936 : BitVec 32 := 1#32
  let v1126 : BitVec 32 := Scalar.muli c7_i32_935 c1_i32_936
  let v1127 : BitVec 32 := Scalar.addi c0_i32_937 v1126
  v1127.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_291 : BitVec 32 := 8#32
  let v274 : BitVec 1 := Scalar.cmpi .ne v2 c8_i32_291
  let v275 : BitVec 32 := Scalar.extui v274
  let c0_i32_293 : BitVec 32 := 0#32
  let v276 : BitVec 1 := Scalar.cmpi .ne v275 c0_i32_293
  v276

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_290 : BitVec 32 := 8#32
  let v273 : BitVec 32 := Scalar.muli v2 c8_i32_290
  let c0_i32_938 : BitVec 32 := 0#32
  ![v273.toNat, 0]
def k0_dev43 : Nat :=
  let c0_i32_937 : BitVec 32 := 0#32
  let c8_i32_935 : BitVec 32 := 8#32
  let c1_i32_936 : BitVec 32 := 1#32
  let v1126 : BitVec 32 := Scalar.muli c8_i32_935 c1_i32_936
  let v1127 : BitVec 32 := Scalar.addi c0_i32_937 v1126
  v1127.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_295 : BitVec 32 := 9#32
  let v278 : BitVec 1 := Scalar.cmpi .ne v2 c9_i32_295
  let v279 : BitVec 32 := Scalar.extui v278
  let c0_i32_297 : BitVec 32 := 0#32
  let v280 : BitVec 1 := Scalar.cmpi .ne v279 c0_i32_297
  v280

def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_294 : BitVec 32 := 8#32
  let v277 : BitVec 32 := Scalar.muli v2 c8_i32_294
  let c0_i32_938 : BitVec 32 := 0#32
  ![v277.toNat, 0]
def k0_dev44 : Nat :=
  let c0_i32_937 : BitVec 32 := 0#32
  let c9_i32_935 : BitVec 32 := 9#32
  let c1_i32_936 : BitVec 32 := 1#32
  let v1126 : BitVec 32 := Scalar.muli c9_i32_935 c1_i32_936
  let v1127 : BitVec 32 := Scalar.addi c0_i32_937 v1126
  v1127.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_299 : BitVec 32 := 10#32
  let v282 : BitVec 1 := Scalar.cmpi .ne v2 c10_i32_299
  let v283 : BitVec 32 := Scalar.extui v282
  let c0_i32_301 : BitVec 32 := 0#32
  let v284 : BitVec 1 := Scalar.cmpi .ne v283 c0_i32_301
  v284

def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_298 : BitVec 32 := 8#32
  let v281 : BitVec 32 := Scalar.muli v2 c8_i32_298
  let c0_i32_938 : BitVec 32 := 0#32
  ![v281.toNat, 0]
def k0_dev45 : Nat :=
  let c0_i32_937 : BitVec 32 := 0#32
  let c10_i32_935 : BitVec 32 := 10#32
  let c1_i32_936 : BitVec 32 := 1#32
  let v1126 : BitVec 32 := Scalar.muli c10_i32_935 c1_i32_936
  let v1127 : BitVec 32 := Scalar.addi c0_i32_937 v1126
  v1127.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_303 : BitVec 32 := 11#32
  let v286 : BitVec 1 := Scalar.cmpi .ne v2 c11_i32_303
  let v287 : BitVec 32 := Scalar.extui v286
  let c0_i32_305 : BitVec 32 := 0#32
  let v288 : BitVec 1 := Scalar.cmpi .ne v287 c0_i32_305
  v288

def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_302 : BitVec 32 := 8#32
  let v285 : BitVec 32 := Scalar.muli v2 c8_i32_302
  let c0_i32_938 : BitVec 32 := 0#32
  ![v285.toNat, 0]
def k0_dev46 : Nat :=
  let c0_i32_937 : BitVec 32 := 0#32
  let c11_i32_935 : BitVec 32 := 11#32
  let c1_i32_936 : BitVec 32 := 1#32
  let v1126 : BitVec 32 := Scalar.muli c11_i32_935 c1_i32_936
  let v1127 : BitVec 32 := Scalar.addi c0_i32_937 v1126
  v1127.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 1 := Scalar.cmpi .sge v2 c4_i32
  let c12_i32 : BitVec 32 := 12#32
  let v4 : BitVec 1 := Scalar.cmpi .slt v2 c12_i32
  let v5 : BitVec 1 := Scalar.andi v3 v4
  let v349 : BitVec 32 := Scalar.extui v5
  let c0_i32_381 : BitVec 32 := 0#32
  let v350 : BitVec 1 := Scalar.cmpi .ne v349 c0_i32_381
  v350

def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v6 : BitVec 32 := Scalar.subi v2 c4_i32_0
  let c0_i32 : BitVec 32 := 0#32
  let v7 : BitVec 32 := Scalar.maxsi v6 c0_i32
  let c8_i32 : BitVec 32 := 8#32
  let v8 : BitVec 32 := Scalar.muli v7 c8_i32
  let v1126 : Index := Scalar.indexCast v8
  let c0_935 : Index := 0#32
  ![v1126.toNat, 0]
def k0_off49 (d0 : Dev nD) (c1_i32_936 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1128 : BitVec 32 := Scalar.addi v2 c1_i32_936
  let c16_i32_937 : BitVec 32 := 16#32
  let v1129 : BitVec 32 := Scalar.remsi v1128 c16_i32_937
  ![v1129.toNat]
def k0_off50 (d0 : Dev nD) (c1_i32_936 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1128 : BitVec 32 := Scalar.addi v2 c1_i32_936
  let c16_i32_937 : BitVec 32 := 16#32
  let v1129 : BitVec 32 := Scalar.remsi v1128 c16_i32_937
  let c8_i32_939 : BitVec 32 := 8#32
  let v1131 : BitVec 32 := Scalar.muli v1129 c8_i32_939
  let c0_i32_943 : BitVec 32 := 0#32
  ![v1131.toNat, 0]
def k0_off51 (d0 : Dev nD) (c1_i32_936 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1128 : BitVec 32 := Scalar.addi v2 c1_i32_936
  let c16_i32_937 : BitVec 32 := 16#32
  let v1129 : BitVec 32 := Scalar.remsi v1128 c16_i32_937
  let c8_i32_945 : BitVec 32 := 8#32
  let v1138 : BitVec 32 := Scalar.muli v1129 c8_i32_945
  let v1139 : Index := Scalar.indexCast v1138
  let c0_946 : Index := 0#32
  ![v1139.toNat, 0]
def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_308 : BitVec 32 := 4#32
  let v291 : BitVec 32 := Scalar.subi v2 c4_i32_308
  let c0_i32_309 : BitVec 32 := 0#32
  let v292 : BitVec 32 := Scalar.maxsi v291 c0_i32_309
  ![v292.toNat]
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v6 : BitVec 32 := Scalar.subi v2 c4_i32_0
  let c0_i32 : BitVec 32 := 0#32
  let v7 : BitVec 32 := Scalar.maxsi v6 c0_i32
  let c8_i32 : BitVec 32 := 8#32
  let v8 : BitVec 32 := Scalar.muli v7 c8_i32
  let c0_i32_1104 : BitVec 32 := 0#32
  ![v8.toNat, 0]
def k0_dev47 (d0 : Dev nD) : Nat :=
  let c0_i32_1103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_306 : BitVec 32 := 1#32
  let v289 : BitVec 32 := Scalar.addi v2 c1_i32_306
  let c16_i32_307 : BitVec 32 := 16#32
  let v290 : BitVec 32 := Scalar.remsi v289 c16_i32_307
  let c1_i32_1102 : BitVec 32 := 1#32
  let v1342 : BitVec 32 := Scalar.muli v290 c1_i32_1102
  let v1343 : BitVec 32 := Scalar.addi c0_i32_1103 v1342
  v1343.toNat
def k0_dev48 (d0 : Dev nD) : Nat :=
  let c0_i32_1107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_310 : BitVec 32 := 2#32
  let v293 : BitVec 32 := Scalar.addi v2 c2_i32_310
  let c16_i32_311 : BitVec 32 := 16#32
  let v294 : BitVec 32 := Scalar.remsi v293 c16_i32_311
  let c1_i32_1106 : BitVec 32 := 1#32
  let v1350 : BitVec 32 := Scalar.muli v294 c1_i32_1106
  let v1351 : BitVec 32 := Scalar.addi c0_i32_1107 v1350
  v1351.toNat
def k0_dev49 (d0 : Dev nD) : Nat :=
  let c0_i32_1111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_314 : BitVec 32 := 3#32
  let v297 : BitVec 32 := Scalar.addi v2 c3_i32_314
  let c16_i32_315 : BitVec 32 := 16#32
  let v298 : BitVec 32 := Scalar.remsi v297 c16_i32_315
  let c1_i32_1110 : BitVec 32 := 1#32
  let v1358 : BitVec 32 := Scalar.muli v298 c1_i32_1110
  let v1359 : BitVec 32 := Scalar.addi c0_i32_1111 v1358
  v1359.toNat
def k0_dev50 (d0 : Dev nD) : Nat :=
  let c0_i32_1115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_318 : BitVec 32 := 4#32
  let v301 : BitVec 32 := Scalar.addi v2 c4_i32_318
  let c16_i32_319 : BitVec 32 := 16#32
  let v302 : BitVec 32 := Scalar.remsi v301 c16_i32_319
  let c1_i32_1114 : BitVec 32 := 1#32
  let v1366 : BitVec 32 := Scalar.muli v302 c1_i32_1114
  let v1367 : BitVec 32 := Scalar.addi c0_i32_1115 v1366
  v1367.toNat
def k0_dev51 (d0 : Dev nD) : Nat :=
  let c0_i32_1119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_322 : BitVec 32 := 5#32
  let v305 : BitVec 32 := Scalar.addi v2 c5_i32_322
  let c16_i32_323 : BitVec 32 := 16#32
  let v306 : BitVec 32 := Scalar.remsi v305 c16_i32_323
  let c1_i32_1118 : BitVec 32 := 1#32
  let v1374 : BitVec 32 := Scalar.muli v306 c1_i32_1118
  let v1375 : BitVec 32 := Scalar.addi c0_i32_1119 v1374
  v1375.toNat
def k0_dev52 (d0 : Dev nD) : Nat :=
  let c0_i32_1123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_326 : BitVec 32 := 6#32
  let v309 : BitVec 32 := Scalar.addi v2 c6_i32_326
  let c16_i32_327 : BitVec 32 := 16#32
  let v310 : BitVec 32 := Scalar.remsi v309 c16_i32_327
  let c1_i32_1122 : BitVec 32 := 1#32
  let v1382 : BitVec 32 := Scalar.muli v310 c1_i32_1122
  let v1383 : BitVec 32 := Scalar.addi c0_i32_1123 v1382
  v1383.toNat
def k0_dev53 (d0 : Dev nD) : Nat :=
  let c0_i32_1127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_330 : BitVec 32 := 7#32
  let v313 : BitVec 32 := Scalar.addi v2 c7_i32_330
  let c16_i32_331 : BitVec 32 := 16#32
  let v314 : BitVec 32 := Scalar.remsi v313 c16_i32_331
  let c1_i32_1126 : BitVec 32 := 1#32
  let v1390 : BitVec 32 := Scalar.muli v314 c1_i32_1126
  let v1391 : BitVec 32 := Scalar.addi c0_i32_1127 v1390
  v1391.toNat
def k0_dev54 (d0 : Dev nD) : Nat :=
  let c0_i32_1131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_334 : BitVec 32 := 8#32
  let v317 : BitVec 32 := Scalar.addi v2 c8_i32_334
  let c16_i32_335 : BitVec 32 := 16#32
  let v318 : BitVec 32 := Scalar.remsi v317 c16_i32_335
  let c1_i32_1130 : BitVec 32 := 1#32
  let v1398 : BitVec 32 := Scalar.muli v318 c1_i32_1130
  let v1399 : BitVec 32 := Scalar.addi c0_i32_1131 v1398
  v1399.toNat
def k0_dev55 (d0 : Dev nD) : Nat :=
  let c0_i32_1135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_338 : BitVec 32 := 9#32
  let v321 : BitVec 32 := Scalar.addi v2 c9_i32_338
  let c16_i32_339 : BitVec 32 := 16#32
  let v322 : BitVec 32 := Scalar.remsi v321 c16_i32_339
  let c1_i32_1134 : BitVec 32 := 1#32
  let v1406 : BitVec 32 := Scalar.muli v322 c1_i32_1134
  let v1407 : BitVec 32 := Scalar.addi c0_i32_1135 v1406
  v1407.toNat
def k0_dev56 (d0 : Dev nD) : Nat :=
  let c0_i32_1139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_342 : BitVec 32 := 10#32
  let v325 : BitVec 32 := Scalar.addi v2 c10_i32_342
  let c16_i32_343 : BitVec 32 := 16#32
  let v326 : BitVec 32 := Scalar.remsi v325 c16_i32_343
  let c1_i32_1138 : BitVec 32 := 1#32
  let v1414 : BitVec 32 := Scalar.muli v326 c1_i32_1138
  let v1415 : BitVec 32 := Scalar.addi c0_i32_1139 v1414
  v1415.toNat
def k0_dev57 (d0 : Dev nD) : Nat :=
  let c0_i32_1143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_346 : BitVec 32 := 11#32
  let v329 : BitVec 32 := Scalar.addi v2 c11_i32_346
  let c16_i32_347 : BitVec 32 := 16#32
  let v330 : BitVec 32 := Scalar.remsi v329 c16_i32_347
  let c1_i32_1142 : BitVec 32 := 1#32
  let v1422 : BitVec 32 := Scalar.muli v330 c1_i32_1142
  let v1423 : BitVec 32 := Scalar.addi c0_i32_1143 v1422
  v1423.toNat
def k0_dev58 (d0 : Dev nD) : Nat :=
  let c0_i32_1147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_350 : BitVec 32 := 12#32
  let v333 : BitVec 32 := Scalar.addi v2 c12_i32_350
  let c16_i32_351 : BitVec 32 := 16#32
  let v334 : BitVec 32 := Scalar.remsi v333 c16_i32_351
  let c1_i32_1146 : BitVec 32 := 1#32
  let v1430 : BitVec 32 := Scalar.muli v334 c1_i32_1146
  let v1431 : BitVec 32 := Scalar.addi c0_i32_1147 v1430
  v1431.toNat
def k0_dev59 (d0 : Dev nD) : Nat :=
  let c0_i32_1151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_354 : BitVec 32 := 13#32
  let v337 : BitVec 32 := Scalar.addi v2 c13_i32_354
  let c16_i32_355 : BitVec 32 := 16#32
  let v338 : BitVec 32 := Scalar.remsi v337 c16_i32_355
  let c1_i32_1150 : BitVec 32 := 1#32
  let v1438 : BitVec 32 := Scalar.muli v338 c1_i32_1150
  let v1439 : BitVec 32 := Scalar.addi c0_i32_1151 v1438
  v1439.toNat
def k0_dev60 (d0 : Dev nD) : Nat :=
  let c0_i32_1155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_358 : BitVec 32 := 14#32
  let v341 : BitVec 32 := Scalar.addi v2 c14_i32_358
  let c16_i32_359 : BitVec 32 := 16#32
  let v342 : BitVec 32 := Scalar.remsi v341 c16_i32_359
  let c1_i32_1154 : BitVec 32 := 1#32
  let v1446 : BitVec 32 := Scalar.muli v342 c1_i32_1154
  let v1447 : BitVec 32 := Scalar.addi c0_i32_1155 v1446
  v1447.toNat
def k0_dev61 (d0 : Dev nD) : Nat :=
  let c0_i32_1159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_362 : BitVec 32 := 15#32
  let v345 : BitVec 32 := Scalar.addi v2 c15_i32_362
  let c16_i32_363 : BitVec 32 := 16#32
  let v346 : BitVec 32 := Scalar.remsi v345 c16_i32_363
  let c1_i32_1158 : BitVec 32 := 1#32
  let v1454 : BitVec 32 := Scalar.muli v346 c1_i32_1158
  let v1455 : BitVec 32 := Scalar.addi c0_i32_1159 v1454
  v1455.toNat
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_414 : BitVec 32 := 4#32
  let v375 : BitVec 1 := Scalar.cmpi .ne v2 c4_i32_414
  let v376 : BitVec 32 := Scalar.extui v375
  let c0_i32_416 : BitVec 32 := 0#32
  let v377 : BitVec 1 := Scalar.cmpi .ne v376 c0_i32_416
  v377

def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_274 : BitVec 32 := 8#32
  let v257 : BitVec 32 := Scalar.muli v2 c8_i32_274
  let c0_i32_939 : BitVec 32 := 0#32
  ![v257.toNat, 0]
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_417 : BitVec 32 := 5#32
  let v378 : BitVec 1 := Scalar.cmpi .ne v2 c5_i32_417
  let v379 : BitVec 32 := Scalar.extui v378
  let c0_i32_419 : BitVec 32 := 0#32
  let v380 : BitVec 1 := Scalar.cmpi .ne v379 c0_i32_419
  v380

def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_278 : BitVec 32 := 8#32
  let v261 : BitVec 32 := Scalar.muli v2 c8_i32_278
  let c0_i32_939 : BitVec 32 := 0#32
  ![v261.toNat, 0]
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_420 : BitVec 32 := 6#32
  let v381 : BitVec 1 := Scalar.cmpi .ne v2 c6_i32_420
  let v382 : BitVec 32 := Scalar.extui v381
  let c0_i32_422 : BitVec 32 := 0#32
  let v383 : BitVec 1 := Scalar.cmpi .ne v382 c0_i32_422
  v383

def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_282 : BitVec 32 := 8#32
  let v265 : BitVec 32 := Scalar.muli v2 c8_i32_282
  let c0_i32_939 : BitVec 32 := 0#32
  ![v265.toNat, 0]
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_423 : BitVec 32 := 7#32
  let v384 : BitVec 1 := Scalar.cmpi .ne v2 c7_i32_423
  let v385 : BitVec 32 := Scalar.extui v384
  let c0_i32_425 : BitVec 32 := 0#32
  let v386 : BitVec 1 := Scalar.cmpi .ne v385 c0_i32_425
  v386

def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_286 : BitVec 32 := 8#32
  let v269 : BitVec 32 := Scalar.muli v2 c8_i32_286
  let c0_i32_938 : BitVec 32 := 0#32
  ![v269.toNat, 0]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_426 : BitVec 32 := 8#32
  let v387 : BitVec 1 := Scalar.cmpi .ne v2 c8_i32_426
  let v388 : BitVec 32 := Scalar.extui v387
  let c0_i32_428 : BitVec 32 := 0#32
  let v389 : BitVec 1 := Scalar.cmpi .ne v388 c0_i32_428
  v389

def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_290 : BitVec 32 := 8#32
  let v273 : BitVec 32 := Scalar.muli v2 c8_i32_290
  let c0_i32_938 : BitVec 32 := 0#32
  ![v273.toNat, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_429 : BitVec 32 := 9#32
  let v390 : BitVec 1 := Scalar.cmpi .ne v2 c9_i32_429
  let v391 : BitVec 32 := Scalar.extui v390
  let c0_i32_431 : BitVec 32 := 0#32
  let v392 : BitVec 1 := Scalar.cmpi .ne v391 c0_i32_431
  v392

def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_294 : BitVec 32 := 8#32
  let v277 : BitVec 32 := Scalar.muli v2 c8_i32_294
  let c0_i32_938 : BitVec 32 := 0#32
  ![v277.toNat, 0]
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_432 : BitVec 32 := 10#32
  let v393 : BitVec 1 := Scalar.cmpi .ne v2 c10_i32_432
  let v394 : BitVec 32 := Scalar.extui v393
  let c0_i32_434 : BitVec 32 := 0#32
  let v395 : BitVec 1 := Scalar.cmpi .ne v394 c0_i32_434
  v395

def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_298 : BitVec 32 := 8#32
  let v281 : BitVec 32 := Scalar.muli v2 c8_i32_298
  let c0_i32_938 : BitVec 32 := 0#32
  ![v281.toNat, 0]
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_435 : BitVec 32 := 11#32
  let v396 : BitVec 1 := Scalar.cmpi .ne v2 c11_i32_435
  let v397 : BitVec 32 := Scalar.extui v396
  let c0_i32_437 : BitVec 32 := 0#32
  let v398 : BitVec 1 := Scalar.cmpi .ne v397 c0_i32_437
  v398

def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_302 : BitVec 32 := 8#32
  let v285 : BitVec 32 := Scalar.muli v2 c8_i32_302
  let c0_i32_938 : BitVec 32 := 0#32
  ![v285.toNat, 0]
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 1 := Scalar.cmpi .sge v2 c4_i32
  let c12_i32 : BitVec 32 := 12#32
  let v4 : BitVec 1 := Scalar.cmpi .slt v2 c12_i32
  let v5 : BitVec 1 := Scalar.andi v3 v4
  let v399 : BitVec 32 := Scalar.extui v5
  let c0_i32_453 : BitVec 32 := 0#32
  let v400 : BitVec 1 := Scalar.cmpi .ne v399 c0_i32_453
  v400

def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v6 : BitVec 32 := Scalar.subi v2 c4_i32_0
  let c0_i32 : BitVec 32 := 0#32
  let v7 : BitVec 32 := Scalar.maxsi v6 c0_i32
  let c8_i32 : BitVec 32 := 8#32
  let v8 : BitVec 32 := Scalar.muli v7 c8_i32
  let c0_i32_936 : BitVec 32 := 0#32
  ![v8.toNat, 0]
def k0_off63 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_475 : BitVec 32 := 8#32
  let v433 : BitVec 32 := Scalar.muli v2 c8_i32_475
  let c0_i32_479 : BitVec 32 := 0#32
  ![v433.toNat, 0]
def k0_off65 (d0 : Dev nD) (c1_i32_465 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v413 : BitVec 32 := Scalar.addi v2 c1_i32_465
  let c16_i32_466 : BitVec 32 := 16#32
  let v414 : BitVec 32 := Scalar.remsi v413 c16_i32_466
  let c0_i32_468 : BitVec 32 := 0#32
  let v416 : BitVec 1 := Scalar.cmpi .sgt v414 c0_i32_468
  let v417 : BitVec 32 := Scalar.extui v416
  let c0_i32_469 : BitVec 32 := 0#32
  let v418 : BitVec 1 := Scalar.cmpi .slt v414 c0_i32_469
  let v419 : BitVec 32 := Scalar.extui v418
  let v420 : BitVec 32 := Scalar.subi v417 v419
  let c2_i32_467 : BitVec 32 := 2#32
  let c0_i32_470 : BitVec 32 := 0#32
  let v421 : BitVec 1 := Scalar.cmpi .sgt c2_i32_467 c0_i32_470
  let v422 : BitVec 32 := Scalar.extui v421
  let c0_i32_471 : BitVec 32 := 0#32
  let v423 : BitVec 1 := Scalar.cmpi .slt c2_i32_467 c0_i32_471
  let v424 : BitVec 32 := Scalar.extui v423
  let v425 : BitVec 32 := Scalar.subi v422 v424
  let v426 : BitVec 1 := Scalar.cmpi .ne v420 v425
  let v427 : BitVec 32 := Scalar.remsi v414 c2_i32_467
  let c0_i32_472 : BitVec 32 := 0#32
  let v428 : BitVec 1 := Scalar.cmpi .ne v427 c0_i32_472
  let v429 : BitVec 1 := Scalar.andi v426 v428
  let v415 : BitVec 32 := Scalar.divsi v414 c2_i32_467
  let c1_i32_473 : BitVec 32 := 1#32
  let v430 : BitVec 32 := Scalar.subi v415 c1_i32_473
  let v431 : BitVec 32 := Scalar.select v429 v430 v415
  let c8_i32_474 : BitVec 32 := 8#32
  let v432 : BitVec 32 := Scalar.muli v431 c8_i32_474
  let c0_i32_480 : BitVec 32 := 0#32
  ![v432.toNat, 0]
def k0_dev62 (d0 : Dev nD) : Nat :=
  let c0_i32_478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_465 : BitVec 32 := 1#32
  let v413 : BitVec 32 := Scalar.addi v2 c1_i32_465
  let c16_i32_466 : BitVec 32 := 16#32
  let v414 : BitVec 32 := Scalar.remsi v413 c16_i32_466
  let c1_i32_477 : BitVec 32 := 1#32
  let v434 : BitVec 32 := Scalar.muli v414 c1_i32_477
  let v435 : BitVec 32 := Scalar.addi c0_i32_478 v434
  v435.toNat
def k0_dev63 (d0 : Dev nD) : Nat :=
  let c0_i32_494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_481 : BitVec 32 := 2#32
  let v442 : BitVec 32 := Scalar.addi v2 c2_i32_481
  let c16_i32_482 : BitVec 32 := 16#32
  let v443 : BitVec 32 := Scalar.remsi v442 c16_i32_482
  let c1_i32_493 : BitVec 32 := 1#32
  let v463 : BitVec 32 := Scalar.muli v443 c1_i32_493
  let v464 : BitVec 32 := Scalar.addi c0_i32_494 v463
  v464.toNat
def k0_dev64 (d0 : Dev nD) : Nat :=
  let c0_i32_510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_497 : BitVec 32 := 3#32
  let v471 : BitVec 32 := Scalar.addi v2 c3_i32_497
  let c16_i32_498 : BitVec 32 := 16#32
  let v472 : BitVec 32 := Scalar.remsi v471 c16_i32_498
  let c1_i32_509 : BitVec 32 := 1#32
  let v492 : BitVec 32 := Scalar.muli v472 c1_i32_509
  let v493 : BitVec 32 := Scalar.addi c0_i32_510 v492
  v493.toNat
def k0_dev65 (d0 : Dev nD) : Nat :=
  let c0_i32_526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_513 : BitVec 32 := 4#32
  let v500 : BitVec 32 := Scalar.addi v2 c4_i32_513
  let c16_i32_514 : BitVec 32 := 16#32
  let v501 : BitVec 32 := Scalar.remsi v500 c16_i32_514
  let c1_i32_525 : BitVec 32 := 1#32
  let v521 : BitVec 32 := Scalar.muli v501 c1_i32_525
  let v522 : BitVec 32 := Scalar.addi c0_i32_526 v521
  v522.toNat
def k0_dev66 (d0 : Dev nD) : Nat :=
  let c0_i32_542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_529 : BitVec 32 := 5#32
  let v529 : BitVec 32 := Scalar.addi v2 c5_i32_529
  let c16_i32_530 : BitVec 32 := 16#32
  let v530 : BitVec 32 := Scalar.remsi v529 c16_i32_530
  let c1_i32_541 : BitVec 32 := 1#32
  let v550 : BitVec 32 := Scalar.muli v530 c1_i32_541
  let v551 : BitVec 32 := Scalar.addi c0_i32_542 v550
  v551.toNat
def k0_dev67 (d0 : Dev nD) : Nat :=
  let c0_i32_558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_545 : BitVec 32 := 6#32
  let v558 : BitVec 32 := Scalar.addi v2 c6_i32_545
  let c16_i32_546 : BitVec 32 := 16#32
  let v559 : BitVec 32 := Scalar.remsi v558 c16_i32_546
  let c1_i32_557 : BitVec 32 := 1#32
  let v579 : BitVec 32 := Scalar.muli v559 c1_i32_557
  let v580 : BitVec 32 := Scalar.addi c0_i32_558 v579
  v580.toNat
def k0_dev68 (d0 : Dev nD) : Nat :=
  let c0_i32_574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_561 : BitVec 32 := 7#32
  let v587 : BitVec 32 := Scalar.addi v2 c7_i32_561
  let c16_i32_562 : BitVec 32 := 16#32
  let v588 : BitVec 32 := Scalar.remsi v587 c16_i32_562
  let c1_i32_573 : BitVec 32 := 1#32
  let v608 : BitVec 32 := Scalar.muli v588 c1_i32_573
  let v609 : BitVec 32 := Scalar.addi c0_i32_574 v608
  v609.toNat
def k0_dev69 (d0 : Dev nD) : Nat :=
  let c0_i32_590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_577 : BitVec 32 := 8#32
  let v616 : BitVec 32 := Scalar.addi v2 c8_i32_577
  let c16_i32_578 : BitVec 32 := 16#32
  let v617 : BitVec 32 := Scalar.remsi v616 c16_i32_578
  let c1_i32_589 : BitVec 32 := 1#32
  let v637 : BitVec 32 := Scalar.muli v617 c1_i32_589
  let v638 : BitVec 32 := Scalar.addi c0_i32_590 v637
  v638.toNat
def k0_dev70 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_593 : BitVec 32 := 9#32
  let v645 : BitVec 32 := Scalar.addi v2 c9_i32_593
  let c16_i32_594 : BitVec 32 := 16#32
  let v646 : BitVec 32 := Scalar.remsi v645 c16_i32_594
  let c1_i32_605 : BitVec 32 := 1#32
  let v666 : BitVec 32 := Scalar.muli v646 c1_i32_605
  let v667 : BitVec 32 := Scalar.addi c0_i32_606 v666
  v667.toNat
def k0_dev71 (d0 : Dev nD) : Nat :=
  let c0_i32_622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_609 : BitVec 32 := 10#32
  let v674 : BitVec 32 := Scalar.addi v2 c10_i32_609
  let c16_i32_610 : BitVec 32 := 16#32
  let v675 : BitVec 32 := Scalar.remsi v674 c16_i32_610
  let c1_i32_621 : BitVec 32 := 1#32
  let v695 : BitVec 32 := Scalar.muli v675 c1_i32_621
  let v696 : BitVec 32 := Scalar.addi c0_i32_622 v695
  v696.toNat
def k0_dev72 (d0 : Dev nD) : Nat :=
  let c0_i32_638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_625 : BitVec 32 := 11#32
  let v703 : BitVec 32 := Scalar.addi v2 c11_i32_625
  let c16_i32_626 : BitVec 32 := 16#32
  let v704 : BitVec 32 := Scalar.remsi v703 c16_i32_626
  let c1_i32_637 : BitVec 32 := 1#32
  let v724 : BitVec 32 := Scalar.muli v704 c1_i32_637
  let v725 : BitVec 32 := Scalar.addi c0_i32_638 v724
  v725.toNat
def k0_dev73 (d0 : Dev nD) : Nat :=
  let c0_i32_654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_641 : BitVec 32 := 12#32
  let v732 : BitVec 32 := Scalar.addi v2 c12_i32_641
  let c16_i32_642 : BitVec 32 := 16#32
  let v733 : BitVec 32 := Scalar.remsi v732 c16_i32_642
  let c1_i32_653 : BitVec 32 := 1#32
  let v753 : BitVec 32 := Scalar.muli v733 c1_i32_653
  let v754 : BitVec 32 := Scalar.addi c0_i32_654 v753
  v754.toNat
def k0_dev74 (d0 : Dev nD) : Nat :=
  let c0_i32_670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_657 : BitVec 32 := 13#32
  let v761 : BitVec 32 := Scalar.addi v2 c13_i32_657
  let c16_i32_658 : BitVec 32 := 16#32
  let v762 : BitVec 32 := Scalar.remsi v761 c16_i32_658
  let c1_i32_669 : BitVec 32 := 1#32
  let v782 : BitVec 32 := Scalar.muli v762 c1_i32_669
  let v783 : BitVec 32 := Scalar.addi c0_i32_670 v782
  v783.toNat
def k0_dev75 (d0 : Dev nD) : Nat :=
  let c0_i32_686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_673 : BitVec 32 := 14#32
  let v790 : BitVec 32 := Scalar.addi v2 c14_i32_673
  let c16_i32_674 : BitVec 32 := 16#32
  let v791 : BitVec 32 := Scalar.remsi v790 c16_i32_674
  let c1_i32_685 : BitVec 32 := 1#32
  let v811 : BitVec 32 := Scalar.muli v791 c1_i32_685
  let v812 : BitVec 32 := Scalar.addi c0_i32_686 v811
  v812.toNat
def k0_dev76 (d0 : Dev nD) : Nat :=
  let c0_i32_702 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_689 : BitVec 32 := 15#32
  let v819 : BitVec 32 := Scalar.addi v2 c15_i32_689
  let c16_i32_690 : BitVec 32 := 16#32
  let v820 : BitVec 32 := Scalar.remsi v819 c16_i32_690
  let c1_i32_701 : BitVec 32 := 1#32
  let v840 : BitVec 32 := Scalar.muli v820 c1_i32_701
  let v841 : BitVec 32 := Scalar.addi c0_i32_702 v840
  v841.toNat
def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1 : BitVec 32 := 0#32
  let v10 : BitVec 1 := Scalar.cmpi .sgt v2 c0_i32_1
  let v11 : BitVec 32 := Scalar.extui v10
  let c0_i32_2 : BitVec 32 := 0#32
  let v12 : BitVec 1 := Scalar.cmpi .slt v2 c0_i32_2
  let v13 : BitVec 32 := Scalar.extui v12
  let v14 : BitVec 32 := Scalar.subi v11 v13
  let c2_i32 : BitVec 32 := 2#32
  let c0_i32_3 : BitVec 32 := 0#32
  let v15 : BitVec 1 := Scalar.cmpi .sgt c2_i32 c0_i32_3
  let v16 : BitVec 32 := Scalar.extui v15
  let c0_i32_4 : BitVec 32 := 0#32
  let v17 : BitVec 1 := Scalar.cmpi .slt c2_i32 c0_i32_4
  let v18 : BitVec 32 := Scalar.extui v17
  let v19 : BitVec 32 := Scalar.subi v16 v18
  let v20 : BitVec 1 := Scalar.cmpi .ne v14 v19
  let v21 : BitVec 32 := Scalar.remsi v2 c2_i32
  let c0_i32_5 : BitVec 32 := 0#32
  let v22 : BitVec 1 := Scalar.cmpi .ne v21 c0_i32_5
  let v23 : BitVec 1 := Scalar.andi v20 v22
  let v9 : BitVec 32 := Scalar.divsi v2 c2_i32
  let c1_i32_6 : BitVec 32 := 1#32
  let v24 : BitVec 32 := Scalar.subi v9 c1_i32_6
  let v25 : BitVec 32 := Scalar.select v23 v24 v9
  let c8_i32_7 : BitVec 32 := 8#32
  let v26 : BitVec 32 := Scalar.muli v25 c8_i32_7
  let v848 : Index := Scalar.indexCast v26
  let c0_705 : Index := 0#32
  ![v848.toNat, 0]
def k0_off67 (d0 : Dev nD) (c1_i32_706 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v850 : BitVec 32 := Scalar.addi v2 c1_i32_706
  let c16_i32_707 : BitVec 32 := 16#32
  let v851 : BitVec 32 := Scalar.remsi v850 c16_i32_707
  ![v851.toNat]
def k0_off68 (d0 : Dev nD) (c1_i32_706 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v850 : BitVec 32 := Scalar.addi v2 c1_i32_706
  let c16_i32_707 : BitVec 32 := 16#32
  let v851 : BitVec 32 := Scalar.remsi v850 c16_i32_707
  let c8_i32_709 : BitVec 32 := 8#32
  let v853 : BitVec 32 := Scalar.muli v851 c8_i32_709
  let c0_i32_713 : BitVec 32 := 0#32
  ![v853.toNat, 0]
def k0_off69 (d0 : Dev nD) (c1_i32_706 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v850 : BitVec 32 := Scalar.addi v2 c1_i32_706
  let c16_i32_707 : BitVec 32 := 16#32
  let v851 : BitVec 32 := Scalar.remsi v850 c16_i32_707
  let c8_i32_715 : BitVec 32 := 8#32
  let v860 : BitVec 32 := Scalar.muli v851 c8_i32_715
  let v861 : Index := Scalar.indexCast v860
  let c0_716 : Index := 0#32
  ![v861.toNat, 0]
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x512 : Shape := ⟨2, ![64, 512]⟩
abbrev S512x16384 : Shape := ⟨2, ![512, 16384]⟩
abbrev S16384x512 : Shape := ⟨2, ![16384, 512]⟩
abbrev S64x16384 : Shape := ⟨2, ![64, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S512x16384, .f32⟩
  | .hbm, ⟨2, _⟩ => ⟨S512x16384, .f32⟩
  | .hbm, ⟨3, _⟩ => ⟨S512x16384, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S64x16384, .f32⟩
  | .hbm, ⟨8, _⟩ => ⟨S_, .f32⟩
  | .hbm, ⟨9, _⟩ => ⟨S64x16384, .f32⟩
  | .hbm, ⟨10, _⟩ => ⟨S64x16384, .f32⟩
  | .hbm, ⟨11, _⟩ => ⟨S64x512, .f32⟩
  | .hbm, ⟨12, _⟩ => ⟨S64x16384, .f32⟩
  | .hbm, ⟨13, _⟩ => ⟨S_, .f32⟩
  | .hbm, ⟨14, _⟩ => ⟨S64x16384, .f32⟩
  | .hbm, ⟨15, _⟩ => ⟨S64x16384, .f32⟩
  | .hbm, ⟨16, _⟩ => ⟨S64x512, .f32⟩
  | .hbm, ⟨17, _⟩ => ⟨S64x16384, .f32⟩
  | .hbm, ⟨18, _⟩ => ⟨S_, .f32⟩
  | .hbm, ⟨19, _⟩ => ⟨S64x16384, .f32⟩
  | .hbm, ⟨20, _⟩ => ⟨S64x16384, .f32⟩
  | .hbm, ⟨21, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Same.lean ====
/- The kernel and its idealization are one program: the second is the first one's text, none of its operations replaced. -/
module

public import proofs.«01_k».proof.Defs
public import Idealize.ShloMosaic.Lib.Tactic

@[expose] public section

namespace Cert.Same

open Idealize.ShloMosaic Idealize.SL.Sem

variable {F : FTy → Type} [FloatOps F] [Cert.Kernel.Facts] [Cert.KernelIdeal.Facts]

/-- The two bodies are the same function of the grid point. -/
theorem defs_eq : Cert.Kernel.defs (F := F) = Cert.KernelIdeal.defs (F := F) := by sl_kernel_rfl

/-- So are the two programs that call them. -/
theorem main_eq : Cert.Kernel.main (F := F) = Cert.KernelIdeal.main (F := F) := by sl_kernel_rfl

/-- A run of one is a run of the other. -/
theorem run_eq (m : (ℓ : Loc Cert.Kernel.nD Cert.Kernel.τ Cert.Kernel.sig) → Buf (Elt F) ℓ) (g : Dev Cert.Kernel.nD → PrngReg)
    (Q : PUnit × MemSt Cert.Kernel.nD Cert.Kernel.τ Cert.Kernel.sig (Elt F) → Prop) :
    θ_run (Cert.Kernel.defs (F := F)) (onTc (τ := Cert.Kernel.τ) (Cert.Kernel.main (F := F))) ⟨m, fun _ => 0, g⟩ Q
      = θ_run (Cert.KernelIdeal.defs (F := F)) (onTc (τ := Cert.KernelIdeal.τ) (Cert.KernelIdeal.main (F := F))) ⟨m, fun _ => 0, g⟩ Q := by
  sl_kernel_rfl

end Cert.Same
-- ==== Proof.RefRun.lean ====
/- The reference's run: its arguments unchanged, its one device holding no semaphore. -/
module

public import proofs.«01_k».proof.Defs
public import proofs.«01_k».proof.Proof.Gen.ReferenceIdeal
public import proofs.«01_k».proof.Proof.Gen.ReferenceIdeal.Run
public import proofs.«01_k».proof.Proof.Gen.ReferenceIdeal.Read

@[expose] public section

namespace Cert.RefRun

open Cert.ReferenceIdeal Idealize.ShloMosaic Idealize.SL.Sem

/-- The reference declares no semaphore, so every counter of every state is zero. -/
theorem sem_zero (s : GSem nD τ sig → ℤ) : s = fun _ => 0 :=
  funext fun x => by
    rcases x with ⟨_, sm⟩
    rcases sm with ⟨i⟩ | ⟨i⟩ <;> exact i.elim0

/-- The reference runs, its argument arrays end unchanged and every counter reads zero. -/
theorem frame : Cert.quiescent_ReferenceIdeal (hReferenceIdeal := Cert.ReferenceIdeal.Gen.facts) := fun m g _ =>
  (θ_run _ _ _).mono (fun r h => ⟨fun c => (h c).2, sem_zero r.2.sem⟩) (Cert.ReferenceIdeal.Value.run m g)

end Cert.RefRun
-- ==== Proof.KernelIdealRun.Base.lean ====
/-
# The rows, the devices and the loops

The kernel moves tiles of eight rows. Here: a buffer as the conjunction of its tiles, a tile as the conjunction of
its shares, the peers of a device, and big conjunctions over the peers and over the owners.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ShareLeaves

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Every element type has a value. -/
instance eltNonempty : ∀ e, Nonempty (Elt F e)
  | .i1 => ⟨(0 : BitVec 1)⟩ | .i4 => ⟨(0 : BitVec 4)⟩ | .i8 => ⟨(0 : BitVec 8)⟩ | .i16 => ⟨(0 : BitVec 16)⟩
  | .i32 => ⟨(0 : BitVec 32)⟩ | .i64 => ⟨(0 : BitVec 64)⟩
  | .fp8e4m3 => ⟨FloatOps.ofBits .fp8e4m3 0⟩ | .fp8e5m2 => ⟨FloatOps.ofBits .fp8e5m2 0⟩
  | .bf16 => ⟨FloatOps.ofBits .bf16 0⟩ | .f16 => ⟨FloatOps.ofBits .f16 0⟩ | .f32 => ⟨FloatOps.ofBits .f32 0⟩

/-! ## Rows in tiles of eight -/

/-- A tile's values: eight rows of 512. -/
abbrev Tile (F : FTy → Type) : Type := S8x512.Idx → Elt F .f32

/-- `n` tiles of eight rows. -/
abbrev Rows (n : ℕ) : Shape := ⟨2, ![8 * n, 512]⟩

theorem tile_inb {n : ℕ} (i : Fin n) : ∀ a, (![8 * i.val, 0] : Fin 2 → ℕ) a + S8x512.size a ≤ (Rows n).size a := by
  have := i.isLt
  intro a; fin_cases a
  · show 8 * i.val + 8 ≤ 8 * n; omega
  · show 0 + 512 ≤ 512; omega

/-- The rectangle of tile `i`. -/
abbrev tileRect {n : ℕ} (i : Fin n) : Rect (Rows n) := Rect.unit (s := Rows n) ![8 * i.val, 0] S8x512.size (tile_inb i)

/-- Different tiles share no element. -/
theorem tile_disjoint {n : ℕ} (i j : Fin n) (h : i ≠ j) : Disjoint (tileRect i).set (tileRect j).set := by
  have h' : i.val ≠ j.val := fun e => h (Fin.ext e)
  refine Rect.unit_disjoint (s := Rows n) (0 : Fin 2) ?_
  show 8 * i.val + 8 ≤ 8 * j.val ∨ 8 * j.val + 8 ≤ 8 * i.val
  omega

/-- Every element is in a tile. -/
theorem tile_cover (n : ℕ) : (Finset.univ : Finset (Fin n)).biUnion (fun i => (tileRect i).set) = Finset.univ := by
  ext x; simp only [Finset.mem_biUnion, Finset.mem_univ, true_and, iff_true]
  have h0 : (x (0 : Fin 2)).val < 8 * n := (x (0 : Fin 2)).isLt
  have h1 : (x (1 : Fin 2)).val < 512 := (x (1 : Fin 2)).isLt
  refine ⟨⟨(x (0 : Fin 2)).val / 8, by omega⟩, Rect.mem_set_unit.mpr ?_⟩
  intro a; fin_cases a
  · show 8 * ((x (0 : Fin 2)).val / 8) ≤ (x (0 : Fin 2)).val ∧ (x (0 : Fin 2)).val < 8 * ((x (0 : Fin 2)).val / 8) + 8; omega
  · show 0 ≤ (x (1 : Fin 2)).val ∧ (x (1 : Fin 2)).val < 0 + 512; omega

/-- Tile `i` of contents. -/
def tl {n : ℕ} (X : (Rows n).Idx → Elt F .f32) (i : Fin n) : Tile F := fun j => X ((tileRect i).emb j)

/-- The contents made of given tiles. -/
def asm {n : ℕ} (T : Fin n → Tile F) : (Rows n).Idx → Elt F .f32 := fun x =>
  T ⟨(x (0 : Fin 2)).val / 8, by have : (x (0 : Fin 2)).val < 8 * n := (x (0 : Fin 2)).isLt; omega⟩
    (fun a => match a with
      | ⟨0, _⟩ => ⟨(x (0 : Fin 2)).val % 8, Nat.mod_lt _ (by decide)⟩
      | ⟨1, _⟩ => ⟨(x (1 : Fin 2)).val, (x (1 : Fin 2)).isLt⟩)

theorem tl_asm {n : ℕ} (T : Fin n → Tile F) (i : Fin n) : tl (asm T) i = T i := by
  funext j
  have e0 : (((tileRect i).emb j) (0 : Fin 2)).val = 8 * i.val + (j (0 : Fin 2)).val := by
    show 8 * i.val + 1 * (j (0 : Fin 2)).val = _; omega
  have e1 : (((tileRect i).emb j) (1 : Fin 2)).val = (j (1 : Fin 2)).val := by
    show 0 + 1 * (j (1 : Fin 2)).val = _; omega
  have hj : (j (0 : Fin 2)).val < 8 := (j (0 : Fin 2)).isLt
  unfold tl asm
  congr 1
  · congr 1; rw [e0]; omega
  · funext a; fin_cases a
    · apply Fin.ext; show _ % 8 = _; rw [e0]; show _ = (j (0 : Fin 2)).val; omega
    · apply Fin.ext; show _ = (j (1 : Fin 2)).val; exact e1

/-- Contents are determined by their tiles. -/
theorem tl_ext {n : ℕ} {X Y : (Rows n).Idx → Elt F .f32} (h : ∀ i, tl X i = tl Y i) : X = Y := by
  funext x
  obtain ⟨i, -, hx⟩ := Finset.mem_biUnion.mp ((tile_cover n).symm ▸ Finset.mem_univ x)
  rw [← Rect.map_emb_univ, Finset.mem_map] at hx
  obtain ⟨j, -, rfl⟩ := hx
  exact congrFun (h i) j

section Own

variable {Ix : Type} [DecidableEq Ix] {U : Type} [URA U]

local notation "𝕄" => MT nD τ sig Ix (Elt F) ℕ U ℕ

/-- Tile `i` of a buffer of `n` tiles, as the memref a transfer addresses. -/
abbrev slot {n : ℕ} (M : Memref sig .tc .vmem (Rows n) .f32) (i : Fin n) : Memref sig .tc .vmem S8x512 .f32 :=
  M.slice (tileRect i) (fun _ => rfl)

/-- Owning a memref at contents is holding its elements at any buffer contents that read so. -/
theorem owns_eq_pointsTo (c : Dev nD) {sh : Shape} {e : EltTy} (M : Memref sig .tc .vmem sh e) (q : PosShare TreeShare)
    (X : sh.Idx → Elt F e) (g : M.view.ty.Contents (Elt F)) (hg : M.view.read (Elt F) g = X) :
    (owns (c : Thread nD τ) M q X : sProp 𝕄) = (M.view.loc (c : Thread nD τ) ↦[M.view.set]{q} g) := by
  have h₁ : (owns (c : Thread nD τ) M q X : sProp 𝕄) ⊢ (M.view.loc (c : Thread nD τ) ↦[M.view.set]{q} g) := by
    unfold owns
    iintro ⟨%f, %hf, H⟩
    have e : (M.view.loc (c : Thread nD τ) ↦[M.view.set]{q} f : sProp 𝕄) = (M.view.loc (c : Thread nD τ) ↦[M.view.set]{q} g) :=
      pointsTo_congr fun i hi => by
        rw [View.set, Finset.mem_map] at hi
        obtain ⟨x, -, rfl⟩ := hi
        have := congrFun (hf.trans hg.symm) x
        simp only [View.read] at this
        exact (cast_inj _).mp this
    rw [← e]; iexact H
  exact BI.equiv_iff.mp ⟨h₁, hg ▸ owns_intro (c : Thread nD τ) M q g⟩

/-- A share of a memref is its leaves' shares at once. -/
theorem owns_leaves (c : Dev nD) {sh : Shape} {e : EltTy} (M : Memref sig .tc .vmem sh e) (k : ℕ) (q : PosShare TreeShare)
    (X : sh.Idx → Elt F e) :
    (owns (c : Thread nD τ) M q X : sProp 𝕄)
      = bigSep Finset.univ fun i : Fin (2 ^ k) => owns (c : Thread nD τ) M (ShareLeaves.leaf k q i) X := by
  let g := M.view.write (Elt F) (fun _ => Classical.arbitrary _) X Finset.univ
  have hg : M.view.read (Elt F) g = X := View.read_write_univ _ _
  rw [owns_eq_pointsTo c M q X g hg, ShareLeaves.pointsTo_leaves (ℓ := M.view.loc (c : Thread nD τ)) M.view.set g k q]
  exact bigSep_congr fun i _ => (owns_eq_pointsTo c M _ X g hg).symm

/-- A whole buffer of tiles is its tiles. -/
theorem owns_tiles (c : Dev nD) {n : ℕ} (M : Memref sig .tc .vmem (Rows n) .f32) (q : PosShare TreeShare)
    (X : (Rows n).Idx → Elt F .f32) :
    (owns (c : Thread nD τ) M q X : sProp 𝕄)
      = bigSep Finset.univ fun i : Fin n => owns (c : Thread nD τ) (slot M i) q (tl X i) :=
  BI.equiv_iff.mp ⟨owns_rects (c : Thread nD τ) M q tileRect (fun _ _ => rfl) tile_disjoint (tile_cover n) X,
    owns_of_rects (c : Thread nD τ) M q tileRect (fun _ _ => rfl) tile_disjoint (tile_cover n) X⟩

/-- A memref held at some contents. -/
def some1 (c : Dev nD) {sh : Shape} (M : Memref sig .tc .vmem sh .f32) : sProp 𝕄 :=
  iprop(∃ X, owns (c : Thread nD τ) M fullShare X)

instance some1_storable (c : Dev nD) {sh : Shape} (M : Memref sig .tc .vmem sh .f32) :
    BI.Storable (upEmb : UEmb _ 𝕄) (some1 (F := F) (Ix := Ix) (U := U) c M) := by
  unfold some1; infer_instance

theorem owns_some1 (c : Dev nD) {sh : Shape} (M : Memref sig .tc .vmem sh .f32) (X : sh.Idx → Elt F .f32) :
    (owns (c : Thread nD τ) M fullShare X : sProp 𝕄) ⊢ some1 c M := by
  unfold some1; iintro H; iexists X; iexact H

/-- A buffer of tiles at some contents is its tiles, each at some contents. -/
theorem some1_tiles (c : Dev nD) {n : ℕ} (M : Memref sig .tc .vmem (Rows n) .f32) :
    (some1 c M : sProp 𝕄) = bigSep Finset.univ fun i : Fin n => some1 (F := F) c (slot M i) := by
  have h₁ : (some1 c M : sProp 𝕄) ⊢ bigSep Finset.univ fun i : Fin n => some1 (F := F) c (slot M i) := by
    unfold some1
    iintro ⟨%X, H⟩
    ihave H := (show (owns (c : Thread nD τ) M fullShare X : sProp 𝕄) ⊢ bigSep Finset.univ fun i : Fin n => some1 (F := F) c (slot M i) from by
      rw [owns_tiles]; exact bigSep_mono fun i _ => owns_some1 c (slot M i) (tl X i)) $$ H
    unfold some1; iexact H
  have h₂ : (bigSep Finset.univ fun i : Fin n => some1 (F := F) c (slot M i)) ⊢ (some1 c M : sProp 𝕄) := by
    have hne : ∀ i : Fin n, Nonempty (Tile F) := fun _ => ⟨fun _ => Classical.choice (eltNonempty (F := F) .f32)⟩
    unfold some1
    refine (@bigSep_exists_pi _ _ _ _ (fun _ => Tile F) hne Finset.univ fun (i : Fin n) (Y : Tile F) => owns (c : Thread nD τ) (slot M i) fullShare Y).trans ?_
    iintro ⟨%Y, H⟩
    have h : (bigSep Finset.univ fun i : Fin n => owns (c : Thread nD τ) (slot M i) fullShare (Y i) : sProp 𝕄)
        = owns (c : Thread nD τ) M fullShare (asm Y) := by
      rw [owns_tiles]; exact bigSep_congr fun i _ => by rw [tl_asm]
    iexists asm Y
    ihave H := (show (bigSep Finset.univ fun i : Fin n => owns (c : Thread nD τ) (slot M i) fullShare (Y i) : sProp 𝕄)
        ⊢ owns (c : Thread nD τ) M fullShare (asm Y) from h ▸ .rfl) $$ H
    iexact H
  exact BI.equiv_iff.mp ⟨h₁, h₂⟩

end Own

/-! ## The devices -/

set_option backward.proofsInPublic true in
/-- Device `c`'s peer at distance `r + 1`. -/
def pr (c : Dev nD) (r : Fin 15) : Dev nD := ⟨(c.val + r.val + 1) % 16, Nat.mod_lt _ (by decide)⟩

/-- The device that reduces tile `w`. -/
def ow (w : Fin 8) : Dev nD := ⟨w.val + 4, by have := w.isLt; show w.val + 4 < 16; omega⟩

/-- Device `c` reduces a tile. -/
abbrev isO (c : Dev nD) : Prop := 4 ≤ c.val ∧ c.val < 12

set_option backward.proofsInPublic true in
/-- The tile device `c` reduces, if any. -/
def wo (c : Dev nD) : Fin 8 := ⟨(c.val + 4) % 8, Nat.mod_lt _ (by decide)⟩

/-- The tile device `c`'s result lies in. -/
def fw (c : Dev nD) : Fin 8 := ⟨c.val / 2, by have : c.val < 16 := c.isLt; omega⟩

theorem ow_wo : ∀ c : Dev nD, isO c → ow (wo c) = c := by decide
theorem wo_ow : ∀ w : Fin 8, wo (ow w) = w := by decide
theorem isO_ow : ∀ w : Fin 8, isO (ow w) := by decide
theorem pr_ne : ∀ (c : Dev nD) (r : Fin 15), pr c r ≠ c := by decide
theorem ow_inj : ∀ w w' : Fin 8, ow w = ow w' → w = w' := by decide
theorem pr_inj : ∀ (c : Dev nD) (r r' : Fin 15), pr c r = pr c r' → r = r' := by decide
theorem exists_pr : ∀ c t : Dev nD, t ≠ c → ∃ r, pr c r = t := by decide
theorem exists_ow : ∀ c : Dev nD, isO c → ∃ w, ow w = c := fun c h => ⟨wo c, ow_wo c h⟩

/-- The peers of a device, as a set. -/
theorem map_pr (c : Dev nD) : Finset.univ.map ⟨pr c, fun a b h => pr_inj c a b h⟩ = Finset.univ.erase c := by
  ext t
  simp only [Finset.mem_map, Finset.mem_univ, true_and, Function.Embedding.coeFn_mk, Finset.mem_erase, and_true]
  exact ⟨fun ⟨r, e⟩ => e ▸ pr_ne c r, exists_pr c t⟩

/-- The owners, as a set. -/
theorem map_ow : Finset.univ.map ⟨ow, fun a b h => ow_inj a b h⟩ = (Finset.univ : Finset (Dev nD)).filter isO := by
  ext t
  simp only [Finset.mem_map, Finset.mem_univ, true_and, Function.Embedding.coeFn_mk, Finset.mem_filter]
  exact ⟨fun ⟨r, e⟩ => e ▸ isO_ow r, exists_ow t⟩

section BigSep

variable {M : Type} [URA M]

/-- A conjunction over the peers by distance is one over the other devices. -/
theorem bigSep_pr (c : Dev nD) (Φ : Dev nD → sProp M) :
    (bigSep Finset.univ fun r => Φ (pr c r)) = bigSep (Finset.univ.erase c) Φ := by
  rw [← map_pr c, bigSep_map]; rfl

/-- A conjunction over all devices: this one first, then the peers by distance. -/
theorem bigSep_dev (c : Dev nD) (Φ : Dev nD → sProp M) :
    bigSep Finset.univ Φ = iprop(Φ c ∗ bigSep Finset.univ fun r => Φ (pr c r)) := by
  rw [bigSep_pr]; exact bigSep_univ_split c

/-- A conjunction over the tiles by their owners is one over the owners. -/
theorem bigSep_ow (Φ : Dev nD → sProp M) :
    (bigSep Finset.univ fun w => Φ (ow w)) = bigSep Finset.univ fun t => if isO t then Φ t else iprop(emp) := by
  have h : (bigSep Finset.univ fun w => Φ (ow w)) = bigSep ((Finset.univ : Finset (Dev nD)).filter isO) Φ := by
    rw [← map_ow, bigSep_map]; rfl
  rw [h, bigSep_filter]; rfl

/-- One owner first: the tile this device reduces, when it reduces one. -/
theorem bigSep_tile (c : Dev nD) (h : isO c) (Φ Ψ : Fin 8 → sProp M) (hΦ : ∀ w, ow w ≠ c → Φ w = Ψ w) (hΨ : Ψ (wo c) = iprop(emp)) :
    bigSep Finset.univ Φ = iprop(Φ (wo c) ∗ bigSep Finset.univ Ψ) := by
  have e : ∀ w ∈ (Finset.univ : Finset (Fin 8)).erase (wo c), Φ w = Ψ w := fun w hw => hΦ w fun e => by
    subst e; exact (Finset.ne_of_mem_erase hw) (wo_ow w).symm
  have h1 : bigSep Finset.univ Ψ = bigSep (Finset.univ.erase (wo c)) Ψ := by
    rw [bigSep_univ_at Ψ (wo c), hΨ]; exact BI.equiv_iff.mp BI.emp_sep
  rw [h1, ← bigSep_congr e]; exact bigSep_univ_split (wo c)

/-- The first of sixteen, and the other fifteen. -/
theorem bigSep_sixteen (Φ : Fin 16 → sProp M) :
    bigSep Finset.univ Φ = iprop(Φ 0 ∗ bigSep Finset.univ fun r : Fin 15 => Φ r.succ) := by
  have h : (Finset.univ : Finset (Fin 16)).erase 0 = Finset.univ.map ⟨Fin.succ, Fin.succ_injective 15⟩ := by decide
  rw [bigSep_univ_at Φ 0, h, bigSep_map]; rfl

end BigSep

end Cert.KernelIdealRun
-- ==== Proof.KernelIdealRun.Sched.lean ====
/-
# The contents, the cells and the schedule

Every buffer tile's contents as a function of what the devices hold at launch; the semaphores by what they are for;
and the schedule: which device pays each round of each semaphore, and with what.
-/
module

public import proofs.«01_k».proof.Proof.KernelIdealRun.Base

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The buffers -/

abbrev pb : Memref sig .tc .vmem (Rows 8) .f32 := Memref.whole cc0_scratch0
/-- The buffer partial sums of layer `ℓ` land in. -/
abbrev rb : ℕ → Memref sig .tc .vmem (Rows 16) .f32
  | 0 => Memref.whole cc0_scratch1
  | _ + 1 => Memref.whole cc0_scratch2
/-- The buffer the reduced tiles of layer `ℓ` are gathered in. -/
abbrev xb : ℕ → Memref sig .tc .vmem (Rows 8) .f32
  | 0 => Memref.whole cc0_scratch3
  | _ + 1 => Memref.whole cc0_scratch4

/-! ## The contents -/

/-- What a device holds at launch: the activations and its blocks of the six weights. -/
structure Inp (F : FTy → Type) where
  x : Vec F S64x512 .f32
  win : Fin 3 → Vec F S512x1024 .f32
  wout : Fin 3 → Vec F S1024x512 .f32

/-- A tile plus fifteen others, in order. -/
def sum15 (T : FVec F S8x512 .f32) (S : Fin 15 → FVec F S8x512 .f32) : FVec F S8x512 .f32 :=
  addf (addf (addf (addf (addf (addf (addf (addf (addf (addf (addf (addf (addf (addf (addf T (S 0)) (S 1)) (S 2)) (S 3)) (S 4)) (S 5))
    (S 6)) (S 7)) (S 8)) (S 9)) (S 10)) (S 11)) (S 12)) (S 13)) (S 14)

/-- Tile `w` of the sum over the devices, as its owner computes it. -/
def red (P : Dev nD → (Rows 8).Idx → Elt F .f32) (w : Fin 8) : Tile F :=
  shapeCast S8x512 (sum15 (tl (P (ow w)) w) fun r => tl (P (pr (ow w) r)) w) shapeCasts_S8x512_S8x512

variable (I : Dev nD → Inp F)

def P0 (c : Dev nD) : (Rows 8).Idx → Elt F .f32 := k0_pay16 (I c).x ((I c).win 0) ((I c).wout 0)
def X1 : (Rows 8).Idx → Elt F .f32 := asm (red (P0 I))
def P1 (c : Dev nD) : (Rows 8).Idx → Elt F .f32 := k0_pay17 (X1 I) ((I c).win 1) ((I c).wout 1)
def X2 : (Rows 8).Idx → Elt F .f32 := asm (red (P1 I))
def P2 (c : Dev nD) : (Rows 8).Idx → Elt F .f32 := k0_pay19 (k0_pay18 (X2 I) ((I c).win 2)) ((I c).wout 2)
/-- The partial products of layer `ℓ`. -/
def PP : ℕ → Dev nD → (Rows 8).Idx → Elt F .f32
  | 0 => P0 I
  | _ + 1 => P1 I
/-- The reduced tiles of layer `ℓ`. -/
def AA (ℓ : ℕ) : Fin 8 → Tile F := red (PP I ℓ)
/-- Device `c`'s tile of the last sum. -/
def RR (c : Dev nD) : FVec F S8x512 .f32 := sum15 (tl (P2 I c) (fw c)) fun r => tl (P2 I (pr c r)) (fw c)
/-- The device's position as the kernel computes it. -/
def v2w (c : Dev nD) : BitVec 32 := Scalar.remsi (Scalar.divsi (Dev.word c) 1#32) 16#32
/-- What device `c` returns. -/
def res (c : Dev nD) : FVec F S4x512 .f32 := k0_pay1 (v2w c) (RR I c)

/-! ## The cells -/

/-- The runtime's barrier semaphore. -/
abbrev barS : Sem sig := (SemArray.scalar (sig.barrier 0 rfl) : Sems sig S_).sem

/-- The kernel's own semaphores: the sends of tile `w`, the sends at distance `o`, the partial tiles received from
    device `s` in layer `ℓ`, the reduced tile `w` received in layer `ℓ`. -/
abbrev Ko : Type := Fin 8 ⊕ Fin 16 ⊕ (Fin 2 × Fin 16) ⊕ (Fin 2 × Fin 8)
/-- And the barrier. -/
abbrev CK : Type := Unit ⊕ Ko

instance : DecidableEq CK
  | .inl _, .inl _ => isTrue rfl
  | .inl _, .inr _ => isFalse (fun h => by cases h)
  | .inr _, .inl _ => isFalse (fun h => by cases h)
  | .inr k, .inr k' => if h : k = k' then isTrue (congrArg _ h) else isFalse (fun e => h (by injection e))

abbrev kS (w : Fin 8) : Ko := .inl w
abbrev kA (o : Fin 16) : Ko := .inr (.inl o)
abbrev kR (ℓ : Fin 2) (s : Fin 16) : Ko := .inr (.inr (.inl (ℓ, s)))
abbrev kG (ℓ : Fin 2) (w : Fin 8) : Ko := .inr (.inr (.inr (ℓ, w)))

def onum : Ko → ℕ
  | .inl w => 8 + w.val
  | .inr (.inl o) => 16 + o.val
  | .inr (.inr (.inl (ℓ, s))) => 32 + 16 * ℓ.val + s.val
  | .inr (.inr (.inr (ℓ, w))) => 64 + 8 * ℓ.val + w.val

theorem onum_lt : ∀ k, onum k < 80 := by
  rintro (w | o | ⟨ℓ, s⟩ | ⟨ℓ, w⟩) <;> simp only [onum] <;> omega

theorem onum_ge : ∀ k, 8 ≤ onum k := by
  rintro (w | o | ⟨ℓ, s⟩ | ⟨ℓ, w⟩) <;> simp only [onum] <;> omega

theorem onum_inj : ∀ k k', onum k = onum k' → k = k' := by
  rintro (w | o | ⟨ℓ, s⟩ | ⟨ℓ, w⟩) (w' | o' | ⟨ℓ', s'⟩ | ⟨ℓ', w'⟩) h <;> simp only [onum] at h <;>
    first
    | (exfalso; omega)
    | (have e : ℓ = ℓ' := Fin.ext (by omega)
       have e' : s = s' := Fin.ext (by subst e; omega)
       rw [e, e'])
    | (have e : ℓ = ℓ' := Fin.ext (by omega)
       have e' : w = w' := Fin.ext (by subst e; omega)
       rw [e, e'])
    | (have e : w = w' := Fin.ext (by omega)
       rw [e])
    | (have e : o = o' := Fin.ext (by omega)
       rw [e])

def odma (k : Ko) : DmaSem sig := (⟨onum k, onum_lt k⟩ : Fin 80)
def osem (k : Ko) : SemLoc sig := .dma (odma k)
def csem : CK → SemLoc sig
  | .inl _ => .reg barS
  | .inr k => osem k

theorem odma_inj (k k' : Ko) (h : odma k = odma k') : k = k' := onum_inj k k' (congrArg Fin.val h)

theorem csem_inj : Function.Injective csem := by
  rintro (⟨⟩ | k) (⟨⟩ | k') h
  · rfl
  · exact absurd h (fun h => by cases h)
  · exact absurd h (fun h => by cases h)
  · refine congrArg Sum.inr (odma_inj k k' ?_)
    injection h

/-- Device `c`'s cell of kind `k`. -/
def cell (c : Dev nD) (k : CK) : GSem nD τ sig := ((c : Thread nD τ), csem k)

theorem cell_inj {c c' : Dev nD} {k k' : CK} (h : cell c k = cell c' k') : c = c' ∧ k = k' :=
  ⟨congrArg (fun g : GSem nD τ sig => g.1.1) h, csem_inj (congrArg Prod.snd h)⟩

open Classical in
/-- What a semaphore is for, if it is one of these. -/
def kindOf (s : SemLoc sig) : Option CK := if h : ∃ k, csem k = s then some h.choose else none

theorem kindOf_csem (k : CK) : kindOf (csem k) = some k := by
  unfold kindOf
  have h : ∃ k', csem k' = csem k := ⟨k, rfl⟩
  rw [dif_pos h]
  exact congrArg some (csem_inj h.choose_spec)

/-! ## The schedule -/

/-- Layers before the last in which device `c` reduces: its receive cells' rounds before the last stage. -/
def rF (c : Dev nD) : ℕ := if isO c then 1 else 0
/-- The rounds of a device's gather sends before the last stage. -/
def rA (c : Dev nD) : ℕ := if isO c then 2 else 0

theorem rF_owner {c : Dev nD} (h : isO c) : rF c = 1 := if_pos h
theorem rF_other {c : Dev nD} (h : ¬ isO c) : rF c = 0 := if_neg h
theorem rA_owner {c : Dev nD} (h : isO c) : rA c = 2 := if_pos h
theorem rA_other {c : Dev nD} (h : ¬ isO c) : rA c = 0 := if_neg h

/-- The number of rounds of a cell. -/
def fin (c : Dev nD) : CK → ℕ
  | .inl _ => 1
  | .inr (.inl w) => if ow w = c then 0 else 2
  | .inr (.inr (.inl o)) => if o = 0 then 0 else rA c + 1
  | .inr (.inr (.inr (.inl (ℓ, s)))) => if s = c then 0 else rF c + (1 - ℓ.val)
  | .inr (.inr (.inr (.inr (ℓ, w)))) => if ow w = c then 0 else 1

/-- The device that pays a cell of the kernel's own. -/
def payer (c : Dev nD) : Ko → Dev nD
  | .inl _ => c
  | .inr (.inl _) => c
  | .inr (.inr (.inl (_, s))) => s
  | .inr (.inr (.inr (_, w))) => ow w

set_option backward.proofsInPublic true in
/-- The device at distance `o`. -/
def ad (c : Dev nD) (o : Fin 16) : Dev nD := ⟨(c.val + o.val) % 16, Nat.mod_lt _ (by decide)⟩

theorem ad_succ (c : Dev nD) (r : Fin 15) : ad c r.succ = pr c r := Fin.ext (by show _ % 16 = _ % 16; rw [Fin.val_succ]; congr 1)
theorem ad_zero : ∀ c : Dev nD, ad c 0 = c := by decide

/-- The share of a tile that goes with its `o`-th transfer. -/
def lf (o : Fin 16) : PosShare TreeShare := ShareLeaves.leaf 4 fullShare o

/-- The owner through which owner `B`'s landing slots are passed on. -/
def fo (B : Dev nD) : Dev nD := if B = ow 0 then ow 1 else ow 0

theorem fo_ne : ∀ B, fo B ≠ B := by decide
theorem isO_fo : ∀ B, isO (fo B) := by decide

/-- Leave to write slot `A` of device `B`'s first landing buffer in the last stage. -/
def grant (B A : Dev nD) : sProp 𝕄 :=
  iprop(some1 B (slot (rb 0) A) ∗ reached ER (cell B (.inr (kR 0 A))) (rF B))

/-- What a partial tile of layer `ℓ` from `s` to `W` carries besides the tile. -/
def Gx (ℓ : ℕ) (s W : Dev nD) : sProp 𝕄 :=
  if ℓ = 1 ∧ isO s ∧ fo s = W then bigSep (Finset.univ.erase s) fun A => grant s A else iprop(emp)
/-- What the reduced tile of layer `ℓ` from owner `W` to `A` carries besides the tile. -/
def Gy (ℓ : ℕ) (W A : Dev nD) : sProp 𝕄 :=
  bigSep Finset.univ fun B : Dev nD => if ℓ = 1 ∧ isO B ∧ fo B = W ∧ B ≠ A then grant B A else iprop(emp)

/-- What device `s`'s barrier signal to `c` hands over: the slots of `s` that `c` writes. -/
def barPay (s c : Dev nD) : sProp 𝕄 :=
  iprop(some1 s (slot (rb 0) c) ∗ (if isO s then some1 s (slot (rb 1) c) else iprop(emp))
    ∗ (if isO c then iprop(some1 s (slot (xb 0) (wo c)) ∗ some1 s (slot (xb 1) (wo c))) else iprop(emp)))

/-- What round `r` of device `c`'s own cell hands it. -/
def pay (c : Dev nD) (r : ℕ) : Ko → sProp 𝕄
  | .inl w => owns (c : Thread nD τ) (slot pb w) fullShare (tl (PP I r c) w)
  | .inr (.inl o) =>
    if isO c ∧ r < 2 then owns (c : Thread nD τ) (slot (xb r) (wo c)) (lf o) (AA I r (wo c))
    else owns (c : Thread nD τ) (slot pb (fw (ad c o))) (lf o) (tl (P2 I c) (fw (ad c o)))
  | .inr (.inr (.inl (ℓ, s))) =>
    if isO c ∧ r = 0 then iprop(owns (c : Thread nD τ) (slot (rb ℓ.val) s) fullShare (tl (PP I ℓ.val s) (wo c)) ∗ Gx ℓ.val s c)
    else owns (c : Thread nD τ) (slot (rb ℓ.val) s) fullShare (tl (P2 I s) (fw c))
  | .inr (.inr (.inr (ℓ, w))) => iprop(owns (c : Thread nD τ) (slot (xb ℓ.val) w) fullShare (AA I ℓ.val w) ∗ Gy ℓ.val (ow w) c)

/-- The units a transfer of one tile credits. -/
abbrev N : ℕ := (slot (rb 0) 0).view.dmaCredit
theorem N_pos : 0 < N := View.dmaCredit_pos _ (by decide)

def dutK (c : Dev nD) : CK → Finset (Dev nD)
  | .inl _ => Finset.univ.erase c
  | .inr k => {payer c k}

def amtK : CK → ℕ
  | .inl _ => 1
  | .inr _ => N

def payK (c : Dev nD) (r : ℕ) (s : Dev nD) : CK → sProp 𝕄
  | .inl _ => barPay s c
  | .inr k => pay I c r k

def Rd : Rounds.Schedule (GSem nD τ sig) (Dev nD) 𝕄 where
  duties g r := match g.1.2, kindOf g.2 with
    | .tc, some k => if r < fin g.1.1 k then dutK g.1.1 k else ∅
    | _, _ => ∅
  amount g _ _ := match kindOf g.2 with
    | some k => amtK k
    | none => 1
  payload g r d := match kindOf g.2 with
    | some k => payK I g.1.1 r d k
    | none => iprop(emp)
  amount_pos g _ _ _ := by
    rcases kindOf g.2 with _ | (_ | _)
    · exact Nat.one_pos
    · exact Nat.one_pos
    · exact N_pos

instance grant_storable (B A : Dev nD) : BI.Storable (upEmb : UEmb _ 𝕄) (grant (F := F) B A) := by
  unfold grant; infer_instance
instance Gx_storable (ℓ : ℕ) (s W : Dev nD) : BI.Storable (upEmb : UEmb _ 𝕄) (Gx (F := F) ℓ s W) := by
  unfold Gx; split <;> infer_instance
instance Gy_storable (ℓ : ℕ) (W A : Dev nD) : BI.Storable (upEmb : UEmb _ 𝕄) (Gy (F := F) ℓ W A) := by
  unfold Gy
  haveI : ∀ B : Dev nD, BI.Storable (upEmb : UEmb _ 𝕄) (if ℓ = 1 ∧ isO B ∧ fo B = W ∧ B ≠ A then grant (F := F) B A else iprop(emp)) :=
    fun B => by split <;> infer_instance
  infer_instance
instance barPay_storable (s c : Dev nD) : BI.Storable (upEmb : UEmb _ 𝕄) (barPay (F := F) s c) := by
  unfold barPay; (repeat' split) <;> infer_instance
instance pay_storable (c : Dev nD) (r : ℕ) (k : Ko) : BI.Storable (upEmb : UEmb _ 𝕄) (pay I c r k) := by
  rcases k with w | o | ⟨ℓ, s⟩ | ⟨ℓ, w⟩ <;> unfold pay <;> dsimp only <;> (repeat' split) <;> infer_instance
instance Rd_storable (g : GSem nD τ sig) (r : ℕ) (d : Dev nD) : BI.Storable (upEmb : UEmb _ 𝕄) ((Rd I).payload g r d) := by
  unfold Rd; dsimp only
  rcases kindOf g.2 with _ | (_ | k) <;> dsimp only [payK] <;> infer_instance

theorem duties_cell (c : Dev nD) (k : CK) (r : ℕ) : (Rd I).duties (cell c k) r = if r < fin c k then dutK c k else ∅ := by
  unfold Rd cell; dsimp only; rw [kindOf_csem]

theorem amount_cell (c : Dev nD) (k : CK) (r : ℕ) (d : Dev nD) : (Rd I).amount (cell c k) r d = amtK k := by
  unfold Rd cell; dsimp only; rw [kindOf_csem]

theorem payload_cell (c : Dev nD) (k : CK) (r : ℕ) (d : Dev nD) : (Rd I).payload (cell c k) r d = payK I c r d k := by
  unfold Rd cell; dsimp only; rw [kindOf_csem]

/-- After its last round a cell has no duty. -/
theorem duties_later (c : Dev nD) (k : CK) : ∀ r, fin c k ≤ r → (Rd I).duties (cell c k) r = ∅ := fun r hr => by
  rw [duties_cell, if_neg (by omega)]

theorem duties_own {c : Dev nD} {k : Ko} {r : ℕ} (h : r < fin c (.inr k)) : (Rd I).duties (cell c (.inr k)) r = {payer c k} := by
  rw [duties_cell, if_pos h]; rfl

theorem expect_own {c : Dev nD} {k : Ko} {r : ℕ} (h : r < fin c (.inr k)) : (Rd I).expect (cell c (.inr k)) r = N := by
  unfold Schedule.expect Schedule.amountOf; rw [duties_own I h, Finset.sum_singleton, amount_cell]; rfl

/-- What a round of an own cell hands its device, no duty taken. -/
theorem rest_own {c : Dev nD} {k : Ko} {r : ℕ} (h : r < fin c (.inr k)) :
    bigSep ((Rd I).duties (cell c (.inr k)) r \ ∅) (fun d => (Rd I).payload (cell c (.inr k)) r d) = pay I c r k := by
  rw [Finset.sdiff_empty, duties_own I h, bigSep_singleton, payload_cell]; rfl

theorem duties_bar (c : Dev nD) : (Rd I).duties (cell c (.inl ())) 0 = Finset.univ.erase c := by
  rw [duties_cell, if_pos (show 0 < fin c (.inl ()) from Nat.one_pos)]; rfl

theorem expect_bar (c : Dev nD) : (Rd I).expect (cell c (.inl ())) 0 = 15 := by
  unfold Schedule.expect Schedule.amountOf
  rw [duties_bar, Finset.sum_congr rfl fun d _ => amount_cell I c _ 0 d, Finset.sum_const]
  revert c; decide

/-- What the barrier hands a device: every peer's slots that it writes. -/
theorem rest_bar (c : Dev nD) :
    bigSep ((Rd I).duties (cell c (.inl ())) 0 \ ∅) (fun d => (Rd I).payload (cell c (.inl ())) 0 d)
      = bigSep Finset.univ fun r => barPay (pr c r) c := by
  rw [Finset.sdiff_empty, duties_bar, bigSep_congr fun d _ => payload_cell I c _ 0 d, bigSep_pr c fun s => barPay s c]; rfl

/-! ## Levels -/

def lvK (ι : ℕ) : CK → ℕ
  | .inl _ => 1
  | .inr (.inl _) => 0
  | .inr (.inr (.inl _)) => 0
  | .inr (.inr (.inr (.inl (ℓ, _)))) => if ℓ = 0 then (if ι = 0 then 2 else 6) else 4
  | .inr (.inr (.inr (.inr (ℓ, _)))) => if ℓ = 0 then 3 else 5

def L (g : GSem nD τ sig) : Finset ℕ := if g.1.2 = .tc then {0, 1} else ∅
def lv (g : GSem nD τ sig) (ι : ℕ) : ℕ := match kindOf g.2 with
  | some k => lvK ι k
  | none => 0

theorem L_of_ne (g : GSem nD τ sig) (h : g.1.2 ≠ .tc) : L g = ∅ := if_neg h
theorem L_tc (c : Dev nD) (sm : SemLoc sig) : L ((c : Thread nD τ), sm) = {0, 1} := if_pos rfl
theorem lv_cell (c : Dev nD) (k : CK) (ι : ℕ) : lv (cell c k) ι = lvK ι k := by unfold lv cell; rw [kindOf_csem]

/-- Everything owed is above level `n`. -/
def Abv (n : ℕ) (O : CellTallies nD τ sig ℕ) : Prop := ∀ g ι, 0 < O g ι → ι ∈ L g ∧ n < lv g ι

theorem Abv.zero (n : ℕ) : Abv n 0 := fun g ι h => absurd h (Nat.lt_irrefl 0)
theorem Abv.add {n : ℕ} {O O' : CellTallies nD τ sig ℕ} (h : Abv n O) (h' : Abv n O') : Abv n (O + O') := fun g ι hp => by
  rw [Pi.add_apply, Finsupp.add_apply] at hp
  rcases Nat.eq_zero_or_pos (O g ι) with e | e
  · exact h' g ι (by omega)
  · exact h g ι e
theorem Abv.sum {n : ℕ} {α : Type} (s : Finset α) {f : α → CellTallies nD τ sig ℕ} (h : ∀ a ∈ s, Abv n (f a)) : Abv n (∑ a ∈ s, f a) := by
  classical
  induction s using Finset.induction_on with
  | empty => exact Abv.zero n
  | insert a s ha ih =>
    rw [Finset.sum_insert ha]
    exact (h a (Finset.mem_insert_self a s)).add (ih fun b hb => h b (Finset.mem_insert_of_mem hb))
theorem Abv.cell {n : ℕ} (c : Dev nD) (k : CK) (ι u : ℕ) (hι : ι < 2) (h : n < lvK ι k) : Abv n (tallyAt (cell c k) ι u) := fun g i hp => by
  rw [tallyAt_apply] at hp
  by_cases e : g = KernelIdealRun.cell c k ∧ i = ι
  · rw [e.1, e.2, lv_cell]
    refine ⟨?_, h⟩
    show ι ∈ L ((c : Thread nD τ), csem k)
    rw [L_tc]; have : ι = 0 ∨ ι = 1 := by omega
    rcases this with rfl | rfl <;> decide
  · rw [if_neg e] at hp; exact absurd hp (Nat.lt_irrefl 0)
theorem Abv.mono {n n' : ℕ} (h : n ≤ n') {O : CellTallies nD τ sig ℕ} (hO : Abv n' O) : Abv n O := fun g ι hp =>
  ⟨(hO g ι hp).1, lt_of_le_of_lt h (hO g ι hp).2⟩
theorem Abv.ite {n : ℕ} {p : Prop} [Decidable p] {O O' : CellTallies nD τ sig ℕ} (h : p → Abv n O) (h' : ¬ p → Abv n O') :
    Abv n (if p then O else O') := by split <;> [exact h ‹_›; exact h' ‹_›]

/-- A wait on a semaphore of level at most `n`, everything owed above. -/
theorem mayWait {n : ℕ} {O : CellTallies nD τ sig ℕ} (hO : Abv n O) (c : Dev nD) (sm : SemLoc sig) (ι : ℕ) (hι : ι < 2)
    (h : lv ((c : Thread nD τ), sm) ι ≤ n) : (levAts L lv : sProp 𝕄) ⊢ MayWait (c : Thread nD τ) sm ι O :=
  MayOwe.of_cut (L := L) (lev := lv) n
    (fun p hp => by
      rw [Finset.mem_singleton.mp hp, L_tc]
      have : ι = 0 ∨ ι = 1 := by omega
      rcases this with rfl | rfl
      · exact Finset.mem_insert_self _ _
      · exact Finset.mem_insert_of_mem (Finset.mem_singleton_self _))
    (fun g u hg => (hO g u hg).1)
    (fun p hp => by rw [Finset.mem_singleton.mp hp]; exact h)
    (fun g u hg => (hO g u hg).2)

/-! ## What each device owes at launch, and is owed -/

/-- One unit on every peer's barrier. -/
def DB (c : Dev nD) : CellTallies nD τ sig ℕ := ∑ r : Fin 15, tallyAt (cell (pr c r) (.inl ())) 0 1
/-- A partial tile to every other owner, in layer `ℓ`. -/
def DR (ℓ : Fin 2) (c : Dev nD) : CellTallies nD τ sig ℕ :=
  ∑ w : Fin 8, if ow w = c then 0 else tallyAt (cell (ow w) (.inr (kR ℓ c))) 0 N
/-- An owner's reduced tile to every peer, in layer `ℓ`. -/
def DG (ℓ : Fin 2) (c : Dev nD) : CellTallies nD τ sig ℕ :=
  if isO c then ∑ r : Fin 15, tallyAt (cell (pr c r) (.inr (kG ℓ (wo c)))) 0 N else 0
/-- A tile of the last products to every peer. -/
def DF (c : Dev nD) : CellTallies nD τ sig ℕ := ∑ r : Fin 15, tallyAt (cell (pr c r) (.inr (kR 0 c))) 1 N
def O₀ (c : Dev nD) : CellTallies nD τ sig ℕ := DF c + DG 1 c + DR 1 c + DG 0 c + DR 0 c + DB c

theorem abv_DF (c : Dev nD) : Abv 5 (DF c) := Abv.sum _ fun r _ => Abv.cell _ _ _ _ (by decide) (by show 5 < 6; decide)
theorem abv_DG (ℓ : Fin 2) (c : Dev nD) : Abv (2 + 2 * ℓ.val) (DG ℓ c) :=
  Abv.ite (fun _ => Abv.sum _ fun r _ => Abv.cell _ _ _ _ (by decide) (by
    show _ < if ℓ = 0 then 3 else 5; revert ℓ; decide)) fun _ => Abv.zero _
theorem abv_DR (ℓ : Fin 2) (c : Dev nD) : Abv (1 + 2 * ℓ.val) (DR ℓ c) :=
  Abv.sum _ fun w _ => Abv.ite (fun _ => Abv.zero _) fun _ => Abv.cell _ _ _ _ (by decide) (by
    show _ < if ℓ = 0 then (if (0 : ℕ) = 0 then 2 else 6) else 4; revert ℓ; decide)
theorem abv_DB (c : Dev nD) : Abv 0 (DB c) := Abv.sum _ fun r _ => Abv.cell _ _ _ _ (by decide) (by show 0 < 1; decide)
theorem abv_O₀ (c : Dev nD) : Abv 0 (O₀ c) :=
  ((((((abv_DF c).mono (by decide)).add ((abv_DG 1 c).mono (by decide))).add ((abv_DR 1 c).mono (by decide))).add
    ((abv_DG 0 c).mono (by decide))).add ((abv_DR 0 c).mono (by decide))).add (abv_DB c)

/-- Partial tiles from every peer, for an owner, in layer `ℓ`. -/
def CR (ℓ : Fin 2) (c : Dev nD) : CellTallies nD τ sig ℕ :=
  if isO c then ∑ r : Fin 15, tallyAt (cell c (.inr (kR ℓ (pr c r)))) 0 N else 0
/-- A reduced tile from every other owner, in layer `ℓ`. -/
def CG (ℓ : Fin 2) (c : Dev nD) : CellTallies nD τ sig ℕ :=
  ∑ w : Fin 8, if ow w = c then 0 else tallyAt (cell c (.inr (kG ℓ w))) 0 N
/-- A tile of the last products from every peer. -/
def CF (c : Dev nD) : CellTallies nD τ sig ℕ := ∑ r : Fin 15, tallyAt (cell c (.inr (kR 0 (pr c r)))) 1 N
def C₀ (c : Dev nD) : CellTallies nD τ sig ℕ :=
  CF c + CG 1 c + CR 1 c + CG 0 c + CR 0 c + tallyAt (cell c (.inl ())) 0 15

section Sums
variable {A : Type} [AddCommMonoid A]

/-- A sum over the peers by distance is one over the other devices. -/
theorem sum_pr (c : Dev nD) (f : Dev nD → A) : ∑ r, f (pr c r) = ∑ t, if t = c then 0 else f t := by
  have h : ∑ r, f (pr c r) = ∑ t ∈ Finset.univ.erase c, f t := by rw [← map_pr c, Finset.sum_map]; rfl
  rw [h, ← Finset.sum_erase (a := c) Finset.univ (f := fun t => if t = c then 0 else f t) (if_pos rfl)]
  exact Finset.sum_congr rfl fun t ht => (if_neg (Finset.ne_of_mem_erase ht)).symm

/-- A sum over the tiles by their owners is one over the owners. -/
theorem sum_ow (f : Dev nD → A) : ∑ w, f (ow w) = ∑ t, if isO t then f t else 0 := by
  have h : ∑ w, f (ow w) = ∑ t ∈ (Finset.univ : Finset (Dev nD)).filter isO, f t := by rw [← map_ow, Finset.sum_map]; rfl
  rw [h, Finset.sum_filter]

/-- What every device sends to every peer is what every device gets from every peer. -/
theorem sum_peers (f : Dev nD → Dev nD → A) : ∑ c, ∑ r, f c (pr c r) = ∑ c, ∑ r, f (pr c r) c := by
  rw [Finset.sum_congr rfl fun c _ => sum_pr c (f c), Finset.sum_congr rfl fun c _ => sum_pr c fun t => f t c, Finset.sum_comm]
  exact Finset.sum_congr rfl fun c _ => Finset.sum_congr rfl fun t _ => by
    by_cases h : c = t
    · rw [if_pos h, if_pos h.symm]
    · rw [if_neg h, if_neg (Ne.symm h)]

/-- What every device sends to every other owner is what the owners get from their peers. -/
theorem sum_owners (f : Dev nD → Dev nD → A) :
    (∑ c, ∑ w : Fin 8, if ow w = c then 0 else f c (ow w)) = ∑ c, if isO c then ∑ r, f (pr c r) c else 0 := by
  rw [Finset.sum_comm, sum_ow fun t => ∑ c, if t = c then 0 else f c t]
  refine Finset.sum_congr rfl fun t _ => ?_
  by_cases h : isO t
  · rw [if_pos h, if_pos h, sum_pr t fun s => f s t]
    exact Finset.sum_congr rfl fun s _ => by
      by_cases h : s = t
      · rw [if_pos h, if_pos h.symm]
      · rw [if_neg h, if_neg (Ne.symm h)]
  · rw [if_neg h, if_neg h]

end Sums

theorem tallyAt_nsmul (g : GSem nD τ sig) (n : ℕ) : (∑ _r : Fin n, tallyAt g (0 : ℕ) 1) = tallyAt g 0 n := by
  funext g'; refine Finsupp.ext fun i => ?_
  rw [Finset.sum_apply, Finsupp.finset_sum_apply, Finset.sum_congr rfl fun _ _ => tallyAt_apply g 0 1 g' i, tallyAt_apply, Finset.sum_const]
  by_cases h : g' = g ∧ i = 0
  · rw [if_pos h, if_pos h]; simp
  · rw [if_neg h, if_neg h]; simp

/-- Everything owed at launch is what the devices are owed. -/
theorem sum_O₀ : ∑ c, O₀ c = ∑ c, C₀ c := by
  have hF : ∑ c, DF c = ∑ c, CF c := sum_peers fun c t => tallyAt (cell t (.inr (kR 0 c))) 1 N
  have hB : ∑ c, DB c = ∑ c, tallyAt (cell c (.inl ())) 0 15 := by
    refine (sum_peers fun c t => tallyAt (cell t (.inl ())) 0 1).trans (Finset.sum_congr rfl fun c _ => tallyAt_nsmul _ 15)
  have hR (ℓ : Fin 2) : ∑ c, DR ℓ c = ∑ c, CR ℓ c := sum_owners fun c t => tallyAt (cell t (.inr (kR ℓ c))) 0 N
  have hG (ℓ : Fin 2) : ∑ c, DG ℓ c = ∑ c, CG ℓ c := by
    refine Eq.trans ?_ (sum_owners fun c t => tallyAt (cell c (.inr (kG ℓ (wo t)))) 0 N).symm |>.trans ?_
    · rfl
    · exact Finset.sum_congr rfl fun c _ => Finset.sum_congr rfl fun w _ => by rw [wo_ow]
  unfold O₀ C₀
  simp only [Finset.sum_add_distrib]
  rw [hF, hB, hR, hR, hG, hG]

theorem local_at {c : Dev nD} {k : CK} {ι u : ℕ} {g : GSem nD τ sig} (h : tallyAt (cell c k) ι u g ≠ 0) : g.1 = (c.tc : Thread nD τ) := by
  by_contra hn
  exact h (tallyAt_ne_cell (fun e => hn (by rw [e]; rfl)) ι u)

/-- What a device is owed is on its own cells. -/
theorem local_C₀ (c : Dev nD) (g : GSem nD τ sig) (h : C₀ c g ≠ 0) : g.1 = (c.tc : Thread nD τ) := by
  by_contra hn
  refine h ?_
  have z (k : CK) (ι u : ℕ) : tallyAt (cell c k) ι u g = 0 := by
    by_contra e; exact hn (local_at e)
  have zG (ℓ : Fin 2) : CG ℓ c g = 0 := by
    unfold CG; rw [Finset.sum_apply]
    exact Finset.sum_eq_zero fun w _ => by split <;> [rfl; exact z _ _ _]
  have zR (ℓ : Fin 2) : CR ℓ c g = 0 := by
    unfold CR; split
    · rw [Finset.sum_apply]; exact Finset.sum_eq_zero fun w _ => z _ _ _
    · rfl
  have zF : CF c g = 0 := by unfold CF; rw [Finset.sum_apply]; exact Finset.sum_eq_zero fun w _ => z _ _ _
  unfold C₀
  simp only [Pi.add_apply]
  rw [zF, zG, zG, zR, zR, z]; simp only [add_zero]

/-- Tokens for a sum are the tokens of its terms. -/
theorem cred_sum {α : Type} [DecidableEq α] (s : Finset α) (f : α → CellTallies nD τ sig ℕ) :
    (cred (∑ a ∈ s, f a) : sProp 𝕄) = bigSep s fun a => cred (f a) := by
  induction s using Finset.induction_on with
  | empty => rw [Finset.sum_empty, bigSep_empty]; exact cred_zero
  | insert a s ha ih =>
    rw [Finset.sum_insert ha, bigSep_insert ha, ← ih]
    exact BI.Entails.antisymm (cred_add _ _).1 (cred_add _ _).2

theorem cred_plus (a b : CellTallies nD τ sig ℕ) : (cred (a + b) : sProp 𝕄) = iprop(cred a ∗ cred b) := BI.Entails.antisymm (cred_add a b).1 (cred_add a b).2

/-- What a device is owed, token by token. -/
theorem cred_C₀ (c : Dev nD) : (cred (C₀ c) : sProp 𝕄) ⊢ iprop(cred (tallyAt (cell c (.inl ())) 0 15)
    ∗ (bigSep Finset.univ fun r : Fin 15 => if isO c then cred (tallyAt (cell c (.inr (kR 0 (pr c r)))) 0 N) else iprop(emp))
    ∗ (bigSep Finset.univ fun w : Fin 8 => if ow w = c then iprop(emp) else cred (tallyAt (cell c (.inr (kG 0 w))) 0 N))
    ∗ (bigSep Finset.univ fun r : Fin 15 => if isO c then cred (tallyAt (cell c (.inr (kR 1 (pr c r)))) 0 N) else iprop(emp))
    ∗ (bigSep Finset.univ fun w : Fin 8 => if ow w = c then iprop(emp) else cred (tallyAt (cell c (.inr (kG 1 w))) 0 N))
    ∗ (bigSep Finset.univ fun r : Fin 15 => cred (tallyAt (cell c (.inr (kR 0 (pr c r)))) 1 N))) := by
  have hR (ℓ : Fin 2) : (cred (CR ℓ c) : sProp 𝕄)
      = bigSep Finset.univ fun r : Fin 15 => if isO c then cred (tallyAt (cell c (.inr (kR ℓ (pr c r)))) 0 N) else iprop(emp) := by
    unfold CR
    by_cases h : isO c
    · rw [if_pos h, cred_sum]; exact bigSep_congr fun r _ => (if_pos h).symm
    · rw [if_neg h, bigSep_congr fun r _ => if_neg h]; exact cred_zero.trans (bigSep_emp_const _).symm
  have hG (ℓ : Fin 2) : (cred (CG ℓ c) : sProp 𝕄)
      = bigSep Finset.univ fun w : Fin 8 => if ow w = c then iprop(emp) else cred (tallyAt (cell c (.inr (kG ℓ w))) 0 N) := by
    unfold CG; rw [cred_sum]
    exact bigSep_congr fun w _ => by split <;> [exact cred_zero; rfl]
  unfold C₀
  rw [cred_plus, cred_plus, cred_plus, cred_plus, cred_plus, hR, hR, hG, hG, show (cred (CF c) : sProp 𝕄) = _ from cred_sum _ _]
  iintro ⟨⟨⟨⟨⟨H1, H2⟩, H3⟩, H4⟩, H5⟩, H6⟩
  isplitl [H6]; · iassumption
  isplitl [H5]; · iassumption
  isplitl [H4]; · iassumption
  isplitl [H3]; · iassumption
  isplitl [H2] <;> iassumption

end Cert.KernelIdealRun
-- ==== Proof.KernelIdealRun.Steps.lean ====
/-
# One step of each kind

For every kind of operation the kernel runs, one rule in the schedule's terms: what it takes and what it leaves.
Then the same rules for a run of like operations, one per peer or per tile.
-/
module

public import proofs.«01_k».proof.Proof.KernelIdealRun.Sched

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Dev nD → Inp F)

local notation "𝕄" => MT nD τ sig ℕ (Elt F) ℕ UU ℕ

abbrev 𝒱₀ : Variants := Variants.none

/-- Device `c` runs `p` to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes. -/
def Owes (c : Dev nD) (O : CellTallies nD τ sig ℕ) : sProp 𝕄 := iprop(∃ W, owes (c : Thread nD τ) O W)

/-- Every cell's levels. -/
def Levels : sProp 𝕄 := levAts L lv

instance Levels_persistent : BI.Persistent (Levels (F := F)) := by
  unfold Levels; infer_instance

theorem Levels_wait (c : Dev nD) (k : CK) (ι : ℕ) (hι : ι < 2) {O : CellTallies nD τ sig ℕ} (hO : Abv (lvK ι k) O) :
    Levels (F := F) ⊢ MayWait (c : Thread nD τ) (csem k) ι O :=
  mayWait hO c (csem k) ι hι (le_of_eq (lv_cell c k ι))

/-- The records every step reads: every cell's invariant, every cell at its first round, the levels. -/
def Recs : sProp 𝕄 :=
  iprop((bigSep Finset.univ fun g : Dev nD × CK => iprop(∃ κ, cellInv ER (Rd I) κ (cell g.1 g.2)))
    ∗ (bigSep Finset.univ fun g : Dev nD × CK => reached ER (cell g.1 g.2) 0) ∗ Levels)

instance Recs_persistent : BI.Persistent (Recs I) := by
  unfold Recs; infer_instance

theorem Recs_inv (c : Dev nD) (k : CK) : Recs I ⊢ iprop(∃ κ, cellInv ER (Rd I) κ (cell c k)) := by
  unfold Recs; iintro ⟨H, -, -⟩
  iapply (show (bigSep Finset.univ fun g : Dev nD × CK => iprop(∃ κ, cellInv ER (Rd I) κ (cell g.1 g.2))) ⊢ iprop(∃ κ, cellInv ER (Rd I) κ (cell c k)) from
    bigSep_elim (Finset.mem_univ (c, k))) $$ H

theorem Recs_reached (c : Dev nD) (k : CK) : Recs I ⊢ reached ER (cell c k) 0 := by
  unfold Recs; iintro ⟨-, H, -⟩
  iapply (show (bigSep Finset.univ fun g : Dev nD × CK => reached ER (cell g.1 g.2) 0) ⊢ reached ER (cell c k) 0 from
    bigSep_elim (Finset.mem_univ (c, k))) $$ H

theorem Recs_levels : Recs I ⊢ Levels := by
  unfold Recs; iintro ⟨-, -, H⟩; iexact H

set_option maxRecDepth 65536 in
/-- A wait on a cell of a level below all that is owed. -/
theorem Recs_wait (c : Dev nD) (k : CK) (ι : ℕ) (hι : ι < 2) {O : CellTallies nD τ sig ℕ} (hO : Abv (lvK ι k) O) :
    Recs I ⊢ MayWait (c : Thread nD τ) (csem k) ι O :=
  (Recs_levels I).trans (Levels_wait c k ι hι hO)

/-- One signal to a peer's barrier. -/
theorem step_signal (c : Dev nD) (r : Fin 15) {d : Dev nD} (hd : d = pr c r) {s : Sem sig} (hs : s = barS) {u : Int} (hu : u = 1)
    (O : CellTallies nD τ sig ℕ) {α : Type} {k : PUnit → Prog (TpuEff nD τ sig (Elt F) Λ₀ .tc) α} {Q : α → sProp 𝕄} :
    Recs I ⊢ iprop((dutyTok ER (cell (pr c r) (.inl ())) 0 c ∗ barPay c (pr c r) ∗ Owes c (O + tallyAt (cell (pr c r) (.inl ())) 0 1))
      -∗ (Owes c O -∗ WP c (k ⟨⟩) Q) -∗ WP c (.op (.semSignal (d : Thread nD τ) s u) k) Q) := by
  subst hd; subst hs; subst hu
  iintro #HR ⟨Ht, Hp, HO⟩ Hk
  ihave #Hg := (Recs_inv I (pr c r) (.inl ())) $$ HR
  icases Hg with ⟨%κ, #HI⟩
  ihave #Hr := (Recs_reached I (pr c r) (.inl ())) $$ HR
  unfold Owes; icases HO with ⟨%W, HO⟩
  iapply (Rounds.wp_signal 𝒱₀ ER (Rd I) (c : Thread nD τ) none (dst := (pr c r : Thread nD τ)) (κ := κ)
      (d := c) (by show c ∈ (Rd I).duties (cell (pr c r) (.inl ())) 0; rw [duties_bar]; exact Finset.mem_erase.mpr ⟨(pr_ne c r).symm, Finset.mem_univ _⟩)
      ((amount_cell I (pr c r) (.inl ()) 0 c)) 0 O rfl) $$ [HO Ht Hp]
  · isplitr; · iexact HI
    isplitl [HO]; · iexact HO
    isplitl [Ht]; · iexact Ht
    isplitl [Hp]
    · iapply (show barPay c (pr c r) ⊢ (Rd I).payload ((pr c r : Thread nD τ), .reg barS) 0 c from Entails.of_eq (payload_cell I (pr c r) (.inl ()) 0 c).symm) $$ Hp
    · iexact Hr
  iintro HO
  iapply Hk; iexists _; iexact HO

/-- The wait on the barrier: every peer's slots that this device writes. -/
theorem step_barrier (c : Dev nD) {s : Sem sig} (hs : s = barS) {u : ℕ} (hu : u = 15) {O : CellTallies nD τ sig ℕ} (hO : Abv 1 O)
    {α : Type} {k : PUnit → Prog (TpuEff nD τ sig (Elt F) Λ₀ .tc) α} {Q : α → sProp 𝕄} :
    Recs I ⊢ iprop((cred (tallyAt (cell c (.inl ())) 0 15) ∗ atPos ER (cell c (.inl ())) 0 ∅ 0 ∗ Owes c O)
      -∗ ((Owes c O ∗ atPos ER (cell c (.inl ())) 1 ∅ 0 ∗ bigSep Finset.univ fun r => barPay (pr c r) c) -∗ WP c (k ⟨⟩) Q)
      -∗ WP c (.op (.semWait s u) k) Q) := by
  subst hs; subst hu
  iintro #HR ⟨Hc, Ha, HO⟩ Hk
  ihave #Hg := (Recs_inv I c (.inl ())) $$ HR
  icases Hg with ⟨%κ, #HI⟩
  unfold Owes; icases HO with ⟨%W, HO⟩
  iapply (Rounds.wp_wait_rest_token 𝒱₀ ER (Rd I) (c : Thread nD τ) none (κ := κ) (sm := .reg barS)
      (wpE_semWait_eq 𝒱₀ (c : Thread nD τ) none Set.univ) (Set.mem_univ _) 0 (O := O) (W := W) (R := 0) (m := 0) (T := ∅)
      (by show 0 + 15 = (Rd I).expect (cell c (.inl ())) 0; rw [expect_bar])) $$ [Hc HO Ha]
  · isplitr; · iexact HI
    isplitl [Hc]; · iexact Hc
    isplitl [HO]; · iexact HO
    isplitr; · iapply (show Recs I ⊢ MayWait (c : Thread nD τ) (.reg barS) 0 O from Recs_wait I c (.inl ()) 0 (by decide) hO); iexact HR
    iexact Ha
  iintro ⟨HO, Ha, -, Hp⟩
  iapply Hk
  isplitl [HO]; · iexists _; iexact HO
  isplitl [Ha]; · iexact Ha
  iapply (show (bigSep ((Rd I).duties ((c : Thread nD τ), .reg barS) 0 \ ∅) fun d => (Rd I).payload ((c : Thread nD τ), .reg barS) 0 d)
    ⊢ bigSep Finset.univ fun r => barPay (pr c r) c from Entails.of_eq (rest_bar I c)) $$ Hp

/-- A wait on one of the kernel's own semaphores: what its round hands over. -/
theorem step_wait (c : Dev nD) (k' : Ko) (r : ℕ) (hr : r < fin c (.inr k')) (ι : ℕ) (hι : ι < 2) {O : CellTallies nD τ sig ℕ}
    (hO : Abv (lvK ι (.inr k')) O ∨ O = 0)
    {sem : DmaSem sig} (hsem : sem = odma k') {src dst : Memref sig .tc .vmem S8x512 .f32} {h₁ : src.view.WordExact} {h₂ : dst.view.WordExact}
    (hN : dst.view.dmaCredit = N)
    {α : Type} {k : PUnit → Prog (TpuEff nD τ sig (Elt F) Λ₀ .tc) α} {Q : α → sProp 𝕄} :
    Recs I ⊢ iprop((cred (tallyAt (cell c (.inr k')) ι N) ∗ atPos ER (cell c (.inr k')) r ∅ 0 ∗ Owes c O)
      -∗ ((Owes c O ∗ atPos ER (cell c (.inr k')) (r + 1) ∅ 0 ∗ reached ER (cell c (.inr k')) (r + 1) ∗ pay I c r k') -∗ WP c (k ⟨⟩) Q)
      -∗ WP c (.op (.waitDma2 sem src dst h₁ h₂) k) Q) := by
  subst hsem
  iintro #HR ⟨Hc, Ha, HO⟩ Hk
  ihave #Hg := (Recs_inv I c (.inr k')) $$ HR
  icases Hg with ⟨%κ, #HI⟩
  unfold Owes; icases HO with ⟨%W, HO⟩
  iapply (Rounds.wp_wait_rest_token 𝒱₀ ER (Rd I) (c : Thread nD τ) none (κ := κ) (sm := .dma (odma k')) (k' := dst.view.dmaCredit)
      (wpE_waitDma2_eq 𝒱₀ (c : Thread nD τ) none Set.univ) (Set.mem_univ _) ι (O := O) (W := W) (R := r) (m := 0) (T := ∅)
      (by show 0 + _ = (Rd I).expect (cell c (.inr k')) r; rw [expect_own I hr, hN, Nat.zero_add])) $$ [Hc HO Ha]
  · isplitr; · iexact HI
    isplitl [Hc]
    · rw [hN]; iexact Hc
    isplitl [HO]; · iexact HO
    isplitr
    · rcases hO with hO | rfl
      · iapply (show Recs I ⊢ MayWait (c : Thread nD τ) (.dma (odma k')) ι O from Recs_wait I c (.inr k') ι hι hO); iexact HR
      · rw [MayWait_zero]; iempintro
    iexact Ha
  iintro ⟨HO, Ha, Hr, Hp⟩
  iapply Hk
  isplitl [HO]; · iexists _; iexact HO
  isplitl [Ha]; · iexact Ha
  isplitl [Hr]; · iexact Hr
  iapply (show (bigSep ((Rd I).duties ((c : Thread nD τ), .dma (odma k')) r \ ∅) fun d => (Rd I).payload ((c : Thread nD τ), .dma (odma k')) r d)
    ⊢ pay I c r k' from Entails.of_eq (rest_own I hr)) $$ Hp

/-- A transfer of a tile to another device: the source is lent to the send cell's round, the landed tile and what goes with it
    to the receive cell's. -/
theorem step_send (c t : Dev nD) (k₁ k₂ : Ko) (r₁ r₂ : ℕ) (h₁ : r₁ < fin c (.inr k₁)) (h₂ : r₂ < fin t (.inr k₂))
    (hp₁ : payer c k₁ = c) (hp₂ : payer t k₂ = c) (ι : ℕ) {src dst : Memref sig .tc .vmem S8x512 .f32}
    {q : PosShare TreeShare} {X : Tile F} {G : sProp 𝕄}
    (hq₁ : owns (c : Thread nD τ) src q X ⊢ pay I c r₁ k₁) (hq₂ : iprop(owns (t : Thread nD τ) dst fullShare X ∗ G) ⊢ pay I t r₂ k₂)
    {d : Dev nD} (hd : d = t) {src' dst' : Memref sig .tc .vmem S8x512 .f32} (hsrc : src' = src) (hdst : dst' = dst)
    {s₁ s₂ : DmaSem sig} (hs₁ : s₁ = odma k₁) (hs₂ : s₂ = odma k₂) {hsc : dst'.view.ref.isScScratch = false}
    {w₁ : src'.view.WordExact} {w₂ : dst'.view.WordExact}
    {ht : DmaTarget.Typed .vmem (.dma s₂) (.remote (d : Thread nD τ) dst' (.dma s₁) hsc)} (hN : dst.view.dmaCredit = N)
    (O : CellTallies nD τ sig ℕ) {α : Type} {k : PUnit → Prog (TpuEff nD τ sig (Elt F) Λ₀ .tc) α} {Q : α → sProp 𝕄} :
    Recs I ⊢ iprop((owns (c : Thread nD τ) src q X ∗ some1 t dst ∗ G
        ∗ dutyTok ER (cell c (.inr k₁)) r₁ c ∗ reached ER (cell c (.inr k₁)) r₁
        ∗ dutyTok ER (cell t (.inr k₂)) r₂ c ∗ reached ER (cell t (.inr k₂)) r₂
        ∗ Owes c (O + tallyAt (cell t (.inr k₂)) ι N))
      -∗ ((cred (tallyAt (cell c (.inr k₁)) 0 N) ∗ Owes c O) -∗ WP c (k ⟨⟩) Q)
      -∗ WP c (.op (.enqueueDma src' (.remote (d : Thread nD τ) dst' (.dma s₁) hsc) (.dma s₂) w₁ w₂ ht) k) Q) := by
  subst hd; subst hsrc; subst hdst; subst hs₁; subst hs₂
  iintro #HR ⟨Hs, Hd, HG, Ht₁, Hr₁, Ht₂, Hr₂, HO⟩ Hk
  ihave #Hg := (Recs_inv I c (.inr k₁)) $$ HR
  icases Hg with ⟨%κ₁, #HI₁⟩
  ihave #Hg' := (Recs_inv I d (.inr k₂)) $$ HR
  icases Hg' with ⟨%κ₂, #HI₂⟩
  unfold Owes; icases HO with ⟨%W, HO⟩
  unfold some1; icases Hd with ⟨%Y, Hd⟩
  ihave Hs := (show owns (c : Thread nD τ) src' q X ⊢ iprop(∃ f, ⌜src'.view.read (Elt F) f = X⌝ ∗ (src'.view.loc (c : Thread nD τ) ↦[src'.view.set]{q} f))
    from BI.Entails.refl _) $$ Hs
  ihave Hd := (show owns (d : Thread nD τ) dst' fullShare Y ⊢ iprop(∃ f, ⌜dst'.view.read (Elt F) f = Y⌝ ∗ (dst'.view.loc (d : Thread nD τ) ↦[dst'.view.set]{fullShare} f))
    from BI.Entails.refl _) $$ Hd
  icases Hs with ⟨%f, %hf, Hs⟩; icases Hd with ⟨%g, %hg, Hd⟩
  iapply (Rounds.wp_send_pointsTo_with 𝒱₀ ER (Rd I) (c : Thread nD τ) none (c' := (d : Thread nD τ)) (κ₁ := κ₁) (κ₂ := κ₂)
    (r₁ := r₁) (r₂ := r₂) (d₁ := c) (d₂ := c) (q := q) (fs := f) (fd := g) (F := G)
    (by show c ∈ (Rd I).duties (cell c (.inr k₁)) r₁; rw [duties_own I h₁, hp₁]; exact Finset.mem_singleton_self _)
    (by show c ∈ (Rd I).duties (cell d (.inr k₂)) r₂; rw [duties_own I h₂, hp₂]; exact Finset.mem_singleton_self _)
    ι 0 N (show dst'.view.amount (.dma (odma k₂)) = N from hN) (amount_cell I c (.inr k₁) r₁ c) (amount_cell I d (.inr k₂) r₂ c) O rfl (W := W)
    (by
      refine BI.Entails.trans (M := 𝕄) ?_ (hq₁.trans (Entails.of_eq (payload_cell I c (.inr k₁) r₁ c).symm))
      exact hf ▸ owns_intro (c : Thread nD τ) src' q f)
    (by
      refine BI.Entails.trans (M := 𝕄) ?_ (hq₂.trans (Entails.of_eq (payload_cell I d (.inr k₂) r₂ c).symm))
      exact sep_mono_left (PROP := sProp 𝕄) (((View.read_write_univ _ _).trans hf) ▸ owns_intro (d : Thread nD τ) dst' fullShare _))) $$ [Hs Hd HG Ht₁ Hr₁ Ht₂ Hr₂ HO]
  · isplitr; · iexact HI₁
    isplitr; · iexact HI₂
    isplitl [Hs]; · iexact Hs
    isplitl [Hd HG]
    · isplitl [Hd]; · iexact Hd
      iexact HG
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [Hc]; · iexact Hc
  iexists _; iexact HO

/-- A load of one tile of a buffer. -/
theorem step_load_tile (c : Dev nD) {n : ℕ} (M : Memref sig .tc .vmem (Rows n) .f32) (i : Fin n) {q : PosShare TreeShare} {X : Tile F}
    {off : Fin 2 → ℕ} (hoff : off = ![8 * i.val, 0]) {inb : ∀ a, off a + S8x512.size a ≤ (Rows n).size a}
    {hl} {α : Type} {k : Vec F S8x512 .f32 → Prog (TpuEff nD τ sig (Elt F) Λ₀ .tc) α} {Q : α → sProp 𝕄} :
    owns (c : Thread nD τ) (slot M i) q X ⊢ iprop((owns (c : Thread nD τ) (slot M i) q X -∗ WP c (k X) Q)
      -∗ WP c (.op (.load M (Rect.unit (s := Rows n) off S8x512.size inb).toLoadRect hl) k) Q) := by
  subst hoff
  iintro H Hk
  ihave H := (show owns (c : Thread nD τ) (slot M i) q X
    ⊢ iprop(∃ f, ⌜(slot M i).view.read (Elt F) f = X⌝ ∗ ((slot M i).view.loc (c : Thread nD τ) ↦[(slot M i).view.set]{q} f))
    from BI.Entails.refl _) $$ H
  icases H with ⟨%f, %hf, H⟩
  iapply (wp_load_rect 𝒱₀ (c : Thread nD τ) none Set.univ (m := M) (r := tileRect i) (Finset.Subset.refl _)) $$ H
  iintro H
  have e : (M.access (tileRect i)).read (Elt F) f = X := hf
  rw [e]
  iapply Hk
  iapply (show iprop(∃ f, ⌜(slot M i).view.read (Elt F) f = X⌝ ∗ ((slot M i).view.loc (c : Thread nD τ) ↦[(slot M i).view.set]{q} f))
    ⊢ owns (c : Thread nD τ) (slot M i) q X from BI.Entails.refl _)
  iexists f; isplitr; · ipureintro; exact hf
  iexact H

end Cert.KernelIdealRun
-- ==== Proof.KernelIdealRun.Match.lean ====
/-
# The kernel's addresses by name

The slices, semaphores, devices and conditions the kernel computes, as the tiles, cells and devices of the schedule.
-/
module

public import proofs.«01_k».proof.Proof.KernelIdealRun.Steps

@[expose] public section

noncomputable section

namespace Cert.KernelIdealRun

open Cert.KernelIdeal Cert.KernelIdeal.Gen

open Idealize.ShloMosaic
open Idealize.ShloMosaic.TcCoe

/-- A slice at row `8 i` is tile `i`. -/
theorem slot_eq {n : ℕ} (M : Memref sig .tc .vmem (Rows n) .f32) (i : Fin n) {off : Fin 2 → ℕ} (h : off = ![8 * i.val, 0])
    {p : ∀ a, off a + S8x512.size a ≤ (Rows n).size a} {hs} :
    M.slice (Rect.unit (s := Rows n) off S8x512.size p) hs = slot M i := by
  subst h; rfl

theorem semS {off : Fin 1 → ℕ} (w : Fin 8) (h : off = ![w.val]) {p : ∀ a, off a + S1.size a ≤ S8.size a} {hq} :
    ((cc0_scratch5.slice (Rect.unit (s := S8) off S1.size p)).squeeze S_ hq).sem = odma (kS w) := by
  subst h; decide +revert +kernel
theorem semA {off : Fin 1 → ℕ} (w : Fin 16) (h : off = ![w.val]) {p : ∀ a, off a + S1.size a ≤ S16.size a} {hq} :
    ((cc0_scratch6.slice (Rect.unit (s := S16) off S1.size p)).squeeze S_ hq).sem = odma (kA w) := by
  subst h; decide +revert +kernel
theorem semR0 {off : Fin 1 → ℕ} (w : Fin 16) (h : off = ![w.val]) {p : ∀ a, off a + S1.size a ≤ S16.size a} {hq} :
    ((cc0_scratch7.slice (Rect.unit (s := S16) off S1.size p)).squeeze S_ hq).sem = odma (kR 0 w) := by
  subst h; decide +revert +kernel
theorem semR1 {off : Fin 1 → ℕ} (w : Fin 16) (h : off = ![w.val]) {p : ∀ a, off a + S1.size a ≤ S16.size a} {hq} :
    ((cc0_scratch8.slice (Rect.unit (s := S16) off S1.size p)).squeeze S_ hq).sem = odma (kR 1 w) := by
  subst h; decide +revert +kernel
theorem semG0 {off : Fin 1 → ℕ} (w : Fin 8) (h : off = ![w.val]) {p : ∀ a, off a + S1.size a ≤ S8.size a} {hq} :
    ((cc0_scratch9.slice (Rect.unit (s := S8) off S1.size p)).squeeze S_ hq).sem = odma (kG 0 w) := by
  subst h; decide +revert +kernel
theorem semG1 {off : Fin 1 → ℕ} (w : Fin 8) (h : off = ![w.val]) {p : ∀ a, off a + S1.size a ≤ S8.size a} {hq} :
    ((cc0_scratch10.slice (Rect.unit (s := S8) off S1.size p)).squeeze S_ hq).sem = odma (kG 1 w) := by
  subst h; decide +revert +kernel

theorem off17_eq : ∀ c : Dev nD, isO c → k0_off17 c = ![8 * (wo c).val, 0] := by decide +kernel
theorem off21_eq : ∀ c : Dev nD, isO c → k0_off21 c = ![(wo c).val] := by decide +kernel
theorem off22_eq : ∀ c : Dev nD, isO c → k0_off22 c = ![8 * (wo c).val, 0] := by decide +kernel
theorem off48_eq : ∀ c : Dev nD, isO c → k0_off48 c = ![8 * (wo c).val, 0] := by decide +kernel
theorem off52_eq : ∀ c : Dev nD, isO c → k0_off52 c = ![(wo c).val] := by decide +kernel
theorem off53_eq : ∀ c : Dev nD, isO c → k0_off53 c = ![8 * (wo c).val, 0] := by decide +kernel
theorem off65_eq : ∀ (c : Dev nD) (r : Fin 15), k0_off65 c (BitVec.ofNat 32 (1 + r.val)) = ![8 * (fw (pr c r)).val, 0] := by decide +kernel
theorem off66_eq : ∀ c : Dev nD, k0_off66 c = ![8 * (fw c).val, 0] := by decide +kernel

theorem cond9_iff : ∀ c : Dev nD, k0_cond9 c = 1#1 ↔ isO c := by decide +kernel
theorem cond35_iff : ∀ c : Dev nD, k0_cond35 c = 1#1 ↔ isO c := by decide +kernel
theorem cond1_iff : ∀ c : Dev nD, k0_cond1 c = 1#1 ↔ ow 0 ≠ c := by decide +kernel
theorem cond8_iff : ∀ c : Dev nD, k0_cond8 c = 1#1 ↔ ow 7 ≠ c := by decide +kernel
theorem cond2_iff : ∀ c : Dev nD, k0_cond2 c = 1#1 ↔ ow 1 ≠ c := by decide +kernel
theorem cond3_iff : ∀ c : Dev nD, k0_cond3 c = 1#1 ↔ ow 2 ≠ c := by decide +kernel
theorem cond4_iff : ∀ c : Dev nD, k0_cond4 c = 1#1 ↔ ow 3 ≠ c := by decide +kernel
theorem cond5_iff : ∀ c : Dev nD, k0_cond5 c = 1#1 ↔ ow 4 ≠ c := by decide +kernel
theorem cond6_iff : ∀ c : Dev nD, k0_cond6 c = 1#1 ↔ ow 5 ≠ c := by decide +kernel
theorem cond7_iff : ∀ c : Dev nD, k0_cond7 c = 1#1 ↔ ow 6 ≠ c := by decide +kernel
theorem cond18_iff : ∀ c : Dev nD, k0_cond18 c = 1#1 ↔ ow 0 ≠ c := by decide +kernel
theorem cond19_iff : ∀ c : Dev nD, k0_cond19 c = 1#1 ↔ ow 1 ≠ c := by decide +kernel
theorem cond20_iff : ∀ c : Dev nD, k0_cond20 c = 1#1 ↔ ow 2 ≠ c := by decide +kernel
theorem cond21_iff : ∀ c : Dev nD, k0_cond21 c = 1#1 ↔ ow 3 ≠ c := by decide +kernel
theorem cond22_iff : ∀ c : Dev nD, k0_cond22 c = 1#1 ↔ ow 4 ≠ c := by decide +kernel
theorem cond23_iff : ∀ c : Dev nD, k0_cond23 c = 1#1 ↔ ow 5 ≠ c := by decide +kernel
theorem cond24_iff : ∀ c : Dev nD, k0_cond24 c = 1#1 ↔ ow 6 ≠ c := by decide +kernel
theorem cond25_iff : ∀ c : Dev nD, k0_cond25 c = 1#1 ↔ ow 7 ≠ c := by decide +kernel
theorem cond27_iff : ∀ c : Dev nD, k0_cond27 c = 1#1 ↔ ow 0 ≠ c := by decide +kernel
theorem cond28_iff : ∀ c : Dev nD, k0_cond28 c = 1#1 ↔ ow 1 ≠ c := by decide +kernel
theorem cond29_iff : ∀ c : Dev nD, k0_cond29 c = 1#1 ↔ ow 2 ≠ c := by decide +kernel
theorem cond30_iff : ∀ c : Dev nD, k0_cond30 c = 1#1 ↔ ow 3 ≠ c := by decide +kernel
theorem cond31_iff : ∀ c : Dev nD, k0_cond31 c = 1#1 ↔ ow 4 ≠ c := by decide +kernel
theorem cond32_iff : ∀ c : Dev nD, k0_cond32 c = 1#1 ↔ ow 5 ≠ c := by decide +kernel
theorem cond33_iff : ∀ c : Dev nD, k0_cond33 c = 1#1 ↔ ow 6 ≠ c := by decide +kernel
theorem cond34_iff : ∀ c : Dev nD, k0_cond34 c = 1#1 ↔ ow 7 ≠ c := by decide +kernel
theorem cond44_iff : ∀ c : Dev nD, k0_cond44 c = 1#1 ↔ ow 0 ≠ c := by decide +kernel
theorem cond45_iff : ∀ c : Dev nD, k0_cond45 c = 1#1 ↔ ow 1 ≠ c := by decide +kernel
theorem cond46_iff : ∀ c : Dev nD, k0_cond46 c = 1#1 ↔ ow 2 ≠ c := by decide +kernel
theorem cond47_iff : ∀ c : Dev nD, k0_cond47 c = 1#1 ↔ ow 3 ≠ c := by decide +kernel
theorem cond48_iff : ∀ c : Dev nD, k0_cond48 c = 1#1 ↔ ow 4 ≠ c := by decide +kernel
theorem cond49_iff : ∀ c : Dev nD, k0_cond49 c = 1#1 ↔ ow 5 ≠ c := by decide +kernel
theorem cond50_iff : ∀ c : Dev nD, k0_cond50 c = 1#1 ↔ ow 6 ≠ c := by decide +kernel
theorem cond51_iff : ∀ c : Dev nD, k0_cond51 c = 1#1 ↔ ow 7 ≠ c := by decide +kernel
theorem cond26_iff : ∀ c : Dev nD, k0_cond26 c = 1#1 ↔ isO c := by decide +kernel
theorem cond52_iff : ∀ c : Dev nD, k0_cond52 c = 1#1 ↔ isO c := by decide +kernel

/-- A word test of a device's position against `4 + w`. -/
theorem v2w_iff : ∀ (c : Dev nD) (w : Fin 8),
    Scalar.cmpi .ne (Scalar.extui (Scalar.cmpi .ne (v2w c) (BitVec.ofNat 32 (4 + w.val))) : BitVec 32) 0#32 = 1#1 ↔ ow w ≠ c := by
  decide +kernel

end Cert.KernelIdealRun
-- ==== Proof.KernelIdealRun.Loads.lean ====
/-
# Loads, stores, waits and tests as the kernel writes them

The rules of one step, once more, with the operands spelled as slices of the kernel's own buffers.
-/
module

public import proofs.«01_k».proof.Proof.KernelIdealRun.Match

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Dev nD → Inp F)

local notation "𝕄" => MT nD τ sig ℕ (Elt F) ℕ UU ℕ

/-- A load of a whole buffer. -/
theorem step_load_all (c : Dev nD) {s : Shape} {e : EltTy} (M : Memref sig .tc .vmem s e) (hM : M.IsWhole) {q : PosShare TreeShare} {X : s.Idx → Elt F e}
    {off : Fin s.rank → ℕ} (hoff : off = fun _ => 0) {inb : ∀ a, off a + s.size a ≤ s.size a}
    {hl : M.view.LoadsAt (Rect.unit (s := s) off s.size inb).toLoadRect}
    {α : Type} {k : (s.Idx → Elt F e) → Prog (TpuEff nD τ sig (Elt F) Λ₀ .tc) α} {Q : α → sProp 𝕄} :
    owns (c : Thread nD τ) M q X ⊢ iprop((owns (c : Thread nD τ) M q X -∗ WP c (k X) Q)
      -∗ WP c (.op (.load M (Rect.unit (s := s) off s.size inb).toLoadRect hl) k) Q) := by
  obtain ⟨⟨sp', i, hn⟩, hsp, rfl, rfl, h⟩ := hM
  subst hsp; cases h
  rw [owns_whole_eq]
  iintro ⟨%f, %hf, H⟩ Hk
  iapply (wp_load 𝒱₀ (c : Thread nD τ) none Set.univ (m := Memref.whole (⟨.vmem, i, hn⟩ : Ref sig .tc)) (Finset.subset_univ _)) $$ H
  iintro H
  rw [Memref.readAt_unit_zero (Elt F) _ hoff inb f, hf]
  iapply Hk
  iexists f; isplitr; · ipureintro; exact hf
  subst hf; iexact H

/-- A store over a whole buffer. -/
theorem step_store_all (c : Dev nD) {s : Shape} {e : EltTy} (M : Memref sig .tc .vmem s e) (hM : M.IsWhole)
    {off : Fin s.rank → ℕ} (hoff : off = fun _ => 0) {inb : ∀ a, off a + s.size a ≤ s.size a}
    {w : s.Idx → Elt F e} {hx : (M.access (Rect.unit (s := s) off s.size inb)).Stores Finset.univ} {hm}
    {α : Type} {k : PUnit → Prog (TpuEff nD τ sig (Elt F) Λ₀ .tc) α} {Q : α → sProp 𝕄} {X : s.Idx → Elt F e} :
    owns (c : Thread nD τ) M fullShare X ⊢ iprop((owns (c : Thread nD τ) M fullShare w -∗ WP c (k ⟨⟩) Q)
      -∗ WP c (.op (.store M (Rect.unit (s := s) off s.size inb) w Finset.univ hx hm) k) Q) := by
  obtain ⟨⟨sp', i, hn⟩, hsp, rfl, rfl, h⟩ := hM
  subst hsp; cases h
  rw [owns_whole_eq, owns_whole_eq]
  iintro ⟨%f, %hf, H⟩ Hk
  iapply (wp_store 𝒱₀ (c : Thread nD τ) none Set.univ (m := Memref.whole (⟨.vmem, i, hn⟩ : Ref sig .tc)) (r := Rect.unit off _ inb)
    (Mk := Finset.univ) (Finset.subset_univ _)) $$ H
  iintro H
  iapply Hk
  iexists _; isplitr
  · ipureintro; exact Memref.write_access_unit_zero_univ (Elt F) _ hoff inb f w
  iexact H

/-- A store over one tile of a buffer. -/
theorem step_store_tile (c : Dev nD) {n : ℕ} (M : Memref sig .tc .vmem (Rows n) .f32) (i : Fin n)
    {off : Fin 2 → ℕ} (hoff : off = ![8 * i.val, 0]) {inb : ∀ a, off a + S8x512.size a ≤ (Rows n).size a} {w : Tile F} {hx hm}
    {α : Type} {k : PUnit → Prog (TpuEff nD τ sig (Elt F) Λ₀ .tc) α} {Q : α → sProp 𝕄} {X : Tile F} :
    owns (c : Thread nD τ) (slot M i) fullShare X ⊢ iprop((owns (c : Thread nD τ) (slot M i) fullShare w -∗ WP c (k ⟨⟩) Q)
      -∗ WP c (.op (.store M (Rect.unit (s := Rows n) off S8x512.size inb) w Finset.univ hx hm) k) Q) := by
  subst hoff
  iintro H Hk
  ihave H := (show owns (c : Thread nD τ) (slot M i) fullShare X
    ⊢ iprop(∃ f, ⌜(slot M i).view.read (Elt F) f = X⌝ ∗ ((slot M i).view.loc (c : Thread nD τ) ↦[(slot M i).view.set]{fullShare} f))
    from BI.Entails.refl _) $$ H
  icases H with ⟨%f, %hf, H⟩
  iapply (wp_store 𝒱₀ (c : Thread nD τ) none Set.univ (m := M) (r := tileRect i) (Mk := Finset.univ) (S := (slot M i).view.set) (Finset.Subset.refl _)) $$ H
  iintro H
  iapply Hk
  iapply (show iprop(∃ f, ⌜(slot M i).view.read (Elt F) f = w⌝ ∗ ((slot M i).view.loc (c : Thread nD τ) ↦[(slot M i).view.set]{fullShare} f))
    ⊢ owns (c : Thread nD τ) (slot M i) fullShare w from BI.Entails.refl _)
  iexists _; isplitr
  · ipureintro; exact View.read_write_univ (v := (M.access (tileRect i))) (Val := Elt F) f w
  iexact H

/-- A tile of any of the kernel's buffers credits the same units. -/
theorem credit_pb {off : Fin 2 → ℕ} {p : ∀ a, off a + S8x512.size a ≤ (Rows 8).size a} {hs} :
    (pb.slice (Rect.unit (s := Rows 8) off S8x512.size p) hs).view.dmaCredit = N := rfl
theorem credit_rb {ℓ : ℕ} {off : Fin 2 → ℕ} {p : ∀ a, off a + S8x512.size a ≤ (Rows 16).size a} {hs} :
    ((rb ℓ).slice (Rect.unit (s := Rows 16) off S8x512.size p) hs).view.dmaCredit = N := by
  cases ℓ <;> rfl
theorem credit_xb {ℓ : ℕ} {off : Fin 2 → ℕ} {p : ∀ a, off a + S8x512.size a ≤ (Rows 8).size a} {hs} :
    ((xb ℓ).slice (Rect.unit (s := Rows 8) off S8x512.size p) hs).view.dmaCredit = N := by
  cases ℓ <;> rfl

/-- A test that holds. -/
theorem wp_then (c : Dev nD) {p : Prop} [Decidable p] (h : p) {α : Type} {t : p → Prog (TpuEff nD τ sig (Elt F) Λ₀ .tc) α}
    {e : ¬ p → Prog (TpuEff nD τ sig (Elt F) Λ₀ .tc) α} {Q : α → sProp 𝕄} : WP c (t h) Q ⊢ WP c (dite p t e) Q :=
  Entails.of_eq (by rw [dif_pos h])
/-- A test that fails. -/
theorem wp_else (c : Dev nD) {p : Prop} [Decidable p] (h : ¬ p) {α : Type} {t : p → Prog (TpuEff nD τ sig (Elt F) Λ₀ .tc) α}
    {e : ¬ p → Prog (TpuEff nD τ sig (Elt F) Λ₀ .tc) α} {Q : α → sProp 𝕄} : WP c (e h) Q ⊢ WP c (dite p t e) Q :=
  Entails.of_eq (by rw [dif_neg h])

end Cert.KernelIdealRun
-- ==== Proof.KernelIdealRun.Phases.lean ====
/-
# The stages of the kernel

Each stage is a run of like operations, one per peer or per tile. Its state after `n` of them: what the first `n` left,
what the others will take, and what is still owed. One rule per stage, for its next operation.
-/
module

public import proofs.«01_k».proof.Proof.KernelIdealRun.Loads

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Dev nD → Inp F)

local notation "𝕄" => MT nD τ sig ℕ (Elt F) ℕ UU ℕ

/-! ## A run of like operations -/

section Run
variable {m : ℕ}

/-- Of a run of operations that each take `Φ` and leave `Ψ`, the first `n` are done. -/
def Bs (Φ Ψ : Fin m → sProp 𝕄) (n : ℕ) : sProp 𝕄 := bigSep Finset.univ fun o => if o.val < n then Ψ o else Φ o

theorem Bs_start (Φ Ψ : Fin m → sProp 𝕄) : Bs Φ Ψ 0 = bigSep Finset.univ Φ :=
  bigSep_congr fun o _ => if_neg (Nat.not_lt_zero _)
theorem Bs_end (Φ Ψ : Fin m → sProp 𝕄) : Bs Φ Ψ m = bigSep Finset.univ Ψ :=
  bigSep_congr fun o _ => if_pos o.isLt

/-- The next operation's share, and what it has to leave. -/
theorem Bs_turn (Φ Ψ : Fin m → sProp 𝕄) (i : Fin m) :
    Bs Φ Ψ i.val ⊢ iprop(Φ i ∗ (Ψ i -∗ Bs Φ Ψ (i.val + 1))) := by
  have h := bigSep_univ_update (M := 𝕄) (Φ := fun o : Fin m => if o.val < i.val then Ψ o else Φ o)
    (Ψ := fun o : Fin m => if o.val < i.val + 1 then Ψ o else Φ o) i fun j hj => by
      have : j.val ≠ i.val := fun e => hj (Fin.ext e)
      by_cases hlt : j.val < i.val
      · rw [if_pos hlt, if_pos (by omega)]
      · rw [if_neg hlt, if_neg (by omega)]
  rw [if_neg (Nat.lt_irrefl _), if_pos (Nat.lt_succ_self _)] at h
  exact h

/-- What a done operation left, to be read and put back. -/
theorem Bs_get (Φ Ψ : Fin m → sProp 𝕄) (n : ℕ) (i : Fin m) (hi : i.val < n) :
    Bs Φ Ψ n ⊢ iprop(Ψ i ∗ (Ψ i -∗ Bs Φ Ψ n)) := by
  have h := bigSep_univ_update (M := 𝕄) (Φ := fun o : Fin m => if o.val < n then Ψ o else Φ o)
    (Ψ := fun o : Fin m => if o.val < n then Ψ o else Φ o) i fun j hj => rfl
  rw [if_pos hi] at h
  exact h

/-- The state of a run that pays `f` besides, `R` owed after it. -/
def St (c : Dev nD) (R : CellTallies nD τ sig ℕ) (f : Fin m → CellTallies nD τ sig ℕ) (Φ Ψ : Fin m → sProp 𝕄) (n : ℕ) : sProp 𝕄 :=
  iprop(Owes c (R + ∑ o : Fin m, if o.val < n then 0 else f o) ∗ Bs Φ Ψ n)

theorem St_start (c : Dev nD) (R : CellTallies nD τ sig ℕ) (f : Fin m → CellTallies nD τ sig ℕ) (Φ Ψ : Fin m → sProp 𝕄) :
    iprop(Owes c (R + ∑ o, f o) ∗ bigSep Finset.univ Φ) = St c R f Φ Ψ 0 := by
  unfold St; rw [Bs_start]; rfl

theorem St_end (c : Dev nD) (R : CellTallies nD τ sig ℕ) (f : Fin m → CellTallies nD τ sig ℕ) (Φ Ψ : Fin m → sProp 𝕄) :
    St c R f Φ Ψ m = iprop(Owes c R ∗ bigSep Finset.univ Ψ) := by
  unfold St; rw [Bs_end, Finset.sum_eq_zero fun o _ => if_pos o.isLt, add_zero]

theorem St_turn (c : Dev nD) (R : CellTallies nD τ sig ℕ) (f : Fin m → CellTallies nD τ sig ℕ) (Φ Ψ : Fin m → sProp 𝕄) (i : Fin m) :
    St c R f Φ Ψ i.val ⊢ iprop(∃ O, (Φ i ∗ Owes c (O + f i)) ∗ ((Ψ i ∗ Owes c O) -∗ St c R f Φ Ψ (i.val + 1))) := by
  have e : (∑ o : Fin m, if o.val < i.val then 0 else f o) = (∑ o : Fin m, if o.val < i.val + 1 then 0 else f o) + f i := by
    rw [Fintype.sum_eq_add_sum_compl i, Fintype.sum_eq_add_sum_compl i (fun o : Fin m => if o.val < i.val + 1 then 0 else f o),
      if_neg (Nat.lt_irrefl _), if_pos (Nat.lt_succ_self _), zero_add, add_comm]
    refine congrArg (· + f i) (Finset.sum_congr rfl fun j hj => ?_)
    have : j.val ≠ i.val := fun e => (by simpa using hj : j ≠ i) (Fin.ext e)
    by_cases hlt : j.val < i.val
    · rw [if_pos hlt, if_pos (by omega)]
    · rw [if_neg hlt, if_neg (by omega)]
  unfold St
  rw [e, ← add_assoc]
  iintro ⟨HO, HB⟩
  iexists (R + ∑ o : Fin m, if o.val < i.val + 1 then 0 else f o)
  ihave HB := (Bs_turn Φ Ψ i) $$ HB
  icases HB with ⟨HΦ, HB⟩
  isplitl [HO HΦ]
  · isplitl [HΦ] <;> iassumption
  iintro ⟨HΨ, HO⟩
  isplitl [HO]; · iassumption
  iapply HB $$ HΨ

/-- The state of a run of waits, `R` owed throughout. -/
def Wt (c : Dev nD) (R : CellTallies nD τ sig ℕ) (Φ Ψ : Fin m → sProp 𝕄) (n : ℕ) : sProp 𝕄 := iprop(Owes c R ∗ Bs Φ Ψ n)

theorem Wt_start (c : Dev nD) (R : CellTallies nD τ sig ℕ) (Φ Ψ : Fin m → sProp 𝕄) :
    iprop(Owes c R ∗ bigSep Finset.univ Φ) = Wt c R Φ Ψ 0 := by
  unfold Wt; rw [Bs_start]
theorem Wt_end (c : Dev nD) (R : CellTallies nD τ sig ℕ) (Φ Ψ : Fin m → sProp 𝕄) :
    Wt c R Φ Ψ m = iprop(Owes c R ∗ bigSep Finset.univ Ψ) := by
  unfold Wt; rw [Bs_end]

theorem Wt_turn (c : Dev nD) (R : CellTallies nD τ sig ℕ) (Φ Ψ : Fin m → sProp 𝕄) (i : Fin m) :
    Wt c R Φ Ψ i.val ⊢ iprop((Φ i ∗ Owes c R) ∗ ((Ψ i ∗ Owes c R) -∗ Wt c R Φ Ψ (i.val + 1))) := by
  unfold Wt
  iintro ⟨HO, HB⟩
  ihave HB := (Bs_turn Φ Ψ i) $$ HB
  icases HB with ⟨HΦ, HB⟩
  isplitl [HO HΦ]
  · isplitl [HΦ] <;> iassumption
  iintro ⟨HΨ, HO⟩
  isplitl [HO]; · iassumption
  iapply HB $$ HΨ

theorem Wt_get (c : Dev nD) (R : CellTallies nD τ sig ℕ) (Φ Ψ : Fin m → sProp 𝕄) (n : ℕ) (i : Fin m) (hi : i.val < n) :
    Wt c R Φ Ψ n ⊢ iprop(Ψ i ∗ (Ψ i -∗ Wt c R Φ Ψ n)) := by
  unfold Wt
  iintro ⟨HO, HB⟩
  ihave HB := (Bs_get Φ Ψ n i hi) $$ HB
  icases HB with ⟨HΨ, HB⟩
  isplitl [HΨ]; · iassumption
  iintro HΨ
  isplitl [HO]; · iassumption
  iapply HB $$ HΨ

end Run

/-! ## What each operation of a stage takes and leaves -/

/-- `P`, but for the tile this device reduces itself. -/
def Un (c : Dev nD) (w : Fin 8) (P : sProp 𝕄) : sProp 𝕄 := if ow w = c then iprop(emp) else P

theorem Un_own {c : Dev nD} {w : Fin 8} (h : ow w = c) (P : sProp 𝕄) : Un c w P = iprop(emp) := if_pos h
theorem Un_else {c : Dev nD} {w : Fin 8} (h : ow w ≠ c) (P : sProp 𝕄) : Un c w P = P := if_neg h

/-- Device `c` has done `r` rounds of its cell `k`. -/
abbrev At (c : Dev nD) (k : Ko) (r : ℕ) : sProp 𝕄 := atPos ER (cell c (.inr k)) r ∅ 0
/-- Leave to pay round `r` of device `c`'s cell `k`, for device `s`. -/
abbrev Tok (c : Dev nD) (k : Ko) (r : ℕ) (s : Dev nD) : sProp 𝕄 := dutyTok ER (cell c (.inr k)) r s
/-- Device `c`'s cell `k` has come to round `r`. -/
abbrev Rch (c : Dev nD) (k : Ko) (r : ℕ) : sProp 𝕄 := reached ER (cell c (.inr k)) r
/-- One tile's credit on device `c`'s cell `k`. -/
abbrev Cr (c : Dev nD) (k : Ko) (ι : ℕ) : sProp 𝕄 := cred (tallyAt (cell c (.inr k)) ι N)

/-- Barrier signals. -/
def sigΦ (c : Dev nD) (r : Fin 15) : sProp 𝕄 := iprop(dutyTok ER (cell (pr c r) (.inl ())) 0 c ∗ barPay c (pr c r))
def sigf (c : Dev nD) (r : Fin 15) : CellTallies nD τ sig ℕ := tallyAt (cell (pr c r) (.inl ())) 0 1
def nil {m : ℕ} (_ : Fin m) : sProp 𝕄 := iprop(emp)
abbrev SigS (c : Dev nD) (R : CellTallies nD τ sig ℕ) (n : ℕ) : sProp 𝕄 := St c R (sigf c) (sigΦ (F := F) c) nil n

/-- Partial tiles sent in layer `ℓ`. -/
def rsΦ (ℓ : Fin 2) (c : Dev nD) (w : Fin 8) : sProp 𝕄 :=
  iprop(At c (kS w) (if ow w = c then 0 else ℓ.val)
    ∗ Un c w iprop(owns (c : Thread nD τ) (slot pb w) fullShare (tl (PP I ℓ c) w) ∗ some1 (ow w) (slot (rb ℓ) c) ∗ Gx ℓ c (ow w)
      ∗ Tok c (kS w) ℓ c ∗ Rch c (kS w) ℓ ∗ Tok (ow w) (kR ℓ c) 0 c))
def rsf (ℓ : Fin 2) (c : Dev nD) (w : Fin 8) : CellTallies nD τ sig ℕ :=
  if ow w = c then 0 else tallyAt (cell (ow w) (.inr (kR ℓ c))) 0 N
def swΦ (ℓ : Fin 2) (c : Dev nD) (w : Fin 8) : sProp 𝕄 :=
  iprop(At c (kS w) (if ow w = c then 0 else ℓ.val) ∗ Un c w (Cr c (kS w) 0))
def swΨ (ℓ : Fin 2) (c : Dev nD) (w : Fin 8) : sProp 𝕄 :=
  iprop(At c (kS w) (if ow w = c then 0 else ℓ.val + 1)
    ∗ Un c w iprop(owns (c : Thread nD τ) (slot pb w) fullShare (tl (PP I ℓ c) w) ∗ Rch c (kS w) (ℓ + 1)))
abbrev RsS (ℓ : Fin 2) (c : Dev nD) (R : CellTallies nD τ sig ℕ) (n : ℕ) : sProp 𝕄 := St c R (rsf ℓ c) (rsΦ I ℓ c) (swΦ ℓ c) n
abbrev SwS (ℓ : Fin 2) (c : Dev nD) (R : CellTallies nD τ sig ℕ) (n : ℕ) : sProp 𝕄 := Wt c R (swΦ ℓ c) (swΨ I ℓ c) n

/-- Partial tiles an owner receives in layer `ℓ`. -/
def rvΦ (ℓ : Fin 2) (c : Dev nD) (r : Fin 15) : sProp 𝕄 := iprop(Cr c (kR ℓ (pr c r)) 0 ∗ At c (kR ℓ (pr c r)) 0)
def rvΨ (ℓ : Fin 2) (c : Dev nD) (r : Fin 15) : sProp 𝕄 :=
  iprop(owns (c : Thread nD τ) (slot (rb ℓ) (pr c r)) fullShare (tl (PP I ℓ (pr c r)) (wo c))
    ∗ Gx ℓ (pr c r) c ∗ At c (kR ℓ (pr c r)) 1 ∗ Rch c (kR ℓ (pr c r)) 1)
abbrev RvS (ℓ : Fin 2) (c : Dev nD) (R : CellTallies nD τ sig ℕ) (n : ℕ) : sProp 𝕄 := Wt c R (rvΦ ℓ c) (rvΨ I ℓ c) n

/-- Reduced tiles an owner sends in layer `ℓ`. -/
def agΦ (ℓ : Fin 2) (c : Dev nD) (r : Fin 15) : sProp 𝕄 :=
  iprop(owns (c : Thread nD τ) (slot (xb ℓ) (wo c)) (lf r.succ) (AA I ℓ (wo c)) ∗ some1 (pr c r) (slot (xb ℓ) (wo c)) ∗ Gy ℓ c (pr c r)
    ∗ Tok c (kA r.succ) ℓ c ∗ Rch c (kA r.succ) ℓ ∗ Tok (pr c r) (kG ℓ (wo c)) 0 c ∗ At c (kA r.succ) ℓ)
def agf (ℓ : Fin 2) (c : Dev nD) (r : Fin 15) : CellTallies nD τ sig ℕ := tallyAt (cell (pr c r) (.inr (kG ℓ (wo c)))) 0 N
def awΦ (ℓ : Fin 2) (c : Dev nD) (r : Fin 15) : sProp 𝕄 := iprop(Cr c (kA r.succ) 0 ∗ At c (kA r.succ) ℓ)
def awΨ (ℓ : Fin 2) (c : Dev nD) (r : Fin 15) : sProp 𝕄 :=
  iprop(owns (c : Thread nD τ) (slot (xb ℓ) (wo c)) (lf r.succ) (AA I ℓ (wo c)) ∗ At c (kA r.succ) (ℓ + 1) ∗ Rch c (kA r.succ) (ℓ + 1))
abbrev AgS (ℓ : Fin 2) (c : Dev nD) (R : CellTallies nD τ sig ℕ) (n : ℕ) : sProp 𝕄 := St c R (agf ℓ c) (agΦ I ℓ c) (awΦ ℓ c) n
abbrev AwS (ℓ : Fin 2) (c : Dev nD) (R : CellTallies nD τ sig ℕ) (n : ℕ) : sProp 𝕄 := Wt c R (awΦ ℓ c) (awΨ I ℓ c) n

/-- Reduced tiles received in layer `ℓ`. -/
def gwΦ (ℓ : Fin 2) (c : Dev nD) (w : Fin 8) : sProp 𝕄 := iprop(At c (kG ℓ w) 0 ∗ Un c w (Cr c (kG ℓ w) 0))
def gwΨ (ℓ : Fin 2) (c : Dev nD) (w : Fin 8) : sProp 𝕄 :=
  iprop(At c (kG ℓ w) (if ow w = c then 0 else 1)
    ∗ Un c w iprop(owns (c : Thread nD τ) (slot (xb ℓ) w) fullShare (AA I ℓ w) ∗ Gy ℓ (ow w) c))
abbrev GwS (ℓ : Fin 2) (c : Dev nD) (R : CellTallies nD τ sig ℕ) (n : ℕ) : sProp 𝕄 := Wt c R (gwΦ ℓ c) (gwΨ I ℓ c) n

/-- Tiles of the last products sent. -/
def fsΦ (c : Dev nD) (r : Fin 15) : sProp 𝕄 :=
  iprop(owns (c : Thread nD τ) (slot pb (fw (pr c r))) (lf r.succ) (tl (P2 I c) (fw (pr c r))) ∗ grant (pr c r) c
    ∗ Tok c (kA r.succ) (rA c) c ∗ Rch c (kA r.succ) (rA c) ∗ Tok (pr c r) (kR 0 c) (rF (pr c r)) c ∗ At c (kA r.succ) (rA c))
def fsf (c : Dev nD) (r : Fin 15) : CellTallies nD τ sig ℕ := tallyAt (cell (pr c r) (.inr (kR 0 c))) 1 N
def fuΦ (c : Dev nD) (r : Fin 15) : sProp 𝕄 := iprop(Cr c (kA r.succ) 0 ∗ At c (kA r.succ) (rA c))
def fuΨ (c : Dev nD) (r : Fin 15) : sProp 𝕄 :=
  iprop(owns (c : Thread nD τ) (slot pb (fw (pr c r))) (lf r.succ) (tl (P2 I c) (fw (pr c r))) ∗ At c (kA r.succ) (rA c + 1))
abbrev FsS (c : Dev nD) (R : CellTallies nD τ sig ℕ) (n : ℕ) : sProp 𝕄 := St c R (fsf c) (fsΦ I c) (fuΦ c) n
abbrev FuS (c : Dev nD) (R : CellTallies nD τ sig ℕ) (n : ℕ) : sProp 𝕄 := Wt c R (fuΦ c) (fuΨ I c) n

/-- Tiles of the last products received. -/
def fvΦ (c : Dev nD) (r : Fin 15) : sProp 𝕄 := iprop(Cr c (kR 0 (pr c r)) 1 ∗ At c (kR 0 (pr c r)) (rF c))
def fvΨ (c : Dev nD) (r : Fin 15) : sProp 𝕄 :=
  iprop(owns (c : Thread nD τ) (slot (rb 0) (pr c r)) fullShare (tl (P2 I (pr c r)) (fw c)) ∗ At c (kR 0 (pr c r)) (rF c + 1))
abbrev FvS (c : Dev nD) (R : CellTallies nD τ sig ℕ) (n : ℕ) : sProp 𝕄 := Wt c R (fvΦ c) (fvΨ I c) n

end Cert.KernelIdealRun
-- ==== Proof.KernelIdealRun.Bounds1.lean ====
/-
# What the devices hand each other at first
-/
module

public import proofs.«01_k».proof.Proof.KernelIdealRun.Phases

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Dev nD → Inp F)

local notation "𝕄" => MT nD τ sig ℕ (Elt F) ℕ UU ℕ

/-! ## What only an owner holds, and what only the others hold -/

/-- `P`, of a device that reduces a tile. -/
def Own (c : Dev nD) (P : sProp 𝕄) : sProp 𝕄 := if isO c then P else iprop(emp)
/-- `P`, of a device that reduces none. -/
def Nwn (c : Dev nD) (P : sProp 𝕄) : sProp 𝕄 := if isO c then iprop(emp) else P

theorem Own_yes {c : Dev nD} (h : isO c) (P : sProp 𝕄) : Own c P = P := if_pos h
theorem Own_no {c : Dev nD} (h : ¬ isO c) (P : sProp 𝕄) : Own c P = iprop(emp) := if_neg h
theorem Nwn_yes {c : Dev nD} (h : isO c) (P : sProp 𝕄) : Nwn c P = iprop(emp) := if_pos h
theorem Nwn_no {c : Dev nD} (h : ¬ isO c) (P : sProp 𝕄) : Nwn c P = P := if_neg h

/-- Nothing beside a thing is the thing. -/
theorem emp_l (P : sProp 𝕄) : iprop(emp ∗ P) = P := BI.equiv_iff.mp BI.emp_sep
theorem emp_r (P : sProp 𝕄) : iprop(P ∗ emp) = P := BI.equiv_iff.mp BI.sep_emp

/-- Nothings together are nothing. -/
theorem emps {α : Type} [DecidableEq α] (s : Finset α) : (bigSep s fun _ => iprop(emp) : sProp 𝕄) = iprop(emp) := bigSep_emp_const s
/-- One of many, and the others. -/
theorem split_at {α : Type} [Fintype α] [DecidableEq α] (Φ : α → sProp 𝕄) (i : α) :
    bigSep Finset.univ Φ = iprop(Φ i ∗ bigSep (Finset.univ.erase i) Φ) := bigSep_univ_split i

/-- Every device is one or the other. -/
theorem own_or (c : Dev nD) (P : sProp 𝕄) : P = iprop(Own c P ∗ Nwn c P) := by
  by_cases h : isO c
  · rw [Own_yes h, Nwn_yes h, emp_r]
  · rw [Own_no h, Nwn_no h, emp_l]

/-- One value for owners and another for the rest. -/
theorem own_join (c : Dev nD) (Φ : ℕ → sProp 𝕄) (a b n : ℕ) (ha : isO c → n = a) (hb : ¬ isO c → n = b) :
    iprop(Own c (Φ a) ∗ Nwn c (Φ b)) = Φ n := by
  by_cases h : isO c
  · rw [Own_yes h, Nwn_yes h, emp_r, ha h]
  · rw [Own_no h, Nwn_no h, emp_l, hb h]

/-- All the tiles: the one this device reduces, and the others. -/
theorem tiles_un (c : Dev nD) (Φ : Fin 8 → sProp 𝕄) :
    bigSep Finset.univ Φ = iprop(Own c (Φ (wo c)) ∗ bigSep Finset.univ fun w => Un c w (Φ w)) := by
  by_cases h : isO c
  · rw [Own_yes h]
    exact bigSep_tile c h Φ (fun w => Un c w (Φ w)) (fun w hw => (Un_else hw _).symm) (Un_own (ow_wo c h) _)
  · rw [Own_no h, emp_l]
    exact bigSep_congr fun w _ => (Un_else (fun e : ow w = c => h (e ▸ isO_ow w)) _).symm

/-- The owners among the peers, by their tiles. -/
theorem own_only (c : Dev nD) (Φ : Dev nD → sProp 𝕄) :
    (bigSep Finset.univ fun r => if isO (pr c r) then Φ (pr c r) else iprop(emp)) = bigSep Finset.univ fun w => Un c w (Φ (ow w)) := by
  have h := bigSep_ow (M := 𝕄) fun t => if t = c then iprop(emp) else Φ t
  have e : (if isO c then (if c = c then iprop(emp) else Φ c) else iprop(emp) : sProp 𝕄) = iprop(emp) := by
    rw [if_pos rfl]; split <;> rfl
  rw [bigSep_dev c, e, emp_l] at h
  refine Eq.trans (bigSep_congr fun r _ => ?_) h.symm
  rw [if_neg (pr_ne c r)]

/-- The peers: the owners by their tiles, and the rest. -/
theorem peers_split (c : Dev nD) (Φ : Dev nD → sProp 𝕄) :
    (bigSep Finset.univ fun r => Φ (pr c r))
      = iprop((bigSep Finset.univ fun w => Un c w (Φ (ow w))) ∗ bigSep Finset.univ fun r => Nwn (pr c r) (Φ (pr c r))) := by
  rw [← own_only, ← bigSep_sep']
  exact bigSep_congr fun r _ => own_or (pr c r) _

/-- What the tiles of others share. -/
theorem Un_sep (c : Dev nD) (w : Fin 8) (P Q : sProp 𝕄) : Un c w iprop(P ∗ Q) = iprop(Un c w P ∗ Un c w Q) := by
  by_cases h : ow w = c
  · rw [Un_own h, Un_own h, Un_own h, emp_l]
  · rw [Un_else h, Un_else h, Un_else h]
theorem Own_sep (c : Dev nD) (P Q : sProp 𝕄) : Own c iprop(P ∗ Q) = iprop(Own c P ∗ Own c Q) := by
  by_cases h : isO c
  · rw [Own_yes h, Own_yes h, Own_yes h]
  · rw [Own_no h, Own_no h, Own_no h, emp_l]
theorem Own_mono (c : Dev nD) {P Q : sProp 𝕄} (h : isO c → P ⊢ Q) : Own c P ⊢ Own c Q := by
  by_cases hO : isO c
  · rw [Own_yes hO, Own_yes hO]; exact h hO
  · rw [Own_no hO, Own_no hO]

/-! ## The first buffers, handed to the peers -/

/-- What stays of the second layer's landing buffer. -/
def Idle (c : Dev nD) : sProp 𝕄 := iprop(Own c (some1 c (slot (rb 1) c)) ∗ Nwn c (some1 c (rb 1)))

theorem rb_out (c : Dev nD) (ℓ : ℕ) : (some1 c (rb ℓ) : sProp 𝕄)
    = iprop(some1 c (slot (rb ℓ) c) ∗ bigSep Finset.univ fun r => some1 (F := F) c (slot (rb ℓ) (pr c r))) := by
  rw [some1_tiles]; exact bigSep_dev c _

theorem rb1_out (c : Dev nD) : (some1 c (rb 1) : sProp 𝕄)
    = iprop(Idle (F := F) c ∗ bigSep Finset.univ fun r : Fin 15 => if isO c then some1 (F := F) c (slot (rb 1) (pr c r)) else iprop(emp)) := by
  unfold Idle
  by_cases h : isO c
  · rw [Own_yes h, Nwn_yes h, emp_r, rb_out, bigSep_congr (Φ := fun r : Fin 15 => if isO c then some1 (F := F) c (slot (rb 1) (pr c r)) else iprop(emp)) fun r _ => if_pos h]
  · rw [Own_no h, Nwn_no h, emp_l]
    rw [bigSep_congr (Ψ := fun _ => iprop(emp)) fun r _ => if_neg h, emps, emp_r]

theorem xb_out (c : Dev nD) (ℓ : ℕ) : (some1 c (xb ℓ) : sProp 𝕄)
    = iprop(Own c (some1 c (slot (xb ℓ) (wo c)))
      ∗ bigSep Finset.univ fun r => if isO (pr c r) then some1 (F := F) c (slot (xb ℓ) (wo (pr c r))) else iprop(emp)) := by
  rw [some1_tiles, tiles_un c, own_only c fun t => some1 (F := F) c (slot (xb ℓ) (wo t))]
  simp only [wo_ow]

/-- All the slots a peer writes go out with the barrier's signals. -/
theorem sig_start (c : Dev nD) (R : CellTallies nD τ sig ℕ) :
    iprop(some1 c (rb 0) ∗ some1 c (rb 1) ∗ some1 c (xb 0) ∗ some1 c (xb 1)
      ∗ (bigSep Finset.univ fun r => dutyTok ER (cell (pr c r) (.inl ())) 0 c) ∗ Owes c (R + DB c))
    ⊢ iprop(SigS (F := F) c R 0 ∗ some1 c (slot (rb 0) c) ∗ Idle c ∗ Own c (some1 c (slot (xb 0) (wo c))) ∗ Own c (some1 c (slot (xb 1) (wo c)))) := by
  have e : (bigSep Finset.univ (sigΦ (F := F) c) : sProp 𝕄)
      = iprop((bigSep Finset.univ fun r => dutyTok ER (cell (pr c r) (.inl ())) 0 c)
        ∗ (bigSep Finset.univ fun r => some1 (F := F) c (slot (rb 0) (pr c r)))
        ∗ (bigSep Finset.univ fun r : Fin 15 => if isO c then some1 (F := F) c (slot (rb 1) (pr c r)) else iprop(emp))
        ∗ (bigSep Finset.univ fun r => if isO (pr c r) then some1 (F := F) c (slot (xb 0) (wo (pr c r))) else iprop(emp))
        ∗ (bigSep Finset.univ fun r => if isO (pr c r) then some1 (F := F) c (slot (xb 1) (wo (pr c r))) else iprop(emp))) := by
    rw [← bigSep_sep', ← bigSep_sep', ← bigSep_sep', ← bigSep_sep']
    refine bigSep_congr fun r _ => ?_
    unfold sigΦ barPay
    by_cases h : isO (pr c r)
    · rw [if_pos h, if_pos h, if_pos h]
    · rw [if_neg h, if_neg h, if_neg h, emp_l]
  rw [show (SigS (F := F) c R 0) = iprop(Owes c (R + DB c) ∗ bigSep Finset.univ (sigΦ (F := F) c)) from (St_start c R (sigf c) (sigΦ c) nil).symm, e,
    rb_out c 0, rb1_out, xb_out c 0, xb_out c 1]
  iintro ⟨⟨Ha, Hb⟩, ⟨Hc, Hd⟩, ⟨He, Hf⟩, ⟨Hg, Hh⟩, Ht, HO⟩
  isplitl [HO Ht Hb Hd Hf Hh]
  · isplitl [HO]; · iassumption
    isplitl [Ht]; · iassumption
    isplitl [Hb]; · iassumption
    isplitl [Hd]; · iassumption
    isplitl [Hf]; · iassumption
    iassumption
  isplitl [Ha]; · iassumption
  isplitl [Hc]; · iassumption
  isplitl [He]; · iassumption
  iassumption

/-- What the peers' signals brought: the slots this device writes. -/
theorem bar_got (c : Dev nD) : (bigSep Finset.univ fun r => barPay (F := F) (pr c r) c)
    ⊢ iprop((bigSep Finset.univ fun w => Un c w (some1 (ow w) (slot (rb 0) c)))
      ∗ (bigSep Finset.univ fun r => Nwn (pr c r) (some1 (pr c r) (slot (rb 0) c)))
      ∗ (bigSep Finset.univ fun w => Un c w (some1 (ow w) (slot (rb 1) c)))
      ∗ Own c (bigSep Finset.univ fun r => some1 (pr c r) (slot (xb 0) (wo c)))
      ∗ Own c (bigSep Finset.univ fun r => some1 (pr c r) (slot (xb 1) (wo c)))) := by
  unfold barPay
  rw [bigSep_sep', bigSep_sep', peers_split c fun t => some1 (F := F) t (slot (rb 0) c), own_only c fun t => some1 (F := F) t (slot (rb 1) c)]
  iintro ⟨⟨Ha, Hb⟩, Hc, Hd⟩
  isplitl [Ha]; · iassumption
  isplitl [Hb]; · iassumption
  isplitl [Hc]; · iassumption
  have e : (bigSep Finset.univ fun r => if isO c then iprop(some1 (pr c r) (slot (xb 0) (wo c)) ∗ some1 (pr c r) (slot (xb 1) (wo c))) else iprop(emp) : sProp 𝕄)
      ⊢ iprop(Own c (bigSep Finset.univ fun r => some1 (F := F) (pr c r) (slot (xb 0) (wo c)))
        ∗ Own c (bigSep Finset.univ fun r => some1 (F := F) (pr c r) (slot (xb 1) (wo c)))) := by
    by_cases h : isO c
    · rw [Own_yes h, Own_yes h, ← bigSep_sep']
      exact Entails.of_eq (bigSep_congr fun r _ => if_pos h)
    · rw [Own_no h, Own_no h, emp_l]
      exact Entails.of_eq ((bigSep_congr fun r _ => if_neg h).trans (emps _))
  iapply e $$ Hd

end Cert.KernelIdealRun
-- ==== Proof.KernelIdealRun.Bounds2.lean ====
/-
# From stage to stage: the partial tiles
-/
module

public import proofs.«01_k».proof.Proof.KernelIdealRun.Bounds1

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Dev nD → Inp F)

local notation "𝕄" => MT nD τ sig ℕ (Elt F) ℕ UU ℕ

/-! ## The partial tiles -/

/-- The send cells' positions, and that they have come so far, before layer `ℓ`. -/
def KS (ℓ : ℕ) (c : Dev nD) : sProp 𝕄 :=
  iprop((bigSep Finset.univ fun w => At c (kS w) (if ow w = c then 0 else ℓ)) ∗ bigSep Finset.univ fun w => Un c w (Rch c (kS w) ℓ))

/-- Before the partial tiles of layer `ℓ` are sent. -/
theorem rs_start (ℓ : Fin 2) (c : Dev nD) (R : CellTallies nD τ sig ℕ) :
    iprop(owns (c : Thread nD τ) pb fullShare (PP I ℓ c) ∗ KS ℓ.val c
      ∗ (bigSep Finset.univ fun w => Un c w (Tok c (kS w) ℓ c)) ∗ (bigSep Finset.univ fun w => Un c w (Tok (ow w) (kR ℓ c) 0 c))
      ∗ (bigSep Finset.univ fun w => Un c w (some1 (ow w) (slot (rb ℓ) c))) ∗ (bigSep Finset.univ fun w => Un c w (Gx ℓ c (ow w)))
      ∗ Owes c (R + DR ℓ c))
    ⊢ iprop(RsS I ℓ c R 0 ∗ Own c (owns (c : Thread nD τ) (slot pb (wo c)) fullShare (tl (PP I ℓ c) (wo c)))) := by
  have e : (bigSep Finset.univ (rsΦ I ℓ c) : sProp 𝕄)
      = iprop((bigSep Finset.univ fun w => At c (kS w) (if ow w = c then 0 else ℓ.val))
        ∗ (bigSep Finset.univ fun w => Un c w (owns (c : Thread nD τ) (slot pb w) fullShare (tl (PP I ℓ c) w)))
        ∗ (bigSep Finset.univ fun w => Un c w (some1 (ow w) (slot (rb ℓ) c))) ∗ (bigSep Finset.univ fun w => Un c w (Gx ℓ c (ow w)))
        ∗ (bigSep Finset.univ fun w => Un c w (Tok c (kS w) ℓ c)) ∗ (bigSep Finset.univ fun w => Un c w (Rch c (kS w) ℓ))
        ∗ (bigSep Finset.univ fun w => Un c w (Tok (ow w) (kR ℓ c) 0 c))) := by
    rw [← bigSep_sep', ← bigSep_sep', ← bigSep_sep', ← bigSep_sep', ← bigSep_sep', ← bigSep_sep']
    refine bigSep_congr fun w _ => ?_
    unfold rsΦ
    rw [Un_sep, Un_sep, Un_sep, Un_sep, Un_sep]
  rw [show (RsS I ℓ c R 0) = iprop(Owes c (R + DR ℓ c) ∗ bigSep Finset.univ (rsΦ I ℓ c)) from (St_start c R (rsf ℓ c) (rsΦ I ℓ c) (swΦ ℓ c)).symm, e,
    owns_tiles c pb, tiles_un c fun w => owns (c : Thread nD τ) (slot pb w) fullShare (tl (PP I ℓ c) w)]
  unfold KS
  iintro ⟨⟨Hp, Hq⟩, ⟨Ha, Hr⟩, Ht, Hu, Hs, Hg, HO⟩
  isplitl [HO Hq Ha Hr Ht Hu Hs Hg]
  · isplitl [HO]; · iassumption
    isplitl [Ha]; · iassumption
    isplitl [Hq]; · iassumption
    isplitl [Hs]; · iassumption
    isplitl [Hg]; · iassumption
    isplitl [Ht]; · iassumption
    isplitl [Hr]; · iassumption
    iassumption
  iassumption

/-- After the partial tiles of layer `ℓ` have left. -/
theorem sw_done (ℓ : Fin 2) (c : Dev nD) :
    iprop((bigSep Finset.univ (swΨ I ℓ c)) ∗ Own c (owns (c : Thread nD τ) (slot pb (wo c)) fullShare (tl (PP I ℓ c) (wo c))))
    ⊢ iprop(owns (c : Thread nD τ) pb fullShare (PP I ℓ c) ∗ KS (ℓ.val + 1) c) := by
  have e : (bigSep Finset.univ (swΨ I ℓ c) : sProp 𝕄)
      = iprop((bigSep Finset.univ fun w => At c (kS w) (if ow w = c then 0 else ℓ.val + 1))
        ∗ (bigSep Finset.univ fun w => Un c w (owns (c : Thread nD τ) (slot pb w) fullShare (tl (PP I ℓ c) w)))
        ∗ (bigSep Finset.univ fun w => Un c w (Rch c (kS w) (ℓ.val + 1)))) := by
    rw [← bigSep_sep', ← bigSep_sep']
    refine bigSep_congr fun w _ => ?_
    unfold swΨ
    rw [Un_sep]
  rw [e, owns_tiles c pb, tiles_un c fun w => owns (c : Thread nD τ) (slot pb w) fullShare (tl (PP I ℓ c) w)]
  unfold KS
  iintro ⟨⟨Ha, Hq, Hr⟩, Hp⟩
  isplitl [Hp Hq]
  · isplitl [Hp] <;> iassumption
  isplitl [Ha] <;> iassumption

/-- The first layer's tiles carry nothing else. -/
theorem gx_none (c : Dev nD) : (iprop(emp) : sProp 𝕄) ⊢ bigSep Finset.univ fun w => Un c w (Gx (F := F) (0 : Fin 2).val c (ow w)) := by
  refine Entails.of_eq (Eq.symm ((bigSep_congr fun w _ => ?_).trans (emps (F := F) (Finset.univ : Finset (Fin 8)))))
  rw [show (Gx (F := F) (0 : Fin 2).val c (ow w) : sProp 𝕄) = iprop(emp) from if_neg fun h => absurd h.1 (by decide)]
  unfold Un; split <;> rfl

end Cert.KernelIdealRun
-- ==== Proof.KernelIdealRun.Bounds3.lean ====
/-
# From stage to stage: the reduced tiles
-/
module

public import proofs.«01_k».proof.Proof.KernelIdealRun.Bounds2

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Dev nD → Inp F)

local notation "𝕄" => MT nD τ sig ℕ (Elt F) ℕ UU ℕ

/-- What an owner has received in layer `ℓ`, once reduced. -/
def rvK (ℓ : Fin 2) (c : Dev nD) (r : Fin 15) : sProp 𝕄 :=
  iprop(some1 c (slot (rb ℓ) (pr c r)) ∗ At c (kR ℓ (pr c r)) 1 ∗ Rch c (kR ℓ (pr c r)) 1)

/-- The gathering sends' positions, and that they have come so far. -/
def KA (n : ℕ) (c : Dev nD) : sProp 𝕄 := bigSep Finset.univ fun r : Fin 15 => iprop(At c (kA r.succ) n ∗ Rch c (kA r.succ) n)

/-- The leaves handed through the owners regroup by who they are for. -/
theorem gx_gy (ℓ : ℕ) (W : Dev nD) : (bigSep Finset.univ fun r => Gx (F := F) ℓ (pr W r) W)
    = iprop(Gy (F := F) ℓ W W ∗ bigSep Finset.univ fun r => Gy ℓ W (pr W r)) := by
  have h1 : (bigSep Finset.univ fun s => Gx (F := F) ℓ s W : sProp 𝕄) = bigSep Finset.univ fun A => Gy ℓ W A := by
    unfold Gy
    rw [bigSep_univ_comm]
    refine bigSep_congr fun s _ => ?_
    unfold Gx
    by_cases h : ℓ = 1 ∧ isO s ∧ fo s = W
    · rw [if_pos h, split_at _ s, if_neg (fun h' => h'.2.2.2 rfl), emp_l]
      exact bigSep_congr fun A hA => (if_pos ⟨h.1, h.2.1, h.2.2, (Finset.ne_of_mem_erase hA).symm⟩).symm
    · rw [if_neg h]
      refine ((bigSep_congr fun A _ => if_neg fun h' => h ⟨h'.1, h'.2.1, h'.2.2.1⟩).trans (emps _)).symm
  rw [bigSep_dev W, bigSep_dev W (fun A => Gy ℓ W A)] at h1
  rw [← h1, show (Gx (F := F) ℓ W W : sProp 𝕄) = iprop(emp) from if_neg fun h => fo_ne W h.2.2, emp_l]

/-- Before the reduced tile of layer `ℓ` is sent. -/
theorem ag_start (ℓ : Fin 2) (c : Dev nD) (hO : isO c) (R : CellTallies nD τ sig ℕ) :
    iprop(owns (c : Thread nD τ) (slot (xb ℓ) (wo c)) fullShare (AA I ℓ (wo c)) ∗ (bigSep Finset.univ (rvΨ I ℓ c))
      ∗ (bigSep Finset.univ fun r => some1 (pr c r) (slot (xb ℓ) (wo c))) ∗ (bigSep Finset.univ fun r : Fin 15 => Tok c (kA r.succ) ℓ c)
      ∗ (bigSep Finset.univ fun r => Tok (pr c r) (kG ℓ (wo c)) 0 c) ∗ KA ℓ.val c ∗ Owes c (R + DG ℓ c))
    ⊢ iprop(AgS I ℓ c R 0 ∗ owns (c : Thread nD τ) (slot (xb ℓ) (wo c)) (lf 0) (AA I ℓ (wo c)) ∗ Gy ℓ c c ∗ bigSep Finset.univ (rvK ℓ c)) := by
  have e : (bigSep Finset.univ (agΦ I ℓ c) : sProp 𝕄)
      = iprop((bigSep Finset.univ fun r : Fin 15 => owns (c : Thread nD τ) (slot (xb ℓ) (wo c)) (lf r.succ) (AA I ℓ (wo c)))
        ∗ (bigSep Finset.univ fun r => some1 (pr c r) (slot (xb ℓ) (wo c))) ∗ (bigSep Finset.univ fun r => Gy ℓ c (pr c r))
        ∗ (bigSep Finset.univ fun r : Fin 15 => Tok c (kA r.succ) ℓ c) ∗ (bigSep Finset.univ fun r : Fin 15 => Rch c (kA r.succ) ℓ)
        ∗ (bigSep Finset.univ fun r => Tok (pr c r) (kG ℓ (wo c)) 0 c) ∗ (bigSep Finset.univ fun r : Fin 15 => At c (kA r.succ) ℓ)) := by
    rw [← bigSep_sep', ← bigSep_sep', ← bigSep_sep', ← bigSep_sep', ← bigSep_sep', ← bigSep_sep']
    rfl
  have e' : (bigSep Finset.univ (rvΨ I ℓ c) : sProp 𝕄)
      ⊢ iprop((bigSep Finset.univ (rvK (F := F) ℓ c)) ∗ bigSep Finset.univ fun r => Gx ℓ (pr c r) c) := by
    rw [← bigSep_sep']
    have hp : ∀ r, rvΨ I ℓ c r ⊢ iprop(rvK (F := F) ℓ c r ∗ Gx ℓ (pr c r) c) := fun r => by
      unfold rvΨ rvK
      iintro ⟨Ha, Hb, Hc, Hd⟩
      isplitl [Ha Hc Hd]
      · isplitl [Ha]; · iapply (owns_some1 c (slot (rb ℓ) (pr c r))) $$ Ha
        isplitl [Hc] <;> iassumption
      iassumption
    exact bigSep_mono fun r _ => hp r
  have hl : (owns (c : Thread nD τ) (slot (xb ℓ) (wo c)) fullShare (AA I ℓ (wo c)) : sProp 𝕄)
      = iprop(owns (c : Thread nD τ) (slot (xb ℓ) (wo c)) (lf 0) (AA I ℓ (wo c))
        ∗ bigSep Finset.univ fun r : Fin 15 => owns (c : Thread nD τ) (slot (xb ℓ) (wo c)) (lf r.succ) (AA I ℓ (wo c))) := by
    rw [owns_leaves c (slot (xb ℓ) (wo c)) 4 fullShare]; exact bigSep_sixteen _
  have hs : DG ℓ c = ∑ r, agf ℓ c r := if_pos hO
  rw [show (AgS I ℓ c R 0) = iprop(Owes c (R + ∑ r, agf ℓ c r) ∗ bigSep Finset.univ (agΦ I ℓ c)) from (St_start c R (agf ℓ c) (agΦ I ℓ c) (awΦ ℓ c)).symm,
    e, hl, hs]
  unfold KA
  rw [bigSep_sep']
  iintro ⟨⟨Hl, Hm⟩, Hv, Hs, Ht, Hu, ⟨Ha, Hr⟩, HO⟩
  ihave Hv := e' $$ Hv
  icases Hv with ⟨Hk, Hx⟩
  ihave Hx := (Entails.of_eq (gx_gy (F := F) ℓ.val c)) $$ Hx
  icases Hx with ⟨Hy, Hz⟩
  isplitl [HO Hm Hs Hz Ht Hr Hu Ha]
  · isplitl [HO]; · iassumption
    isplitl [Hm]; · iassumption
    isplitl [Hs]; · iassumption
    isplitl [Hz]; · iassumption
    isplitl [Ht]; · iassumption
    isplitl [Hr]; · iassumption
    isplitl [Hu] <;> iassumption
  isplitl [Hl]; · iassumption
  isplitl [Hy] <;> iassumption

/-- After the reduced tile of layer `ℓ` has been sent and all others have come. -/
theorem x_done (ℓ : Fin 2) (c : Dev nD) :
    iprop((bigSep Finset.univ (gwΨ I ℓ c)) ∗ Own c (bigSep Finset.univ (awΨ I ℓ c))
      ∗ Own c (owns (c : Thread nD τ) (slot (xb ℓ) (wo c)) (lf 0) (AA I ℓ (wo c))) ∗ Own c (Gy ℓ c c))
    ⊢ iprop(owns (c : Thread nD τ) (xb ℓ) fullShare (asm (AA I ℓ)) ∗ Own c (KA (ℓ.val + 1) c)
      ∗ (bigSep Finset.univ fun w => At c (kG ℓ w) (if ow w = c then 0 else 1)) ∗ bigSep Finset.univ fun w => Gy ℓ (ow w) c) := by
  have e : (bigSep Finset.univ (gwΨ I ℓ c) : sProp 𝕄)
      = iprop((bigSep Finset.univ fun w => At c (kG ℓ w) (if ow w = c then 0 else 1))
        ∗ (bigSep Finset.univ fun w => Un c w (owns (c : Thread nD τ) (slot (xb ℓ) w) fullShare (AA I ℓ w)))
        ∗ (bigSep Finset.univ fun w => Un c w (Gy ℓ (ow w) c))) := by
    rw [← bigSep_sep', ← bigSep_sep']
    refine bigSep_congr fun w _ => ?_
    unfold gwΨ
    rw [Un_sep]
  have hl : iprop(Own c (bigSep Finset.univ (awΨ I ℓ c)) ∗ Own c (owns (c : Thread nD τ) (slot (xb ℓ) (wo c)) (lf 0) (AA I ℓ (wo c))))
      ⊢ iprop(Own c (owns (c : Thread nD τ) (slot (xb ℓ) (wo c)) fullShare (AA I ℓ (wo c))) ∗ Own c (KA (F := F) (ℓ.val + 1) c)) := by
    rw [← Own_sep, ← Own_sep]
    refine Own_mono c fun hO => ?_
    have h1 : (owns (c : Thread nD τ) (slot (xb ℓ) (wo c)) fullShare (AA I ℓ (wo c)) : sProp 𝕄)
      = iprop(owns (c : Thread nD τ) (slot (xb ℓ) (wo c)) (lf 0) (AA I ℓ (wo c))
        ∗ bigSep Finset.univ fun r : Fin 15 => owns (c : Thread nD τ) (slot (xb ℓ) (wo c)) (lf r.succ) (AA I ℓ (wo c))) := by
      rw [owns_leaves c (slot (xb ℓ) (wo c)) 4 fullShare]; exact bigSep_sixteen _
    have h2 : (bigSep Finset.univ (awΨ I ℓ c) : sProp 𝕄)
        = iprop((bigSep Finset.univ fun r : Fin 15 => owns (c : Thread nD τ) (slot (xb ℓ) (wo c)) (lf r.succ) (AA I ℓ (wo c))) ∗ KA (ℓ.val + 1) c) := by
      unfold KA; rw [← bigSep_sep']; rfl
    rw [h1, h2]
    iintro ⟨⟨Ha, Hb⟩, Hc⟩
    isplitl [Ha Hc]
    · isplitl [Hc] <;> iassumption
    iassumption
  have hx : (owns (c : Thread nD τ) (xb ℓ) fullShare (asm (AA I ℓ)) : sProp 𝕄)
      = iprop(Own c (owns (c : Thread nD τ) (slot (xb ℓ) (wo c)) fullShare (AA I ℓ (wo c)))
        ∗ (bigSep Finset.univ fun w => Un c w (owns (c : Thread nD τ) (slot (xb ℓ) w) fullShare (AA I ℓ w)))) := by
    rw [← tiles_un c fun w => owns (c : Thread nD τ) (slot (xb ℓ) w) fullShare (AA I ℓ w), owns_tiles]
    exact bigSep_congr fun w _ => by rw [tl_asm]
  have hg : iprop(Own c (Gy ℓ c c) ∗ (bigSep Finset.univ fun w => Un c w (Gy ℓ (ow w) c))) ⊢ bigSep Finset.univ fun w => Gy (F := F) ℓ (ow w) c := by
    rw [tiles_un c fun w => Gy (F := F) ℓ (ow w) c]
    by_cases hO : isO c
    · rw [Own_yes hO, Own_yes hO, ow_wo c hO]
    · rw [Own_no hO, Own_no hO]
  rw [e, hx]
  iintro ⟨⟨Ha, Hb, Hc⟩, Hw, Hl, Hy⟩
  ihave Hw := hl $$ [Hw Hl]
  · isplitl [Hw] <;> iassumption
  icases Hw with ⟨Hw, HK⟩
  isplitl [Hw Hb]
  · isplitl [Hw] <;> iassumption
  isplitl [HK]; · iassumption
  isplitl [Ha]; · iassumption
  iapply hg
  isplitl [Hy] <;> iassumption

/-- Leave to write a slot again, from what an owner received in it. -/
theorem rv_grant (c : Dev nD) : Own c (bigSep Finset.univ (rvK (F := F) 0 c))
    ⊢ iprop((bigSep Finset.univ fun w => Un c w (Gx (1 : Fin 2).val c (ow w))) ∗ Own c (bigSep Finset.univ fun r => At c (kR 0 (pr c r)) 1)) := by
  by_cases hO : isO c
  · have h1 : (bigSep Finset.univ (rvK (F := F) 0 c) : sProp 𝕄)
        ⊢ iprop((bigSep Finset.univ fun r => grant c (pr c r)) ∗ bigSep Finset.univ fun r => At c (kR 0 (pr c r)) 1) := by
      rw [← bigSep_sep']
      have hp : ∀ r, rvK (F := F) 0 c r ⊢ iprop(grant c (pr c r) ∗ At c (kR 0 (pr c r)) 1) := fun r => by
        unfold rvK grant
        rw [rF_owner hO]
        iintro ⟨Ha, Hb, Hc⟩
        isplitl [Ha Hc]
        · isplitl [Ha] <;> iassumption
        iassumption
      exact bigSep_mono fun r _ => hp r
    have h2 : (bigSep Finset.univ fun r => grant (F := F) c (pr c r) : sProp 𝕄) ⊢ bigSep Finset.univ fun w => Un c w (Gx (1 : Fin 2).val c (ow w)) := by
      rw [bigSep_pr c fun A => grant (F := F) c A, split_at (fun w => Un c w (Gx (F := F) (1 : Fin 2).val c (ow w))) (wo (fo c))]
      have e1 : ow (wo (fo c)) = fo c := ow_wo _ (isO_fo c)
      have e2 : (bigSep (Finset.univ.erase (wo (fo c))) fun w => Un c w (Gx (F := F) (1 : Fin 2).val c (ow w)) : sProp 𝕄) = iprop(emp) := by
        refine (bigSep_congr fun w hw => ?_).trans (emps _)
        have : (Gx (F := F) (1 : Fin 2).val c (ow w) : sProp 𝕄) = iprop(emp) := if_neg fun h => (Finset.ne_of_mem_erase hw) (by rw [h.2.2, wo_ow])
        rw [this]; unfold Un; split <;> rfl
      have e3 : (Un c (wo (fo c)) (Gx (F := F) (1 : Fin 2).val c (ow (wo (fo c)))) : sProp 𝕄) = bigSep (Finset.univ.erase c) fun A => grant c A := by
        rw [Un_else (by rw [e1]; exact fo_ne c)]
        exact if_pos ⟨rfl, hO, e1.symm⟩
      rw [e2, e3, emp_r]
    rw [Own_yes hO, Own_yes hO]
    iintro H
    ihave H := h1 $$ H
    icases H with ⟨Ha, Hb⟩
    isplitl [Ha]; · iapply h2 $$ Ha
    iassumption
  · rw [Own_no hO, Own_no hO, emp_r]
    refine Entails.of_eq (Eq.symm ((bigSep_congr fun w _ => ?_).trans (emps (F := F) (Finset.univ : Finset (Fin 8)))))
    rw [show (Gx (F := F) (1 : Fin 2).val c (ow w) : sProp 𝕄) = iprop(emp) from if_neg fun h => hO h.2.1]
    unfold Un; split <;> rfl

end Cert.KernelIdealRun
-- ==== Proof.KernelIdealRun.Bounds.lean ====
/-
# From stage to stage: the last products
-/
module

public import proofs.«01_k».proof.Proof.KernelIdealRun.Bounds3

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Dev nD → Inp F)

local notation "𝕄" => MT nD τ sig ℕ (Elt F) ℕ UU ℕ

/-! ## The last products -/

/-- Leave to write a slot of each peer's first landing buffer. -/
theorem grants (c : Dev nD) : Recs I ⊢ iprop((bigSep Finset.univ fun w => Gy (1 : Fin 2).val (ow w) c)
      -∗ (bigSep Finset.univ fun r => Nwn (pr c r) (some1 (pr c r) (slot (rb 0) c)))
      -∗ bigSep Finset.univ fun r => grant (pr c r) c) := by
  have hp1 : ∀ r, (bigSep Finset.univ fun w : Fin 8 =>
        if (1 : Fin 2).val = 1 ∧ isO (pr c r) ∧ fo (pr c r) = ow w ∧ pr c r ≠ c then grant (F := F) (pr c r) c else iprop(emp) : sProp 𝕄)
      ⊢ (if isO (pr c r) then grant (F := F) (pr c r) c else iprop(emp)) := fun r => by
    by_cases h : isO (pr c r)
    · rw [if_pos h, split_at _ (wo (fo (pr c r))), if_pos ⟨rfl, h, (ow_wo _ (isO_fo _)).symm, pr_ne c r⟩]
      iintro ⟨H, -⟩; iassumption
    · rw [if_neg h, bigSep_congr (Ψ := fun _ => iprop(emp)) fun w _ => if_neg fun h' => h h'.2.1, emps]
  have h1 : (bigSep Finset.univ fun w => Gy (F := F) (1 : Fin 2).val (ow w) c : sProp 𝕄)
      ⊢ bigSep Finset.univ fun r => if isO (pr c r) then grant (pr c r) c else iprop(emp) := by
    unfold Gy
    rw [bigSep_univ_comm, bigSep_dev c]
    have h0 : (bigSep Finset.univ fun r => bigSep Finset.univ fun w : Fin 8 =>
        if (1 : Fin 2).val = 1 ∧ isO (pr c r) ∧ fo (pr c r) = ow w ∧ pr c r ≠ c then grant (F := F) (pr c r) c else iprop(emp) : sProp 𝕄)
      ⊢ bigSep Finset.univ fun r => if isO (pr c r) then grant (F := F) (pr c r) c else iprop(emp) := bigSep_mono fun r _ => hp1 r
    iintro ⟨-, H⟩
    iapply h0 $$ H
  have hp2 : ∀ r, iprop(reached ER (cell (pr c r) (.inr (kR 0 c))) 0 ∗ Nwn (pr c r) (some1 (pr c r) (slot (rb 0) c)))
      ⊢ Nwn (pr c r) (grant (F := F) (pr c r) c) := fun r => by
    by_cases h : isO (pr c r)
    · rw [Nwn_yes h, Nwn_yes h]; iintro ⟨-, H⟩; iassumption
    · rw [Nwn_no h, Nwn_no h]; unfold grant; rw [rF_other h]
      iintro ⟨Ha, Hb⟩; isplitl [Hb] <;> iassumption
  have h3 : Recs I ⊢ bigSep Finset.univ fun r => reached ER (cell (pr c r) (.inr (kR 0 c))) 0 :=
    bigSep_intro_persistent fun r _ => Recs_reached I (pr c r) (.inr (kR 0 c))
  have h2 : iprop(Recs I ∗ bigSep Finset.univ fun r => Nwn (pr c r) (some1 (pr c r) (slot (rb 0) c)))
      ⊢ bigSep Finset.univ fun r => Nwn (pr c r) (grant (F := F) (pr c r) c) := by
    refine BI.Entails.trans (sep_mono_left (PROP := sProp 𝕄) h3) ?_
    rw [← bigSep_sep']
    exact bigSep_mono fun r _ => hp2 r
  rw [peers_split c fun t => grant (F := F) t c, ← own_only c fun t => grant (F := F) t c]
  iintro #HR Hg Hs
  isplitl [Hg]; · iapply h1 $$ Hg
  iapply h2
  isplitr; · iassumption
  iassumption

/-- The leaves of the last products nothing reads while they are sent. -/
def Rest (c : Dev nD) : sProp 𝕄 :=
  bigSep Finset.univ fun o : Fin 16 => bigSep (Finset.univ.erase (fw (ad c o))) fun w => owns (c : Thread nD τ) (slot pb w) (lf o) (tl (P2 I c) w)

/-- The last products, each peer's tile at its own leaf. -/
theorem pb_leaves (c : Dev nD) : (owns (c : Thread nD τ) pb fullShare (P2 I c) : sProp 𝕄)
    = iprop((owns (c : Thread nD τ) (slot pb (fw c)) (lf 0) (tl (P2 I c) (fw c))
      ∗ bigSep Finset.univ fun r : Fin 15 => owns (c : Thread nD τ) (slot pb (fw (pr c r))) (lf r.succ) (tl (P2 I c) (fw (pr c r)))) ∗ Rest I c) := by
  have h : (owns (c : Thread nD τ) pb fullShare (P2 I c) : sProp 𝕄)
      = bigSep Finset.univ fun o : Fin 16 => bigSep Finset.univ fun w : Fin 8 => owns (c : Thread nD τ) (slot pb w) (lf o) (tl (P2 I c) w) := by
    rw [owns_tiles c pb, bigSep_univ_comm]
    exact bigSep_congr fun w _ => owns_leaves c (slot pb w) 4 fullShare _
  have h' : (bigSep Finset.univ fun o : Fin 16 => bigSep Finset.univ fun w : Fin 8 => owns (c : Thread nD τ) (slot pb w) (lf o) (tl (P2 I c) w) : sProp 𝕄)
      = iprop((bigSep Finset.univ fun o : Fin 16 => owns (c : Thread nD τ) (slot pb (fw (ad c o))) (lf o) (tl (P2 I c) (fw (ad c o)))) ∗ Rest I c) := by
    unfold Rest
    rw [← bigSep_sep']
    exact bigSep_congr fun o _ => split_at _ (fw (ad c o))
  rw [h, h', bigSep_sixteen, ad_zero]
  simp only [ad_succ]

/-- Before the last products are sent. -/
theorem fs_start (c : Dev nD) (R : CellTallies nD τ sig ℕ) :
    iprop(owns (c : Thread nD τ) pb fullShare (P2 I c) ∗ (bigSep Finset.univ fun r => grant (pr c r) c)
      ∗ (bigSep Finset.univ fun r : Fin 15 => Tok c (kA r.succ) (rA c) c) ∗ KA (rA c) c
      ∗ (bigSep Finset.univ fun r => Tok (pr c r) (kR 0 c) (rF (pr c r)) c) ∗ Owes c (R + DF c))
    ⊢ iprop(FsS I c R 0 ∗ owns (c : Thread nD τ) (slot pb (fw c)) (lf 0) (tl (P2 I c) (fw c)) ∗ Rest I c) := by
  have e : (bigSep Finset.univ (fsΦ I c) : sProp 𝕄)
      = iprop((bigSep Finset.univ fun r : Fin 15 => owns (c : Thread nD τ) (slot pb (fw (pr c r))) (lf r.succ) (tl (P2 I c) (fw (pr c r))))
        ∗ (bigSep Finset.univ fun r => grant (pr c r) c)
        ∗ (bigSep Finset.univ fun r : Fin 15 => Tok c (kA r.succ) (rA c) c) ∗ (bigSep Finset.univ fun r : Fin 15 => Rch c (kA r.succ) (rA c))
        ∗ (bigSep Finset.univ fun r => Tok (pr c r) (kR 0 c) (rF (pr c r)) c) ∗ (bigSep Finset.univ fun r : Fin 15 => At c (kA r.succ) (rA c))) := by
    rw [← bigSep_sep', ← bigSep_sep', ← bigSep_sep', ← bigSep_sep', ← bigSep_sep']
    rfl
  rw [show (FsS I c R 0) = iprop(Owes c (R + DF c) ∗ bigSep Finset.univ (fsΦ I c)) from (St_start c R (fsf c) (fsΦ I c) (fuΦ c)).symm, e, pb_leaves]
  unfold KA
  rw [bigSep_sep']
  iintro ⟨⟨⟨Hp, Hq⟩, Hz⟩, Hg, Ht, ⟨Ha, Hr⟩, Hu, HO⟩
  isplitl [HO Hq Hg Ht Ha Hr Hu]
  · isplitl [HO]; · iassumption
    isplitl [Hq]; · iassumption
    isplitl [Hg]; · iassumption
    isplitl [Ht]; · iassumption
    isplitl [Hr]; · iassumption
    isplitl [Hu] <;> iassumption
  isplitl [Hp] <;> iassumption

/-- After the last products have left. -/
theorem fu_done (c : Dev nD) :
    iprop((bigSep Finset.univ (fuΨ I c)) ∗ owns (c : Thread nD τ) (slot pb (fw c)) (lf 0) (tl (P2 I c) (fw c)) ∗ Rest I c)
    ⊢ iprop(some1 c pb ∗ bigSep Finset.univ fun r : Fin 15 => At c (kA r.succ) (rA c + 1)) := by
  have e : (bigSep Finset.univ (fuΨ I c) : sProp 𝕄)
      = iprop((bigSep Finset.univ fun r : Fin 15 => owns (c : Thread nD τ) (slot pb (fw (pr c r))) (lf r.succ) (tl (P2 I c) (fw (pr c r))))
        ∗ bigSep Finset.univ fun r : Fin 15 => At c (kA r.succ) (rA c + 1)) := by
    rw [← bigSep_sep']; rfl
  rw [e]
  iintro ⟨⟨Hq, Ha⟩, Hp, Hz⟩
  isplitl [Hq Hp Hz]
  · iapply (owns_some1 c pb (P2 I c))
    iapply (Entails.of_eq (pb_leaves I c).symm)
    isplitl [Hq Hp]
    · isplitl [Hp] <;> iassumption
    iassumption
  iassumption

/-- After the last products have come. -/
theorem fv_done (c : Dev nD) : iprop((bigSep Finset.univ (fvΨ I c)) ∗ some1 c (slot (rb 0) c))
    ⊢ iprop(some1 c (rb 0) ∗ bigSep Finset.univ fun r => At c (kR 0 (pr c r)) (rF c + 1)) := by
  have e : (bigSep Finset.univ (fvΨ I c) : sProp 𝕄)
      ⊢ iprop((bigSep Finset.univ fun r => some1 (F := F) c (slot (rb 0) (pr c r))) ∗ bigSep Finset.univ fun r => At c (kR 0 (pr c r)) (rF c + 1)) := by
    rw [← bigSep_sep']
    have hp : ∀ r, fvΨ I c r ⊢ iprop(some1 (F := F) c (slot (rb 0) (pr c r)) ∗ At c (kR 0 (pr c r)) (rF c + 1)) := fun r => by
      unfold fvΨ
      iintro ⟨Ha, Hb⟩
      isplitl [Ha]; · iapply (owns_some1 c (slot (rb 0) (pr c r))) $$ Ha
      iassumption
    exact bigSep_mono fun r _ => hp r
  rw [rb_out]
  iintro ⟨H, Hc⟩
  ihave H := e $$ H
  icases H with ⟨Ha, Hb⟩
  isplitl [Ha Hc]
  · isplitl [Hc] <;> iassumption
  iassumption

/-- After the second layer, its landing buffer is whole again. -/
theorem rb1_done (c : Dev nD) :
    iprop(Own c (bigSep Finset.univ (rvK (F := F) 1 c)) ∗ Idle c ∗ Nwn c (bigSep Finset.univ fun r => At c (kR 1 (pr c r)) 0))
    ⊢ iprop(some1 c (rb 1) ∗ bigSep Finset.univ fun r => At c (kR 1 (pr c r)) (rF c)) := by
  unfold Idle
  by_cases hO : isO c
  · rw [Own_yes hO, Own_yes hO, Nwn_yes hO, Nwn_yes hO, rF_owner hO, rb_out]
    have e : (bigSep Finset.univ (rvK (F := F) 1 c) : sProp 𝕄)
        ⊢ iprop((bigSep Finset.univ fun r => some1 (F := F) c (slot (rb 1) (pr c r))) ∗ bigSep Finset.univ fun r => At c (kR 1 (pr c r)) 1) := by
      rw [← bigSep_sep']
      have hp : ∀ r, rvK (F := F) 1 c r ⊢ iprop(some1 (F := F) c (slot (rb 1) (pr c r)) ∗ At c (kR 1 (pr c r)) 1) := fun r => by
        unfold rvK
        iintro ⟨Ha, Hb, -⟩
        isplitl [Ha] <;> iassumption
      exact bigSep_mono fun r _ => hp r
    iintro ⟨H, ⟨Hc, -⟩, -⟩
    ihave H := e $$ H
    icases H with ⟨Ha, Hb⟩
    isplitl [Ha Hc]
    · isplitl [Hc] <;> iassumption
    iassumption
  · rw [Own_no hO, Own_no hO, Nwn_no hO, Nwn_no hO, rF_other hO]
    iintro ⟨-, ⟨-, Ha⟩, Hb⟩
    isplitl [Ha] <;> iassumption

end Cert.KernelIdealRun
-- ==== Proof.KernelIdealRun.Stages.lean ====
/-
# The next operation of each stage

One rule per stage: the next operation, as the kernel writes it, takes the stage from `n` to `n + 1`.
-/
module

public import proofs.«01_k».proof.Proof.KernelIdealRun.Phases

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Dev nD → Inp F)

local notation "𝕄" => MT nD τ sig ℕ (Elt F) ℕ UU ℕ

/-- A program of one device. -/
abbrev PG (F : FTy → Type) [FloatOps F] (α : Type) : Type 1 := Prog (TpuEff nD τ sig (Elt F) Λ₀ .tc) α

theorem fin_kS {c : Dev nD} {w : Fin 8} (h : ow w ≠ c) : fin c (.inr (kS w)) = 2 := if_neg h
theorem fin_kA {c : Dev nD} (r : Fin 15) : fin c (.inr (kA r.succ)) = rA c + 1 := by unfold fin; dsimp only; rw [if_neg (Fin.succ_ne_zero r)]
theorem fin_kR {c s : Dev nD} (ℓ : Fin 2) (h : s ≠ c) : fin c (.inr (kR ℓ s)) = rF c + (1 - ℓ.val) := if_neg h
theorem fin_kG {c : Dev nD} (ℓ : Fin 2) {w : Fin 8} (h : ow w ≠ c) : fin c (.inr (kG ℓ w)) = 1 := if_neg h

theorem rs_own {ℓ : Fin 2} {c : Dev nD} {w : Fin 8} (e : ow w = c) : rsΦ I ℓ c w ⊢ swΦ ℓ c w :=
  Entails.of_eq (by unfold rsΦ swΦ; rw [Un_own e, Un_own e])
theorem rs_else {ℓ : Fin 2} {c : Dev nD} {w : Fin 8} (e : ow w ≠ c) : rsΦ I ℓ c w
    ⊢ iprop(At c (kS w) (if ow w = c then 0 else ℓ.val) ∗ owns (c : Thread nD τ) (slot pb w) fullShare (tl (PP I ℓ c) w)
      ∗ some1 (ow w) (slot (rb ℓ) c) ∗ Gx ℓ c (ow w) ∗ Tok c (kS w) ℓ c ∗ Rch c (kS w) ℓ ∗ Tok (ow w) (kR ℓ c) 0 c) :=
  Entails.of_eq (by unfold rsΦ; rw [Un_else e])
theorem rs_left {ℓ : Fin 2} {c : Dev nD} {w : Fin 8} (e : ow w ≠ c) :
    iprop(At c (kS w) (if ow w = c then 0 else ℓ.val) ∗ Cr c (kS w) 0) ⊢ swΦ (F := F) ℓ c w :=
  Entails.of_eq (by unfold swΦ; rw [Un_else e])
theorem sw_own {ℓ : Fin 2} {c : Dev nD} {w : Fin 8} (e : ow w = c) : swΦ ℓ c w ⊢ swΨ I ℓ c w :=
  Entails.of_eq (by unfold swΦ swΨ; rw [Un_own e, Un_own e, if_pos e, if_pos e])
theorem sw_else {ℓ : Fin 2} {c : Dev nD} {w : Fin 8} (e : ow w ≠ c) : swΦ (F := F) ℓ c w ⊢ iprop(At c (kS w) ℓ.val ∗ Cr c (kS w) 0) :=
  Entails.of_eq (by unfold swΦ; rw [Un_else e, if_neg e])
theorem sw_left {ℓ : Fin 2} {c : Dev nD} {w : Fin 8} (e : ow w ≠ c) :
    iprop(At c (kS w) (ℓ.val + 1) ∗ pay I c ℓ (kS w) ∗ Rch c (kS w) (ℓ + 1)) ⊢ swΨ I ℓ c w :=
  Entails.of_eq (by unfold swΨ; rw [Un_else e, if_neg e]; rfl)
theorem gw_own {ℓ : Fin 2} {c : Dev nD} {w : Fin 8} (e : ow w = c) : gwΦ ℓ c w ⊢ gwΨ I ℓ c w :=
  Entails.of_eq (by unfold gwΦ gwΨ; rw [Un_own e, Un_own e, if_pos e])
theorem gw_else {ℓ : Fin 2} {c : Dev nD} {w : Fin 8} (e : ow w ≠ c) : gwΦ (F := F) ℓ c w ⊢ iprop(At c (kG ℓ w) 0 ∗ Cr c (kG ℓ w) 0) :=
  Entails.of_eq (by unfold gwΦ; rw [Un_else e])
theorem gw_left {ℓ : Fin 2} {c : Dev nD} {w : Fin 8} (e : ow w ≠ c) :
    iprop(At c (kG ℓ w) 1 ∗ pay I c 0 (kG ℓ w)) ⊢ gwΨ I ℓ c w :=
  Entails.of_eq (by unfold gwΨ; rw [Un_else e, if_neg e]; rfl)

/-- The next barrier signal. -/
theorem sig_step (c : Dev nD) (n : ℕ) (hn : n < 15) {dn : ℕ} {hdn : dn < nD} (hd : dn = (c.val + n + 1) % 16) {R : CellTallies nD τ sig ℕ}
    {α : Type} {k : PUnit → PG F α} {Q : α → sProp 𝕄} :
    Recs I ⊢ iprop(SigS c R n -∗ (SigS c R (n + 1) -∗ WP c (k ⟨⟩) Q)
      -∗ WP c (.op (.semSignal ((⟨⟨dn, hdn⟩, Proc.tc⟩ : Thread nD τ)) barS ((1#32 : BitVec 32).toInt)) k) Q) := by
  iintro #HR H Hk
  ihave H := (St_turn c R (sigf c) (sigΦ (F := F) c) nil ⟨n, hn⟩) $$ H
  icases H with ⟨%O, ⟨HΦ, HO⟩, HB⟩
  unfold sigΦ; icases HΦ with ⟨Ht, Hp⟩
  iapply (step_signal I c ⟨n, hn⟩ (d := (⟨dn, hdn⟩ : Dev nD)) (Fin.ext hd) rfl (by decide) O) $$ HR [Ht Hp HO]
  · isplitl [Ht]; · iassumption
    isplitl [Hp]; · iassumption
    iexact HO
  iintro HO
  iapply Hk
  iapply HB
  isplitr
  · unfold nil; iempintro
  iexact HO

/-- The next partial tile of layer `ℓ` is sent, but for the one this device reduces. -/
theorem rs_step (ℓ : Fin 2) (c : Dev nD) (n : ℕ) (hn : n < 8) (Mr : Memref sig .tc .vmem (Rows 16) .f32) (hM : Mr = rb ℓ)
    {R : CellTallies nD τ sig ℕ} {p : Prop} {inst : Decidable p} (hp : p ↔ ow ⟨n, hn⟩ ≠ c)
    {dn : ℕ} {hdn : p → dn < nD} (hd : dn = (ow ⟨n, hn⟩).val)
    {offR : Fin 2 → ℕ} (hoff : offR = ![8 * c.val, 0]) {b : ℕ} (hb : b = 8 * n)
    {i₁ : p → ∀ a, (![b, 0] : Fin 2 → ℕ) a + S8x512.size a ≤ (Rows 8).size a} {a₁ : ∀ h a, (Rect.unit (s := Rows 8) ![b, 0] S8x512.size (i₁ h)).stride a = 1}
    {i₂ : p → ∀ a, offR a + S8x512.size a ≤ (Rows 16).size a} {a₂ : ∀ h a, (Rect.unit (s := Rows 16) offR S8x512.size (i₂ h)).stride a = 1}
    {sS sR : p → DmaSem sig} (hS : ∀ h, sS h = odma (kS ⟨n, hn⟩)) (hR : ∀ h, sR h = odma (kR ℓ c))
    {hsc : ∀ h, (Mr.slice (Rect.unit (s := Rows 16) offR S8x512.size (i₂ h)) (a₂ h)).view.ref.isScScratch = false}
    {w₁ : ∀ h, (pb.slice (Rect.unit (s := Rows 8) ![b, 0] S8x512.size (i₁ h)) (a₁ h)).view.WordExact} {w₂ : ∀ h, (Mr.slice (Rect.unit (s := Rows 16) offR S8x512.size (i₂ h)) (a₂ h)).view.WordExact}
    {ht : ∀ h, DmaTarget.Typed .vmem (.dma (sR h)) (.remote (⟨⟨dn, hdn h⟩, Proc.tc⟩ : Thread nD τ) (Mr.slice (Rect.unit (s := Rows 16) offR S8x512.size (i₂ h)) (a₂ h)) (.dma (sS h)) (hsc h))}
    {α : Type} {k : PG F α} {Q : α → sProp 𝕄} :
    Recs I ⊢ iprop(RsS I ℓ c R n -∗ (RsS I ℓ c R (n + 1) -∗ WP c k Q)
      -∗ WP c (@dite _ p inst (fun h => .op (.enqueueDma (pb.slice (Rect.unit (s := Rows 8) ![b, 0] S8x512.size (i₁ h)) (a₁ h))
        (.remote (⟨⟨dn, hdn h⟩, Proc.tc⟩ : Thread nD τ) (Mr.slice (Rect.unit (s := Rows 16) offR S8x512.size (i₂ h)) (a₂ h)) (.dma (sS h)) (hsc h))
        (.dma (sR h)) (w₁ h) (w₂ h) (ht h)) fun _ => k) (fun _ => k)) Q) := by
  subst hM; subst hb
  iintro #HR H Hk
  ihave H := (St_turn c R (rsf ℓ c) (rsΦ I ℓ c) (swΦ ℓ c) ⟨n, hn⟩) $$ H
  icases H with ⟨%O, ⟨HΦ, HO⟩, HB⟩
  by_cases e : ow ⟨n, hn⟩ = c
  · have hf : rsf ℓ c ⟨n, hn⟩ = 0 := if_pos e
    rw [hf, add_zero]
    iapply (wp_else c (fun h => hp.mp h e))
    iapply Hk; iapply HB
    isplitl [HΦ]
    · iapply (rs_own I e) $$ HΦ
    iexact HO
  · have hf : rsf ℓ c ⟨n, hn⟩ = tallyAt (cell (ow ⟨n, hn⟩) (.inr (kR ℓ c))) 0 N := if_neg e
    rw [hf]
    have h := hp.mpr e
    iapply (wp_then c h)
    ihave HΦ := (rs_else I e) $$ HΦ
    icases HΦ with ⟨Ha, Hs, Hd, HG, Ht₁, Hr, Ht₂⟩
    ihave #Hr₂ := (Recs_reached I (ow ⟨n, hn⟩) (.inr (kR ℓ c))) $$ HR
    have hO := isO_ow ⟨n, hn⟩
    have hwo := wo_ow ⟨n, hn⟩
    iapply (step_send I c (ow ⟨n, hn⟩) (kS ⟨n, hn⟩) (kR ℓ c) ℓ.val 0
      (by rw [fin_kS e]; exact ℓ.isLt) (by rw [fin_kR ℓ (Ne.symm e), rF_owner hO]; omega) rfl rfl 0
      (src := slot pb ⟨n, hn⟩) (dst := slot (rb ℓ) c) (q := fullShare) (X := tl (PP I ℓ c) ⟨n, hn⟩) (G := Gx ℓ c (ow ⟨n, hn⟩))
      (BI.Entails.refl _)
      (Entails.of_eq (by unfold pay; dsimp only; rw [if_pos ⟨hO, rfl⟩, hwo]))
      (Fin.ext hd) (slot_eq pb ⟨n, hn⟩ rfl) (slot_eq (rb ℓ) c hoff) (hS h) (hR h) credit_rb O) $$ HR [Hs Hd HG Ht₁ Hr Ht₂ HO]
    · isplitl [Hs]; · iassumption
      isplitl [Hd]; · iassumption
      isplitl [HG]; · iassumption
      isplitl [Ht₁]; · iassumption
      isplitl [Hr]; · iassumption
      isplitl [Ht₂]; · iassumption
      isplitr; · iexact Hr₂
      iexact HO
    iintro ⟨Hc, HO⟩
    iapply Hk; iapply HB
    isplitl [Ha Hc]
    · iapply (rs_left e); isplitl [Ha] <;> iassumption
    iexact HO

/-- The next partial tile sent is back. -/
theorem sw_step (ℓ : Fin 2) (c : Dev nD) (n : ℕ) (hn : n < 8)
    {R : CellTallies nD τ sig ℕ} (hR : Abv 0 R) {p : Prop} {inst : Decidable p} (hp : p ↔ ow ⟨n, hn⟩ ≠ c)
    {src dst : p → Memref sig .tc .vmem S8x512 .f32} (hN : ∀ h, (dst h).view.dmaCredit = N)
    {sS : p → DmaSem sig} (hS : ∀ h, sS h = odma (kS ⟨n, hn⟩))
    {w₁ : ∀ h, (src h).view.WordExact} {w₂ : ∀ h, (dst h).view.WordExact} {α : Type} {k : PG F α} {Q : α → sProp 𝕄} :
    Recs I ⊢ iprop(SwS I ℓ c R n -∗ (SwS I ℓ c R (n + 1) -∗ WP c k Q)
      -∗ WP c (@dite _ p inst (fun h => .op (.waitDma2 (sS h) (src h) (dst h) (w₁ h) (w₂ h)) fun _ => k) (fun _ => k)) Q) := by
  iintro #HR H Hk
  ihave H := (Wt_turn c R (swΦ ℓ c) (swΨ I ℓ c) ⟨n, hn⟩) $$ H
  icases H with ⟨⟨HΦ, HO⟩, HB⟩
  by_cases e : ow ⟨n, hn⟩ = c
  · iapply (wp_else c (fun h => hp.mp h e))
    iapply Hk; iapply HB
    isplitl [HΦ]
    · iapply (sw_own I e) $$ HΦ
    iexact HO
  · ihave HΦ := (sw_else e) $$ HΦ
    icases HΦ with ⟨Ha, HΦ⟩
    have h := hp.mpr e
    iapply (wp_then c h)
    iapply (step_wait I c (kS ⟨n, hn⟩) ℓ.val (by rw [fin_kS e]; exact ℓ.isLt) 0 (by decide) (Or.inl hR) (hS h) (hN h)) $$ HR [Ha HΦ HO]
    · isplitl [HΦ]; · iassumption
      isplitl [Ha]; · iassumption
      iexact HO
    iintro ⟨HO, Ha, Hr, Hp⟩
    iapply Hk; iapply HB
    isplitl [Ha Hr Hp]
    · iapply (sw_left I e)
      isplitl [Ha]; · iassumption
      isplitl [Hp] <;> iassumption
    iexact HO

/-- The next reduced tile of layer `ℓ` has come in, but for this device's own. -/
theorem gw_step (ℓ : Fin 2) (c : Dev nD) (n : ℕ) (hn : n < 8)
    {R : CellTallies nD τ sig ℕ} (hR : Abv (3 + 2 * ℓ.val) R) {p : Prop} {inst : Decidable p} (hp : p ↔ ow ⟨n, hn⟩ ≠ c)
    {src dst : p → Memref sig .tc .vmem S8x512 .f32} (hN : ∀ h, (dst h).view.dmaCredit = N)
    {sS : p → DmaSem sig} (hS : ∀ h, sS h = odma (kG ℓ ⟨n, hn⟩))
    {w₁ : ∀ h, (src h).view.WordExact} {w₂ : ∀ h, (dst h).view.WordExact} {α : Type} {k : PG F α} {Q : α → sProp 𝕄} :
    Recs I ⊢ iprop(GwS I ℓ c R n -∗ (GwS I ℓ c R (n + 1) -∗ WP c k Q)
      -∗ WP c (@dite _ p inst (fun h => .op (.waitDma2 (sS h) (src h) (dst h) (w₁ h) (w₂ h)) fun _ => k) (fun _ => k)) Q) := by
  iintro #HR H Hk
  ihave H := (Wt_turn c R (gwΦ ℓ c) (gwΨ I ℓ c) ⟨n, hn⟩) $$ H
  icases H with ⟨⟨HΦ, HO⟩, HB⟩
  by_cases e : ow ⟨n, hn⟩ = c
  · iapply (wp_else c (fun h => hp.mp h e))
    iapply Hk; iapply HB
    isplitl [HΦ]
    · iapply (gw_own I e) $$ HΦ
    iexact HO
  · ihave HΦ := (gw_else e) $$ HΦ
    icases HΦ with ⟨Ha, HΦ⟩
    have h := hp.mpr e
    iapply (wp_then c h)
    iapply (step_wait I c (kG ℓ ⟨n, hn⟩) 0 (by rw [fin_kG ℓ e]; decide) 0 (by decide)
      (Or.inl (hR.mono (by show (if ℓ = 0 then 3 else 5) ≤ 3 + 2 * ℓ.val; clear * -; revert ℓ; decide))) (hS h) (hN h)) $$ HR [Ha HΦ HO]
    · isplitl [HΦ]; · iassumption
      isplitl [Ha]; · iassumption
      iexact HO
    iintro ⟨HO, Ha, -, Hp⟩
    iapply Hk; iapply HB
    isplitl [Ha Hp]
    · iapply (gw_left I e)
      isplitl [Ha]; · iassumption
      iassumption
    iexact HO

/-- An owner's next partial tile of layer `ℓ` has come in. -/
theorem rv_wait (ℓ : Fin 2) (c : Dev nD) (hO : isO c) (n : ℕ) (hn : n < 15)
    {R : CellTallies nD τ sig ℕ} (hR : Abv (2 + 2 * ℓ.val) R) {src dst : Memref sig .tc .vmem S8x512 .f32} (hN : dst.view.dmaCredit = N)
    {s : DmaSem sig} (hS : s = odma (kR ℓ (pr c ⟨n, hn⟩)))
    {w₁ : src.view.WordExact} {w₂ : dst.view.WordExact} {α : Type} {k : PUnit → PG F α} {Q : α → sProp 𝕄} :
    Recs I ⊢ iprop(RvS I ℓ c R n -∗ (RvS I ℓ c R (n + 1) -∗ WP c (k ⟨⟩) Q)
      -∗ WP c (.op (.waitDma2 s src dst w₁ w₂) k) Q) := by
  iintro #HR H Hk
  ihave H := (Wt_turn c R (rvΦ ℓ c) (rvΨ I ℓ c) ⟨n, hn⟩) $$ H
  icases H with ⟨⟨HΦ, HO⟩, HB⟩
  unfold rvΦ rvΨ; icases HΦ with ⟨Hc, Ha⟩
  iapply (step_wait I c (kR ℓ (pr c ⟨n, hn⟩)) 0 (by rw [fin_kR ℓ (pr_ne c _), rF_owner hO]; omega) 0 (by decide)
      (Or.inl (hR.mono (by show (if ℓ = 0 then (if 0 = 0 then 2 else 6) else 4) ≤ 2 + 2 * ℓ.val; clear * -; revert ℓ; decide))) hS hN) $$ HR [Hc Ha HO]
  · isplitl [Hc]; · iassumption
    isplitl [Ha]; · iassumption
    iexact HO
  iintro ⟨HO, Ha, Hr, Hp⟩
  iapply Hk; iapply HB
  isplitl [Ha Hr Hp]
  · ihave Hp := (show pay I c 0 (kR ℓ (pr c ⟨n, hn⟩)) ⊢ iprop(owns (c : Thread nD τ) (slot (rb ℓ) (pr c ⟨n, hn⟩)) fullShare (tl (PP I ℓ (pr c ⟨n, hn⟩)) (wo c))
      ∗ Gx ℓ (pr c ⟨n, hn⟩) c) from Entails.of_eq (if_pos ⟨hO, rfl⟩)) $$ Hp
    icases Hp with ⟨Hp, HG⟩
    isplitl [Hp]; · iassumption
    isplitl [HG]; · iassumption
    isplitl [Ha]; · iassumption
    iexact Hr
  iexact HO

/-- An owner reads a partial tile that has come in. -/
theorem rv_load (ℓ : Fin 2) (c : Dev nD) (i : ℕ) (hi : i < 15) (n : ℕ) (hn : i < n) (Mr : Memref sig .tc .vmem (Rows 16) .f32) (hM : Mr = rb ℓ)
    {R : CellTallies nD τ sig ℕ} {off : Fin 2 → ℕ} (hoff : off = ![8 * (pr c ⟨i, hi⟩).val, 0])
    {inb : ∀ a, off a + S8x512.size a ≤ (Rows 16).size a} {hl} {α : Type} {k : Vec F S8x512 .f32 → PG F α} {Q : α → sProp 𝕄} :
    RvS I ℓ c R n ⊢ iprop((RvS I ℓ c R n -∗ WP c (k (tl (PP I ℓ (pr c ⟨i, hi⟩)) (wo c))) Q)
      -∗ WP c (.op (.load Mr (Rect.unit (s := Rows 16) off S8x512.size inb).toLoadRect hl) k) Q) := by
  subst hM
  iintro H Hk
  ihave H := (Wt_get c R (rvΦ ℓ c) (rvΨ I ℓ c) n ⟨i, hi⟩ hn) $$ H
  icases H with ⟨HΨ, HB⟩
  unfold rvΨ; icases HΨ with ⟨Hp, Hx⟩
  iapply (step_load_tile c (rb ℓ) (pr c ⟨i, hi⟩) hoff) $$ Hp
  iintro Hp
  iapply Hk; iapply HB
  isplitl [Hp] <;> iassumption

/-- An owner's reduced tile of layer `ℓ` is sent to the next peer. -/
theorem ag_step (ℓ : Fin 2) (c : Dev nD) (hO : isO c) (n : ℕ) (hn : n < 15) (Mx : Memref sig .tc .vmem (Rows 8) .f32) (hM : Mx = xb ℓ)
    {R : CellTallies nD τ sig ℕ} {dn : ℕ} {hdn : dn < nD} (hd : dn = (c.val + n + 1) % 16)
    {off : Fin 2 → ℕ} (hoff : off = ![8 * (wo c).val, 0])
    {i₁ : ∀ a, off a + S8x512.size a ≤ (Rows 8).size a} {a₁} {i₂ : ∀ a, off a + S8x512.size a ≤ (Rows 8).size a} {a₂}
    {sS sR : DmaSem sig} (hS : sS = odma (kA ⟨n + 1, Nat.succ_lt_succ hn⟩)) (hR : sR = odma (kG ℓ (wo c)))
    {hsc w₁ w₂ ht} {α : Type} {k : PUnit → PG F α} {Q : α → sProp 𝕄} :
    Recs I ⊢ iprop(AgS I ℓ c R n -∗ (AgS I ℓ c R (n + 1) -∗ WP c (k ⟨⟩) Q)
      -∗ WP c (.op (.enqueueDma (Mx.slice (Rect.unit (s := Rows 8) off S8x512.size i₁) a₁)
        (.remote (⟨⟨dn, hdn⟩, Proc.tc⟩ : Thread nD τ) (Mx.slice (Rect.unit (s := Rows 8) off S8x512.size i₂) a₂) (.dma sS) hsc)
        (.dma sR) w₁ w₂ ht) k) Q) := by
  subst hM
  iintro #HR H Hk
  ihave H := (St_turn c R (agf ℓ c) (agΦ I ℓ c) (awΦ ℓ c) ⟨n, hn⟩) $$ H
  icases H with ⟨%O, ⟨HΦ, HO⟩, HB⟩
  unfold agΦ awΦ; icases HΦ with ⟨Hs, Hd, HG, Ht₁, Hr, Ht₂, Ha⟩
  ihave #Hr₂ := (Recs_reached I (pr c ⟨n, hn⟩) (.inr (kG ℓ (wo c)))) $$ HR
  have ho := ow_wo c hO
  have hne : ow (wo c) ≠ pr c ⟨n, hn⟩ := fun e => pr_ne c _ (e.symm.trans ho)
  iapply (step_send I c (pr c ⟨n, hn⟩) (kA (Fin.succ (⟨n, hn⟩ : Fin 15))) (kG ℓ (wo c)) ℓ.val 0
      (by rw [fin_kA, rA_owner hO]; omega) (by rw [fin_kG ℓ hne]; decide) rfl ho 0
      (src := slot (xb ℓ) (wo c)) (dst := slot (xb ℓ) (wo c)) (q := lf (Fin.succ (⟨n, hn⟩ : Fin 15))) (X := AA I ℓ (wo c)) (G := Gy ℓ c (pr c ⟨n, hn⟩))
      (Entails.of_eq (by unfold pay; dsimp only; rw [if_pos ⟨hO, ℓ.isLt⟩]))
      (Entails.of_eq (by unfold pay; dsimp only; rw [ho]))
      (Fin.ext hd) (slot_eq (xb ℓ) (wo c) hoff) (slot_eq (xb ℓ) (wo c) hoff) hS hR credit_xb O) $$ HR [Hs Hd HG Ht₁ Hr Ht₂ HO]
  · isplitl [Hs]; · iassumption
    isplitl [Hd]; · iassumption
    isplitl [HG]; · iassumption
    isplitl [Ht₁]; · iassumption
    isplitl [Hr]; · iassumption
    isplitl [Ht₂]; · iassumption
    isplitr; · iexact Hr₂
    iexact HO
  iintro ⟨Hc, HO⟩
  iapply Hk; iapply HB
  isplitl [Ha Hc]
  · isplitl [Hc] <;> iassumption
  iexact HO

/-- The next share of an owner's reduced tile is back. -/
theorem aw_step (ℓ : Fin 2) (c : Dev nD) (hO : isO c) (n : ℕ) (hn : n < 15)
    {R : CellTallies nD τ sig ℕ} (hR : Abv 0 R) {src dst : Memref sig .tc .vmem S8x512 .f32} (hN : dst.view.dmaCredit = N)
    {s : DmaSem sig} (hS : s = odma (kA ⟨n + 1, Nat.succ_lt_succ hn⟩))
    {w₁ : src.view.WordExact} {w₂ : dst.view.WordExact} {α : Type} {k : PUnit → PG F α} {Q : α → sProp 𝕄} :
    Recs I ⊢ iprop(AwS I ℓ c R n -∗ (AwS I ℓ c R (n + 1) -∗ WP c (k ⟨⟩) Q)
      -∗ WP c (.op (.waitDma2 s src dst w₁ w₂) k) Q) := by
  iintro #HR H Hk
  ihave H := (Wt_turn c R (awΦ ℓ c) (awΨ I ℓ c) ⟨n, hn⟩) $$ H
  icases H with ⟨⟨HΦ, HO⟩, HB⟩
  unfold awΦ awΨ; icases HΦ with ⟨Hc, Ha⟩
  iapply (step_wait I c (kA (Fin.succ (⟨n, hn⟩ : Fin 15))) ℓ.val (by rw [fin_kA, rA_owner hO]; omega) 0 (by decide)
      (Or.inl hR) hS hN) $$ HR [Hc Ha HO]
  · isplitl [Hc]; · iassumption
    isplitl [Ha]; · iassumption
    iexact HO
  iintro ⟨HO, Ha, Hr, Hp⟩
  iapply Hk; iapply HB
  isplitl [Ha Hr Hp]
  · isplitl [Hp]
    · iapply (show pay I c ℓ.val (kA (Fin.succ (⟨n, hn⟩ : Fin 15))) ⊢ owns (c : Thread nD τ) (slot (xb ℓ) (wo c)) (lf (Fin.succ (⟨n, hn⟩ : Fin 15))) (AA I ℓ (wo c))
        from Entails.of_eq (if_pos ⟨hO, ℓ.isLt⟩)) $$ Hp
    isplitl [Ha] <;> iassumption
  iexact HO

theorem drop_emp (P : sProp 𝕄) : iprop(P ∗ emp) ⊢ P := by
  iintro ⟨H, -⟩; iexact H

theorem no_mid (c : Dev nD) : ¬ (isO c ∧ rA c < 2) := fun h => by rw [rA_owner h.1] at h; exact absurd h.2 (by decide)
theorem no_first (c : Dev nD) : ¬ (isO c ∧ rF c = 0) := fun h => by rw [rF_owner h.1] at h; exact absurd h.2 (by decide)

/-- The next tile of the last products is sent. -/
theorem fs_step (c : Dev nD) (n : ℕ) (hn : n < 15)
    {R : CellTallies nD τ sig ℕ} {dn : ℕ} {hdn : dn < nD} (hd : dn = (c.val + n + 1) % 16)
    {offS : Fin 2 → ℕ} (hoffS : offS = ![8 * (fw (pr c ⟨n, hn⟩)).val, 0]) {offR : Fin 2 → ℕ} (hoffR : offR = ![8 * c.val, 0])
    {i₁ : ∀ a, offS a + S8x512.size a ≤ (Rows 8).size a} {a₁} {i₂ : ∀ a, offR a + S8x512.size a ≤ (Rows 16).size a} {a₂}
    {sS sR : DmaSem sig} (hS : sS = odma (kA ⟨n + 1, Nat.succ_lt_succ hn⟩)) (hR : sR = odma (kR 0 c))
    {hsc w₁ w₂ ht} {α : Type} {k : PUnit → PG F α} {Q : α → sProp 𝕄} :
    Recs I ⊢ iprop(FsS I c R n -∗ (FsS I c R (n + 1) -∗ WP c (k ⟨⟩) Q)
      -∗ WP c (.op (.enqueueDma (pb.slice (Rect.unit (s := Rows 8) offS S8x512.size i₁) a₁)
        (.remote (⟨⟨dn, hdn⟩, Proc.tc⟩ : Thread nD τ) ((Memref.whole cc0_scratch1 : Memref sig .tc .vmem (Rows 16) .f32).slice (Rect.unit (s := Rows 16) offR S8x512.size i₂) a₂) (.dma sS) hsc)
        (.dma sR) w₁ w₂ ht) k) Q) := by
  iintro #HR H Hk
  ihave H := (St_turn c R (fsf c) (fsΦ I c) (fuΦ c) ⟨n, hn⟩) $$ H
  icases H with ⟨%O, ⟨HΦ, HO⟩, HB⟩
  unfold fsΦ fuΦ grant; icases HΦ with ⟨Hs, ⟨Hd, Hr₂⟩, Ht₁, Hr, Ht₂, Ha⟩
  iapply (step_send I c (pr c ⟨n, hn⟩) (kA (Fin.succ (⟨n, hn⟩ : Fin 15))) (kR 0 c) (rA c) (rF (pr c ⟨n, hn⟩))
      (by rw [fin_kA]; omega) (by rw [fin_kR 0 (pr_ne c _).symm]; exact Nat.lt_succ_self _) rfl rfl 1
      (src := slot pb (fw (pr c ⟨n, hn⟩))) (dst := slot (rb 0) c) (q := lf (Fin.succ (⟨n, hn⟩ : Fin 15))) (X := tl (P2 I c) (fw (pr c ⟨n, hn⟩))) (G := iprop(emp))
      (Entails.of_eq (by unfold pay; dsimp only; rw [if_neg (no_mid c), ad_succ]))
      ((drop_emp _).trans (Entails.of_eq (show owns ((pr c ⟨n, hn⟩ : Dev nD) : Thread nD τ) (slot (rb 0) c) fullShare (tl (P2 I c) (fw (pr c ⟨n, hn⟩))) = pay I (pr c ⟨n, hn⟩) (rF (pr c ⟨n, hn⟩)) (kR 0 c) from by unfold pay; dsimp only; rw [if_neg (no_first _)])))
      (Fin.ext hd) (slot_eq pb (fw (pr c ⟨n, hn⟩)) hoffS) (slot_eq (rb 0) c hoffR) hS hR (credit_rb (ℓ := 0)) O) $$ HR [Hs Hd Ht₁ Hr Ht₂ Hr₂ HO]
  · isplitl [Hs]; · iassumption
    isplitl [Hd]; · iassumption
    isplitr; · iempintro
    isplitl [Ht₁]; · iassumption
    isplitl [Hr]; · iassumption
    isplitl [Ht₂]; · iassumption
    isplitl [Hr₂]; · iassumption
    iexact HO
  iintro ⟨Hc, HO⟩
  iapply Hk; iapply HB
  isplitl [Ha Hc]
  · isplitl [Hc] <;> iassumption
  iexact HO

/-- The next share of the tiles sent last is back. -/
theorem fu_step (c : Dev nD) (n : ℕ) (hn : n < 15)
    {src dst : Memref sig .tc .vmem S8x512 .f32} (hN : dst.view.dmaCredit = N)
    {s : DmaSem sig} (hS : s = odma (kA ⟨n + 1, Nat.succ_lt_succ hn⟩))
    {w₁ : src.view.WordExact} {w₂ : dst.view.WordExact} {α : Type} {k : PUnit → PG F α} {Q : α → sProp 𝕄} :
    Recs I ⊢ iprop(FuS I c 0 n -∗ (FuS I c 0 (n + 1) -∗ WP c (k ⟨⟩) Q)
      -∗ WP c (.op (.waitDma2 s src dst w₁ w₂) k) Q) := by
  iintro #HR H Hk
  ihave H := (Wt_turn c 0 (fuΦ c) (fuΨ I c) ⟨n, hn⟩) $$ H
  icases H with ⟨⟨HΦ, HO⟩, HB⟩
  unfold fuΦ fuΨ; icases HΦ with ⟨Hc, Ha⟩
  iapply (step_wait I c (kA (Fin.succ (⟨n, hn⟩ : Fin 15))) (rA c) (by rw [fin_kA]; omega) 0 (by decide)
      (Or.inr rfl) hS hN) $$ HR [Hc Ha HO]
  · isplitl [Hc]; · iassumption
    isplitl [Ha]; · iassumption
    iexact HO
  iintro ⟨HO, Ha, -, Hp⟩
  iapply Hk; iapply HB
  isplitl [Ha Hp]
  · isplitl [Hp]
    · iapply (show pay I c (rA c) (kA (Fin.succ (⟨n, hn⟩ : Fin 15))) ⊢ owns (c : Thread nD τ) (slot pb (fw (pr c ⟨n, hn⟩))) (lf (Fin.succ (⟨n, hn⟩ : Fin 15))) (tl (P2 I c) (fw (pr c ⟨n, hn⟩)))
        from Entails.of_eq (by unfold pay; dsimp only; rw [if_neg (no_mid c), ad_succ])) $$ Hp
    iexact Ha
  iexact HO

/-- The next tile of the last products has come in. -/
theorem fv_wait (c : Dev nD) (n : ℕ) (hn : n < 15)
    {src dst : Memref sig .tc .vmem S8x512 .f32} (hN : dst.view.dmaCredit = N)
    {s : DmaSem sig} (hS : s = odma (kR 0 (pr c ⟨n, hn⟩)))
    {w₁ : src.view.WordExact} {w₂ : dst.view.WordExact} {α : Type} {k : PUnit → PG F α} {Q : α → sProp 𝕄} :
    Recs I ⊢ iprop(FvS I c 0 n -∗ (FvS I c 0 (n + 1) -∗ WP c (k ⟨⟩) Q)
      -∗ WP c (.op (.waitDma2 s src dst w₁ w₂) k) Q) := by
  iintro #HR H Hk
  ihave H := (Wt_turn c 0 (fvΦ c) (fvΨ I c) ⟨n, hn⟩) $$ H
  icases H with ⟨⟨HΦ, HO⟩, HB⟩
  unfold fvΦ fvΨ; icases HΦ with ⟨Hc, Ha⟩
  iapply (step_wait I c (kR 0 (pr c ⟨n, hn⟩)) (rF c) (by rw [fin_kR 0 (pr_ne c _)]; exact Nat.lt_succ_self _) 1 (by decide)
      (Or.inr rfl) hS hN) $$ HR [Hc Ha HO]
  · isplitl [Hc]; · iassumption
    isplitl [Ha]; · iassumption
    iexact HO
  iintro ⟨HO, Ha, -, Hp⟩
  iapply Hk; iapply HB
  isplitl [Ha Hp]
  · isplitl [Hp]
    · iapply (show pay I c (rF c) (kR 0 (pr c ⟨n, hn⟩)) ⊢ owns (c : Thread nD τ) (slot (rb 0) (pr c ⟨n, hn⟩)) fullShare (tl (P2 I (pr c ⟨n, hn⟩)) (fw c))
        from Entails.of_eq (if_neg (no_first c))) $$ Hp
    iexact Ha
  iexact HO

/-- A tile of the last products that has come in is read. -/
theorem fv_load (c : Dev nD) (i : ℕ) (hi : i < 15) (n : ℕ) (hn : i < n)
    {R : CellTallies nD τ sig ℕ} {off : Fin 2 → ℕ} (hoff : off = ![8 * (pr c ⟨i, hi⟩).val, 0])
    {inb : ∀ a, off a + S8x512.size a ≤ (Rows 16).size a} {hl} {α : Type} {k : Vec F S8x512 .f32 → PG F α} {Q : α → sProp 𝕄} :
    FvS I c R n ⊢ iprop((FvS I c R n -∗ WP c (k (tl (P2 I (pr c ⟨i, hi⟩)) (fw c))) Q)
      -∗ WP c (.op (.load (Memref.whole cc0_scratch1 : Memref sig .tc .vmem (Rows 16) .f32) (Rect.unit (s := Rows 16) off S8x512.size inb).toLoadRect hl) k) Q) := by
  iintro H Hk
  ihave H := (Wt_get c R (fvΦ c) (fvΨ I c) n ⟨i, hi⟩ hn) $$ H
  icases H with ⟨HΨ, HB⟩
  unfold fvΨ; icases HΨ with ⟨Hp, Hx⟩
  iapply (step_load_tile c (rb 0) (pr c ⟨i, hi⟩) hoff) $$ Hp
  iintro Hp
  iapply Hk; iapply HB
  isplitl [Hp] <;> iassumption

end Cert.KernelIdealRun
-- ==== Proof.KernelIdealRun.Common.lean ====
/-
# The parts of the kernel's body: what they share
-/
module

public import proofs.«01_k».proof.Proof.KernelIdealRun.Bounds
public import proofs.«01_k».proof.Proof.KernelIdealRun.Stages

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Dev nD → Inp F)

local notation "𝕄" => MT nD τ sig ℕ (Elt F) ℕ UU ℕ

/-- A part of the kernel's body, on the kernel's own buffers and semaphores. -/
abbrev on {β : Type 1} (f : (arg0 : Memref sig .tc .vmem S64x512 .f32) → (harg0 : arg0.IsWhole) → (arg1 : Memref sig .tc .vmem S512x1024 .f32) → (harg1 : arg1.IsWhole)
    → (arg2 : Memref sig .tc .vmem S1024x512 .f32) → (harg2 : arg2.IsWhole) → (arg3 : Memref sig .tc .vmem S512x1024 .f32) → (harg3 : arg3.IsWhole)
    → (arg4 : Memref sig .tc .vmem S1024x512 .f32) → (harg4 : arg4.IsWhole) → (arg5 : Memref sig .tc .vmem S512x1024 .f32) → (harg5 : arg5.IsWhole)
    → (arg6 : Memref sig .tc .vmem S1024x512 .f32) → (harg6 : arg6.IsWhole) → (arg7 : Memref sig .tc .vmem S4x512 .f32) → (harg7 : arg7.IsWhole)
    → (arg8 : Memref sig .tc .vmem S64x512 .f32) → (harg8 : arg8.IsWhole) → (arg9 : Memref sig .tc .vmem S128x512 .f32) → (harg9 : arg9.IsWhole)
    → (arg10 : Memref sig .tc .vmem S128x512 .f32) → (harg10 : arg10.IsWhole) → (arg11 : Memref sig .tc .vmem S64x512 .f32) → (harg11 : arg11.IsWhole)
    → (arg12 : Memref sig .tc .vmem S64x512 .f32) → (harg12 : arg12.IsWhole)
    → (arg13 : DmaSems sig S8) → (arg14 : DmaSems sig S16) → (arg15 : DmaSems sig S16) → (arg16 : DmaSems sig S16) → (arg17 : DmaSems sig S8)
    → (arg18 : DmaSems sig S8) → β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9 cc0_scratch10

/-- A part that is done. -/
theorem wp_done (c : Dev nD) {α : Type} {a : α} {Q : α → sProp 𝕄} : Q a ⊢ WP (F := F) c (.ret a) Q := by
  unfold WP; rw [wp_ret]; exact fupd_intro

/-- A part, and what comes after it. -/
theorem wp_seq (c : Dev nD) {α β : Type} {p : PG F α} {k : α → PG F β} {Q : β → sProp 𝕄} :
    WP (F := F) c p (fun a => WP c (k a) Q) ⊢ WP c (p >>= k) Q := by
  unfold WP; rw [wp_bind]

/-- The partial tile an owner has from its peer at distance `i + 1`. -/
abbrev sl (ℓ : Fin 2) (c : Dev nD) (i : ℕ) (hi : i < 15) : Tile F := tl (PP I ℓ (pr c ⟨i, hi⟩)) (wo c)

/-- What an owner needs to send the tile it reduces in layer `ℓ`. -/
def Agin (ℓ : Fin 2) (c : Dev nD) : sProp 𝕄 :=
  iprop(some1 c (slot (xb ℓ) (wo c)) ∗ (bigSep Finset.univ fun r => some1 (pr c r) (slot (xb ℓ) (wo c)))
    ∗ (bigSep Finset.univ fun r : Fin 15 => Tok c (kA r.succ) ℓ c) ∗ (bigSep Finset.univ fun r => Tok (pr c r) (kG ℓ (wo c)) 0 c) ∗ KA ℓ.val c)
/-- What an owner keeps besides, having sent the tile it reduces in layer `ℓ`. -/
def Agout (ℓ : Fin 2) (c : Dev nD) : sProp 𝕄 :=
  iprop(owns (c : Thread nD τ) (slot (xb ℓ) (wo c)) (lf 0) (AA I ℓ (wo c)) ∗ Gy ℓ c c ∗ bigSep Finset.univ (rvK ℓ c))

/-- What an owner sums in the first layer is its tile of the sum over the devices. -/
theorem red_own0 (c : Dev nD) (hO : isO c) :
    k0_pay8 (k0_pay7 (k0_pay6 (k0_pay5 (k0_pay4 (k0_pay3 (k0_pay2 (tl (PP I (0 : Fin 2).val c) (wo c)) (sl I 0 c 0 (by decide)) (sl I 0 c 1 (by decide)))
      (sl I 0 c 2 (by decide)) (sl I 0 c 3 (by decide))) (sl I 0 c 4 (by decide)) (sl I 0 c 5 (by decide)))
      (sl I 0 c 6 (by decide)) (sl I 0 c 7 (by decide)) (sl I 0 c 8 (by decide))) (sl I 0 c 9 (by decide)) (sl I 0 c 10 (by decide)))
      (sl I 0 c 11 (by decide)) (sl I 0 c 12 (by decide))) (sl I 0 c 13 (by decide)) (sl I 0 c 14 (by decide)) = AA I (0 : Fin 2).val (wo c) := by
  unfold AA red; rw [ow_wo c hO]; rfl
/-- And in the second. -/
theorem red_own1 (c : Dev nD) (hO : isO c) :
    k0_pay15 (k0_pay14 (k0_pay13 (k0_pay12 (k0_pay11 (k0_pay10 (k0_pay9 (tl (PP I (1 : Fin 2).val c) (wo c)) (sl I 1 c 0 (by decide)) (sl I 1 c 1 (by decide)))
      (sl I 1 c 2 (by decide)) (sl I 1 c 3 (by decide))) (sl I 1 c 4 (by decide)) (sl I 1 c 5 (by decide)))
      (sl I 1 c 6 (by decide)) (sl I 1 c 7 (by decide)) (sl I 1 c 8 (by decide))) (sl I 1 c 9 (by decide)) (sl I 1 c 10 (by decide)))
      (sl I 1 c 11 (by decide)) (sl I 1 c 12 (by decide))) (sl I 1 c 13 (by decide)) (sl I 1 c 14 (by decide)) = AA I (1 : Fin 2).val (wo c) := by
  unfold AA red; rw [ow_wo c hO]; rfl

end Cert.KernelIdealRun
-- ==== Proof.KernelIdealRun.Simple.lean ====
/-
# Parts of the body within one stage
-/
module

public import proofs.«01_k».proof.Proof.KernelIdealRun.Common

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Dev nD → Inp F)

local notation "𝕄" => MT nD τ sig ℕ (Elt F) ℕ UU ℕ

/-- The kernel asks where it runs. -/
theorem wp_deviceId_step (c : Dev nD) {α : Type} {k : Dev nD → PG F α} {Q : α → sProp 𝕄} :
    WP (F := F) c (k c) Q ⊢ WP c (.op .deviceId k) Q := by
  unfold WP; rw [wp_deviceId]

/-- The tile of the last products a device has from its peer at distance `i + 1`. -/
abbrev sf (c : Dev nD) (i : ℕ) (hi : i < 15) : Tile F := tl (P2 I (pr c ⟨i, hi⟩)) (fw c)

/-- Signals to the peers. -/
theorem part25 (c : Dev nD) {R : CellTallies nD τ sig ℕ}  {Q} :
    Recs I ⊢ iprop(SigS c R 0 -∗ (∀ v5 v8 v26 v33 a, SigS c R 1 -∗ Q ⟨c, v2w c, v5, v8, v26, (SemArray.scalar (sig.barrier 0 rfl)), v33, a⟩)
      -∗ WP c (on (k0_part25 (F := F)) ) Q) := by
  unfold v2w
  iintro #HR H Hk
  rw [k0_part25_eq_skeleton]; unfold on k0_part25_skel
  simp -zeta -zetaHave only [semSignalWord, semWaitWord, Prog.lift, Prog.bind_op, Prog.bind_ret, Prog.pure_eq_ret]
  iapply (wp_deviceId_step c)
  iapply (sig_step I c 0 (by decide) (k0_dev1_eq c)) $$ HR H; iintro H
  iapply (wp_done c)
  iapply Hk $$ H

/-- Signals to the peers. -/
theorem part26 (c : Dev nD) {R : CellTallies nD τ sig ℕ} (v2 : BitVec 32) (v33 : BitVec 32) (c1_i32_16 : BitVec 32) {Q} :
    Recs I ⊢ iprop(SigS c R 1 -∗ (∀ a, SigS c R 7 -∗ Q a)
      -∗ WP c (on (k0_part26 (F := F)) c v2 (SemArray.scalar (sig.barrier 0 rfl)) v33 c1_i32_16) Q) := by
  iintro #HR H Hk
  rw [k0_part26_eq_skeleton]; unfold on k0_part26_skel
  simp -zeta -zetaHave only [semSignalWord, semWaitWord, Prog.lift, Prog.bind_op, Prog.bind_ret, Prog.pure_eq_ret]
  iapply (sig_step I c 1 (by decide) (k0_dev2_eq c)) $$ HR H; iintro H
  iapply (sig_step I c 2 (by decide) (k0_dev3_eq c)) $$ HR H; iintro H
  iapply (sig_step I c 3 (by decide) (k0_dev4_eq c)) $$ HR H; iintro H
  iapply (sig_step I c 4 (by decide) (k0_dev5_eq c)) $$ HR H; iintro H
  iapply (sig_step I c 5 (by decide) (k0_dev6_eq c)) $$ HR H; iintro H
  iapply (sig_step I c 6 (by decide) (k0_dev7_eq c)) $$ HR H; iintro H
  iapply (wp_done c)
  iapply Hk $$ H

/-- Signals to the peers. -/
theorem part27 (c : Dev nD) {R : CellTallies nD τ sig ℕ} (v2 : BitVec 32) (v57 : BitVec 32) (c1_i32_42 : BitVec 32) {Q} :
    Recs I ⊢ iprop(SigS c R 7 -∗ (∀ a, SigS c R 13 -∗ Q a)
      -∗ WP c (on (k0_part27 (F := F)) c v2 (SemArray.scalar (sig.barrier 0 rfl)) v57 c1_i32_42) Q) := by
  iintro #HR H Hk
  rw [k0_part27_eq_skeleton]; unfold on k0_part27_skel
  simp -zeta -zetaHave only [semSignalWord, semWaitWord, Prog.lift, Prog.bind_op, Prog.bind_ret, Prog.pure_eq_ret]
  iapply (sig_step I c 7 (by decide) (k0_dev8_eq c)) $$ HR H; iintro H
  iapply (sig_step I c 8 (by decide) (k0_dev9_eq c)) $$ HR H; iintro H
  iapply (sig_step I c 9 (by decide) (k0_dev10_eq c)) $$ HR H; iintro H
  iapply (sig_step I c 10 (by decide) (k0_dev11_eq c)) $$ HR H; iintro H
  iapply (sig_step I c 11 (by decide) (k0_dev12_eq c)) $$ HR H; iintro H
  iapply (sig_step I c 12 (by decide) (k0_dev13_eq c)) $$ HR H; iintro H
  iapply (wp_done c)
  iapply Hk $$ H

/-- Partial tiles of the first layer sent to their owners. -/
theorem part29 (c : Dev nD) {R : CellTallies nD τ sig ℕ} (v2 : BitVec 32) {Q} :
    Recs I ⊢ iprop(RsS I 0 c R 2 -∗ (∀ a, RsS I 0 c R 8 -∗ Q a)
      -∗ WP c (on (k0_part29 (F := F)) c v2) Q) := by
  iintro #HR H Hk
  rw [k0_part29_eq_skeleton]; unfold on k0_part29_skel
  simp -zeta -zetaHave only [semSignalWord, semWaitWord, Prog.lift, Prog.bind_op, Prog.bind_ret, Prog.pure_eq_ret]
  iapply (rs_step I 0 c 2 (by decide) (Memref.whole cc0_scratch1) rfl (cond3_iff c) (k0_dev18_eq) (k0_off6_eq c) (b := 16) rfl
    (fun _ => semS 2 rfl) (fun h => semR0 c (k0_off5_eq c))) $$ HR H; iintro H
  iapply (rs_step I 0 c 3 (by decide) (Memref.whole cc0_scratch1) rfl (cond4_iff c) (k0_dev19_eq) (k0_off8_eq c) (b := 24) rfl
    (fun _ => semS 3 rfl) (fun h => semR0 c (k0_off7_eq c))) $$ HR H; iintro H
  iapply (rs_step I 0 c 4 (by decide) (Memref.whole cc0_scratch1) rfl (cond5_iff c) (k0_dev20_eq) (k0_off10_eq c) (b := 32) rfl
    (fun _ => semS 4 rfl) (fun h => semR0 c (k0_off9_eq c))) $$ HR H; iintro H
  iapply (rs_step I 0 c 5 (by decide) (Memref.whole cc0_scratch1) rfl (cond6_iff c) (k0_dev21_eq) (k0_off12_eq c) (b := 40) rfl
    (fun _ => semS 5 rfl) (fun h => semR0 c (k0_off11_eq c))) $$ HR H; iintro H
  iapply (rs_step I 0 c 6 (by decide) (Memref.whole cc0_scratch1) rfl (cond7_iff c) (k0_dev22_eq) (k0_off14_eq c) (b := 48) rfl
    (fun _ => semS 6 rfl) (fun h => semR0 c (k0_off13_eq c))) $$ HR H; iintro H
  iapply (rs_step I 0 c 7 (by decide) (Memref.whole cc0_scratch1) rfl (cond8_iff c) (k0_dev23_eq) (k0_off16_eq c) (b := 56) rfl
    (fun _ => semS 7 rfl) (fun h => semR0 c (k0_off15_eq c))) $$ HR H; iintro H
  iapply (wp_done c)
  iapply Hk $$ H

/-- Words alone. -/
theorem part30 (c : Dev nD) (v2 : BitVec 32) (v135 : BitVec 32) {Q} :
    iprop(∀ a, Q a) ⊢ WP c (on (k0_part30 (F := F)) v2 v135) Q := by
  iintro Hk
  rw [k0_part30_eq_skeleton]; unfold on k0_part30_skel
  simp -zeta -zetaHave only [semSignalWord, semWaitWord, Prog.lift, Prog.bind_op, Prog.bind_ret, Prog.pure_eq_ret]
  iapply (wp_done c)
  iapply Hk

/-- Words alone. -/
theorem part31 (c : Dev nD) (v2 : BitVec 32) (v5 : BitVec 1) (v165 : BitVec 32) {Q} :
    iprop(∀ a, Q a) ⊢ WP c (on (k0_part31 (F := F)) v2 v5 v165) Q := by
  iintro Hk
  rw [k0_part31_eq_skeleton]; unfold on k0_part31_skel
  simp -zeta -zetaHave only [semSignalWord, semWaitWord, Prog.lift, Prog.bind_op, Prog.bind_ret, Prog.pure_eq_ret]
  iapply (wp_done c)
  iapply Hk

/-- Partial tiles of the second layer sent to their owners. -/
theorem part35 (c : Dev nD) {R : CellTallies nD τ sig ℕ} (v2 : BitVec 32) (v258 : BitVec 1) {Q} :
    Recs I ⊢ iprop(RsS I 1 c R 0 -∗ (∀ a, RsS I 1 c R 7 -∗ Q a)
      -∗ WP c (on (k0_part35 (F := F)) c v2 v258) Q) := by
  iintro #HR H Hk
  rw [k0_part35_eq_skeleton]; unfold on k0_part35_skel
  simp -zeta -zetaHave only [semSignalWord, semWaitWord, Prog.lift, Prog.bind_op, Prog.bind_ret, Prog.pure_eq_ret]
  iapply (rs_step I 1 c 0 (by decide) (Memref.whole cc0_scratch2) rfl (cond27_iff c) (k0_dev39_eq) (k0_off33_eq c) (b := 0) rfl
    (fun _ => semS 0 rfl) (fun h => semR1 c (k0_off32_eq c))) $$ HR H; iintro H
  iapply (rs_step I 1 c 1 (by decide) (Memref.whole cc0_scratch2) rfl (cond28_iff c) (k0_dev40_eq) (k0_off35_eq c) (b := 8) rfl
    (fun _ => semS 1 rfl) (fun h => semR1 c (k0_off34_eq c))) $$ HR H; iintro H
  iapply (rs_step I 1 c 2 (by decide) (Memref.whole cc0_scratch2) rfl (cond29_iff c) (k0_dev41_eq) (k0_off37_eq c) (b := 16) rfl
    (fun _ => semS 2 rfl) (fun h => semR1 c (k0_off36_eq c))) $$ HR H; iintro H
  iapply (rs_step I 1 c 3 (by decide) (Memref.whole cc0_scratch2) rfl (cond30_iff c) (k0_dev42_eq) (k0_off39_eq c) (b := 24) rfl
    (fun _ => semS 3 rfl) (fun h => semR1 c (k0_off38_eq c))) $$ HR H; iintro H
  iapply (rs_step I 1 c 4 (by decide) (Memref.whole cc0_scratch2) rfl (cond31_iff c) (k0_dev43_eq) (k0_off41_eq c) (b := 32) rfl
    (fun _ => semS 4 rfl) (fun h => semR1 c (k0_off40_eq c))) $$ HR H; iintro H
  iapply (rs_step I 1 c 5 (by decide) (Memref.whole cc0_scratch2) rfl (cond32_iff c) (k0_dev44_eq) (k0_off43_eq c) (b := 40) rfl
    (fun _ => semS 5 rfl) (fun h => semR1 c (k0_off42_eq c))) $$ HR H; iintro H
  iapply (rs_step I 1 c 6 (by decide) (Memref.whole cc0_scratch2) rfl (cond33_iff c) (k0_dev45_eq) (k0_off45_eq c) (b := 48) rfl
    (fun _ => semS 6 rfl) (fun h => semR1 c (k0_off44_eq c))) $$ HR H; iintro H
  iapply (wp_done c)
  iapply Hk $$ H

/-- Partial tiles of the second layer sent to their owners. -/
theorem part36 (c : Dev nD) {R : CellTallies nD τ sig ℕ} (v2 : BitVec 32) (c8_i32_302 : BitVec 32) {Q} :
    Recs I ⊢ iprop(RsS I 1 c R 7 -∗ (∀ a, RsS I 1 c R 8 -∗ Q a)
      -∗ WP c (on (k0_part36 (F := F)) c v2 c8_i32_302) Q) := by
  iintro #HR H Hk
  rw [k0_part36_eq_skeleton]; unfold on k0_part36_skel
  simp -zeta -zetaHave only [semSignalWord, semWaitWord, Prog.lift, Prog.bind_op, Prog.bind_ret, Prog.pure_eq_ret]
  iapply (rs_step I 1 c 7 (by decide) (Memref.whole cc0_scratch2) rfl (cond34_iff c) (k0_dev46_eq) (k0_off47_eq c) (b := 56) rfl
    (fun _ => semS 7 rfl) (fun h => semR1 c (k0_off46_eq c))) $$ HR H; iintro H
  iapply (wp_done c)
  iapply Hk $$ H

/-- Words alone. -/
theorem part37 (c : Dev nD) (v2 : BitVec 32) {Q} :
    iprop(∀ a, Q a) ⊢ WP c (on (k0_part37 (F := F)) v2) Q := by
  iintro Hk
  rw [k0_part37_eq_skeleton]; unfold on k0_part37_skel
  simp -zeta -zetaHave only [semSignalWord, semWaitWord, Prog.lift, Prog.bind_op, Prog.bind_ret, Prog.pure_eq_ret]
  iapply (wp_done c)
  iapply Hk

/-- Tiles of the last products sent to the peers. -/
theorem part42 (c : Dev nD) {R : CellTallies nD τ sig ℕ} (v2 : BitVec 32) (v443 : BitVec 32) {Q} :
    Recs I ⊢ iprop(FsS I c R 1 -∗ (∀ a, FsS I c R 2 -∗ Q a)
      -∗ WP c (on (k0_part42 (F := F)) c v2 v443) Q) := by
  iintro #HR H Hk
  rw [k0_part42_eq_skeleton]; unfold on k0_part42_skel
  simp -zeta -zetaHave only [semSignalWord, semWaitWord, Prog.lift, Prog.bind_op, Prog.bind_ret, Prog.pure_eq_ret]
  iapply (fs_step I c 1 (of_decide_eq_true rfl) (k0_dev63_eq c) (off65_eq c _) (k0_off64_eq c)
    (semA ⟨2, _⟩ rfl) (semR0 c (k0_off63_eq c))) $$ HR H; iintro H
  iapply (wp_done c)
  iapply Hk $$ H

/-- Tiles of the last products sent to the peers. -/
theorem part43 (c : Dev nD) {R : CellTallies nD τ sig ℕ} (v2 : BitVec 32) (v472 : BitVec 32) (c2_i32_499 : BitVec 32) (v473 : BitVec 32) (v478 : BitVec 32) (v480 : BitVec 32) (v481 : BitVec 1) {Q} :
    Recs I ⊢ iprop(FsS I c R 2 -∗ (∀ a, FsS I c R 3 -∗ Q a)
      -∗ WP c (on (k0_part43 (F := F)) c v2 v472 c2_i32_499 v473 v478 v480 v481) Q) := by
  iintro #HR H Hk
  rw [k0_part43_eq_skeleton]; unfold on k0_part43_skel
  simp -zeta -zetaHave only [semSignalWord, semWaitWord, Prog.lift, Prog.bind_op, Prog.bind_ret, Prog.pure_eq_ret]
  iapply (fs_step I c 2 (of_decide_eq_true rfl) (k0_dev64_eq c) (off65_eq c _) (k0_off64_eq c)
    (semA ⟨3, _⟩ rfl) (semR0 c (k0_off63_eq c))) $$ HR H; iintro H
  iapply (wp_done c)
  iapply Hk $$ H

/-- Tiles of the last products sent to the peers. -/
theorem part44 (c : Dev nD) {R : CellTallies nD τ sig ℕ} (v2 : BitVec 32) (v501 : BitVec 32) {Q} :
    Recs I ⊢ iprop(FsS I c R 3 -∗ (∀ a, FsS I c R 5 -∗ Q a)
      -∗ WP c (on (k0_part44 (F := F)) c v2 v501) Q) := by
  iintro #HR H Hk
  rw [k0_part44_eq_skeleton]; unfold on k0_part44_skel
  simp -zeta -zetaHave only [semSignalWord, semWaitWord, Prog.lift, Prog.bind_op, Prog.bind_ret, Prog.pure_eq_ret]
  iapply (fs_step I c 3 (of_decide_eq_true rfl) (k0_dev65_eq c) (off65_eq c _) (k0_off64_eq c)
    (semA ⟨4, _⟩ rfl) (semR0 c (k0_off63_eq c))) $$ HR H; iintro H
  iapply (fs_step I c 4 (of_decide_eq_true rfl) (k0_dev66_eq c) (off65_eq c _) (k0_off64_eq c)
    (semA ⟨5, _⟩ rfl) (semR0 c (k0_off63_eq c))) $$ HR H; iintro H
  iapply (wp_done c)
  iapply Hk $$ H

/-- Tiles of the last products sent to the peers. -/
theorem part45 (c : Dev nD) {R : CellTallies nD τ sig ℕ} (v2 : BitVec 32) {Q} :
    Recs I ⊢ iprop(FsS I c R 5 -∗ (∀ a, FsS I c R 6 -∗ Q a)
      -∗ WP c (on (k0_part45 (F := F)) c v2) Q) := by
  iintro #HR H Hk
  rw [k0_part45_eq_skeleton]; unfold on k0_part45_skel
  simp -zeta -zetaHave only [semSignalWord, semWaitWord, Prog.lift, Prog.bind_op, Prog.bind_ret, Prog.pure_eq_ret]
  iapply (fs_step I c 5 (of_decide_eq_true rfl) (k0_dev67_eq c) (off65_eq c _) (k0_off64_eq c)
    (semA ⟨6, _⟩ rfl) (semR0 c (k0_off63_eq c))) $$ HR H; iintro H
  iapply (wp_done c)
  iapply Hk $$ H

/-- Tiles of the last products sent to the peers. -/
theorem part46 (c : Dev nD) {R : CellTallies nD τ sig ℕ} (v2 : BitVec 32) (v588 : BitVec 32) (c2_i32_563 : BitVec 32) (v589 : BitVec 32) (v594 : BitVec 32) (c0_i32_566 : BitVec 32) {Q} :
    Recs I ⊢ iprop(FsS I c R 6 -∗ (∀ a, FsS I c R 7 -∗ Q a)
      -∗ WP c (on (k0_part46 (F := F)) c v2 v588 c2_i32_563 v589 v594 c0_i32_566) Q) := by
  iintro #HR H Hk
  rw [k0_part46_eq_skeleton]; unfold on k0_part46_skel
  simp -zeta -zetaHave only [semSignalWord, semWaitWord, Prog.lift, Prog.bind_op, Prog.bind_ret, Prog.pure_eq_ret]
  iapply (fs_step I c 6 (of_decide_eq_true rfl) (k0_dev68_eq c) (off65_eq c _) (k0_off64_eq c)
    (semA ⟨7, _⟩ rfl) (semR0 c (k0_off63_eq c))) $$ HR H; iintro H
  iapply (wp_done c)
  iapply Hk $$ H

/-- Tiles of the last products sent to the peers. -/
theorem part47 (c : Dev nD) {R : CellTallies nD τ sig ℕ} (v2 : BitVec 32) (v617 : BitVec 32) (v634 : BitVec 32) {Q} :
    Recs I ⊢ iprop(FsS I c R 7 -∗ (∀ a, FsS I c R 8 -∗ Q a)
      -∗ WP c (on (k0_part47 (F := F)) c v2 v617 v634) Q) := by
  iintro #HR H Hk
  rw [k0_part47_eq_skeleton]; unfold on k0_part47_skel
  simp -zeta -zetaHave only [semSignalWord, semWaitWord, Prog.lift, Prog.bind_op, Prog.bind_ret, Prog.pure_eq_ret]
  iapply (fs_step I c 7 (of_decide_eq_true rfl) (k0_dev69_eq c) (off65_eq c _) (k0_off64_eq c)
    (semA ⟨8, _⟩ rfl) (semR0 c (k0_off63_eq c))) $$ HR H; iintro H
  iapply (wp_done c)
  iapply Hk $$ H

/-- Tiles of the last products sent to the peers. -/
theorem part48 (c : Dev nD) {R : CellTallies nD τ sig ℕ} (v2 : BitVec 32) {Q} :
    Recs I ⊢ iprop(FsS I c R 8 -∗ (∀ a, FsS I c R 10 -∗ Q a)
      -∗ WP c (on (k0_part48 (F := F)) c v2) Q) := by
  iintro #HR H Hk
  rw [k0_part48_eq_skeleton]; unfold on k0_part48_skel
  simp -zeta -zetaHave only [semSignalWord, semWaitWord, Prog.lift, Prog.bind_op, Prog.bind_ret, Prog.pure_eq_ret]
  iapply (fs_step I c 8 (of_decide_eq_true rfl) (k0_dev70_eq c) (off65_eq c _) (k0_off64_eq c)
    (semA ⟨9, _⟩ rfl) (semR0 c (k0_off63_eq c))) $$ HR H; iintro H
  iapply (fs_step I c 9 (of_decide_eq_true rfl) (k0_dev71_eq c) (off65_eq c _) (k0_off64_eq c)
    (semA ⟨10, _⟩ rfl) (semR0 c (k0_off63_eq c))) $$ HR H; iintro H
  iapply (wp_done c)
  iapply Hk $$ H

/-- Tiles of the last products sent to the peers. -/
theorem part49 (c : Dev nD) {R : CellTallies nD τ sig ℕ} (v2 : BitVec 32) (v704 : BitVec 32) (c2_i32_627 : BitVec 32) (v705 : BitVec 32) (v707 : BitVec 32) (c0_i32_629 : BitVec 32) {Q} :
    Recs I ⊢ iprop(FsS I c R 10 -∗ (∀ a, FsS I c R 11 -∗ Q a)
      -∗ WP c (on (k0_part49 (F := F)) c v2 v704 c2_i32_627 v705 v707 c0_i32_629) Q) := by
  iintro #HR H Hk
  rw [k0_part49_eq_skeleton]; unfold on k0_part49_skel
  simp -zeta -zetaHave only [semSignalWord, semWaitWord, Prog.lift, Prog.bind_op, Prog.bind_ret, Prog.pure_eq_ret]
  iapply (fs_step I c 10 (of_decide_eq_true rfl) (k0_dev72_eq c) (off65_eq c _) (k0_off64_eq c)
    (semA ⟨11, _⟩ rfl) (semR0 c (k0_off63_eq c))) $$ HR H; iintro H
  iapply (wp_done c)
  iapply Hk $$ H

/-- Tiles of the last products sent to the peers. -/
theorem part50 (c : Dev nD) {R : CellTallies nD τ sig ℕ} (v2 : BitVec 32) (v733 : BitVec 32) (v734 : BitVec 32) (v745 : BitVec 1) (v747 : BitVec 1) {Q} :
    Recs I ⊢ iprop(FsS I c R 11 -∗ (∀ a, FsS I c R 12 -∗ Q a)
      -∗ WP c (on (k0_part50 (F := F)) c v2 v733 v734 v745 v747) Q) := by
  iintro #HR H Hk
  rw [k0_part50_eq_skeleton]; unfold on k0_part50_skel
  simp -zeta -zetaHave only [semSignalWord, semWaitWord, Prog.lift, Prog.bind_op, Prog.bind_ret, Prog.pure_eq_ret]
  iapply (fs_step I c 11 (of_decide_eq_true rfl) (k0_dev73_eq c) (off65_eq c _) (k0_off64_eq c)
    (semA ⟨12, _⟩ rfl) (semR0 c (k0_off63_eq c))) $$ HR H; iintro H
  iapply (wp_done c)
  iapply Hk $$ H

/-- Tiles of the last products sent to the peers. -/
theorem part51 (c : Dev nD) {R : CellTallies nD τ sig ℕ} (v2 : BitVec 32) {Q} :
    Recs I ⊢ iprop(FsS I c R 12 -∗ (∀ a, FsS I c R 14 -∗ Q a)
      -∗ WP c (on (k0_part51 (F := F)) c v2) Q) := by
  iintro #HR H Hk
  rw [k0_part51_eq_skeleton]; unfold on k0_part51_skel
  simp -zeta -zetaHave only [semSignalWord, semWaitWord, Prog.lift, Prog.bind_op, Prog.bind_ret, Prog.pure_eq_ret]
  iapply (fs_step I c 12 (of_decide_eq_true rfl) (k0_dev74_eq c) (off65_eq c _) (k0_off64_eq c)
    (semA ⟨13, _⟩ rfl) (semR0 c (k0_off63_eq c))) $$ HR H; iintro H
  iapply (fs_step I c 13 (of_decide_eq_true rfl) (k0_dev75_eq c) (off65_eq c _) (k0_off64_eq c)
    (semA ⟨14, _⟩ rfl) (semR0 c (k0_off63_eq c))) $$ HR H; iintro H
  iapply (wp_done c)
  iapply Hk $$ H

/-- Tiles of the last products received and added. -/
theorem part53 (c : Dev nD) (v2 : BitVec 32) (v849 : Vec F S8x512 .f32) (v851 : BitVec 32) {Q} :
    Recs I ⊢ iprop(FvS I c 0 0 -∗ (FvS I c 0 3 -∗ Q ⟨k0_pay20 v849 (sf I c 0 (by decide)) (sf I c 1 (by decide)), (sf I c 2 (by decide))⟩)
      -∗ WP c (on (k0_part53 (F := F)) c v2 v849 v851) Q) := by
  iintro #HR H Hk
  rw [k0_part53_eq_skeleton]; unfold on k0_part53_skel
  simp -zeta -zetaHave only [semSignalWord, semWaitWord, Prog.lift, Prog.bind_op, Prog.bind_ret, Prog.pure_eq_ret]
  iapply (fv_wait I c 0 (by decide) (credit_rb (ℓ := 0)) (semR0 (pr c ⟨0, by decide⟩) (show k0_off67 c 1#32 = _ from k0_off67_eq c ⟨0, by decide⟩))) $$ HR H; iintro H
  iapply (fv_load I c 0 (by decide) 1 (by decide) (off := k0_off69 c 1#32) (k0_off69_eq c ⟨0, by decide⟩)) $$ H; iintro H
  iapply (fv_wait I c 1 (by decide) (credit_rb (ℓ := 0)) (semR0 (pr c ⟨1, by decide⟩) (show k0_off67 c 2#32 = _ from k0_off67_eq c ⟨1, by decide⟩))) $$ HR H; iintro H
  iapply (fv_load I c 1 (by decide) 2 (by decide) (off := k0_off69 c 2#32) (k0_off69_eq c ⟨1, by decide⟩)) $$ H; iintro H
  iapply (fv_wait I c 2 (by decide) (credit_rb (ℓ := 0)) (semR0 (pr c ⟨2, by decide⟩) (show k0_off67 c 3#32 = _ from k0_off67_eq c ⟨2, by decide⟩))) $$ HR H; iintro H
  iapply (fv_load I c 2 (by decide) 3 (by decide) (off := k0_off69 c 3#32) (k0_off69_eq c ⟨2, by decide⟩)) $$ H; iintro H
  iapply (wp_done c)
  iapply Hk $$ H

/-- Tiles of the last products received and added. -/
theorem part54 (c : Dev nD) (v2 : BitVec 32) (v877 : FVec F S8x512 .f32) (v890 : Vec F S8x512 .f32) {Q} :
    Recs I ⊢ iprop(FvS I c 0 3 -∗ (∀ a b, FvS I c 0 5 -∗ Q ⟨k0_pay21 v877 v890 (sf I c 3 (by decide)) (sf I c 4 (by decide)), a, b⟩)
      -∗ WP c (on (k0_part54 (F := F)) c v2 v877 v890) Q) := by
  iintro #HR H Hk
  rw [k0_part54_eq_skeleton]; unfold on k0_part54_skel
  simp -zeta -zetaHave only [semSignalWord, semWaitWord, Prog.lift, Prog.bind_op, Prog.bind_ret, Prog.pure_eq_ret]
  iapply (fv_wait I c 3 (by decide) (credit_rb (ℓ := 0)) (semR0 (pr c ⟨3, by decide⟩) (show k0_off67 c 4#32 = _ from k0_off67_eq c ⟨3, by decide⟩))) $$ HR H; iintro H
  iapply (fv_load I c 3 (by decide) 4 (by decide) (off := k0_off69 c 4#32) (k0_off69_eq c ⟨3, by decide⟩)) $$ H; iintro H
  iapply (fv_wait I c 4 (by decide) (credit_rb (ℓ := 0)) (semR0 (pr c ⟨4, by decide⟩) (show k0_off67 c 5#32 = _ from k0_off67_eq c ⟨4, by decide⟩))) $$ HR H; iintro H
  iapply (fv_load I c 4 (by decide) 5 (by decide) (off := k0_off69 c 5#32) (k0_off69_eq c ⟨4, by decide⟩)) $$ H; iintro H
  iapply (wp_done c)
  iapply Hk $$ H

/-- Tiles of the last products received and added. -/
theorem part55 (c : Dev nD) (v2 : BitVec 32) (v919 : FVec F S8x512 .f32) (v921 : BitVec 32) (c8_i32_764 : BitVec 32) {Q} :
    Recs I ⊢ iprop(FvS I c 0 5 -∗ (∀ a, FvS I c 0 7 -∗ Q ⟨k0_pay22 v919 (sf I c 5 (by decide)) (sf I c 6 (by decide)), a⟩)
      -∗ WP c (on (k0_part55 (F := F)) c v2 v919 v921 c8_i32_764) Q) := by
  iintro #HR H Hk
  rw [k0_part55_eq_skeleton]; unfold on k0_part55_skel
  simp -zeta -zetaHave only [semSignalWord, semWaitWord, Prog.lift, Prog.bind_op, Prog.bind_ret, Prog.pure_eq_ret]
  iapply (fv_wait I c 5 (by decide) (credit_rb (ℓ := 0)) (semR0 (pr c ⟨5, by decide⟩) (show k0_off67 c 6#32 = _ from k0_off67_eq c ⟨5, by decide⟩))) $$ HR H; iintro H
  iapply (fv_load I c 5 (by decide) 6 (by decide) (off := k0_off69 c 6#32) (k0_off69_eq c ⟨5, by decide⟩)) $$ H; iintro H
  iapply (fv_wait I c 6 (by decide) (credit_rb (ℓ := 0)) (semR0 (pr c ⟨6, by decide⟩) (show k0_off67 c 7#32 = _ from k0_off67_eq c ⟨6, by decide⟩))) $$ HR H; iintro H
  iapply (fv_load I c 6 (by decide) 7 (by decide) (off := k0_off69 c 7#32) (k0_off69_eq c ⟨6, by decide⟩)) $$ H; iintro H
  iapply (wp_done c)
  iapply Hk $$ H

/-- Tiles of the last products received and added. -/
theorem part56 (c : Dev nD) (v2 : BitVec 32) (v947 : FVec F S8x512 .f32) (v949 : BitVec 32) {Q} :
    Recs I ⊢ iprop(FvS I c 0 7 -∗ (FvS I c 0 10 -∗ Q (k0_pay23 v947 (sf I c 7 (by decide)) (sf I c 8 (by decide))))
      -∗ WP c (on (k0_part56 (F := F)) c v2 v947 v949) Q) := by
  iintro #HR H Hk
  rw [k0_part56_eq_skeleton]; unfold on k0_part56_skel
  simp -zeta -zetaHave only [semSignalWord, semWaitWord, Prog.lift, Prog.bind_op, Prog.bind_ret, Prog.pure_eq_ret]
  iapply (fv_wait I c 7 (by decide) (credit_rb (ℓ := 0)) (semR0 (pr c ⟨7, by decide⟩) (show k0_off67 c 8#32 = _ from k0_off67_eq c ⟨7, by decide⟩))) $$ HR H; iintro H
  iapply (fv_load I c 7 (by decide) 8 (by decide) (off := k0_off69 c 8#32) (k0_off69_eq c ⟨7, by decide⟩)) $$ H; iintro H
  iapply (fv_wait I c 8 (by decide) (credit_rb (ℓ := 0)) (semR0 (pr c ⟨8, by decide⟩) (show k0_off67 c 9#32 = _ from k0_off67_eq c ⟨8, by decide⟩))) $$ HR H; iintro H
  iapply (fv_load I c 8 (by decide) 9 (by decide) (off := k0_off69 c 9#32) (k0_off69_eq c ⟨8, by decide⟩)) $$ H; iintro H
  iapply (fv_wait I c 9 (by decide) (credit_rb (ℓ := 0)) (semR0 (pr c ⟨9, by decide⟩) (show k0_off67 c 10#32 = _ from k0_off67_eq c ⟨9, by decide⟩))) $$ HR H; iintro H
  iapply (wp_done c)
  iapply Hk $$ H

/-- Tiles of the last products received and added. -/
theorem part57 (c : Dev nD) (v2 : BitVec 32) (v975 : FVec F S8x512 .f32) {Q} :
    Recs I ⊢ iprop(FvS I c 0 10 -∗ (∀ a b, FvS I c 0 12 -∗ Q ⟨k0_pay24 v975 (sf I c 9 (by decide)) (sf I c 10 (by decide)) (sf I c 11 (by decide)), a, b⟩)
      -∗ WP c (on (k0_part57 (F := F)) c v2 v975) Q) := by
  iintro #HR H Hk
  rw [k0_part57_eq_skeleton]; unfold on k0_part57_skel
  simp -zeta -zetaHave only [semSignalWord, semWaitWord, Prog.lift, Prog.bind_op, Prog.bind_ret, Prog.pure_eq_ret]
  iapply (fv_load I c 9 (by decide) 10 (by decide) (off := k0_off69 c 10#32) (k0_off69_eq c ⟨9, by decide⟩)) $$ H; iintro H
  iapply (fv_wait I c 10 (by decide) (credit_rb (ℓ := 0)) (semR0 (pr c ⟨10, by decide⟩) (show k0_off67 c 11#32 = _ from k0_off67_eq c ⟨10, by decide⟩))) $$ HR H; iintro H
  iapply (fv_load I c 10 (by decide) 11 (by decide) (off := k0_off69 c 11#32) (k0_off69_eq c ⟨10, by decide⟩)) $$ H; iintro H
  iapply (fv_wait I c 11 (by decide) (credit_rb (ℓ := 0)) (semR0 (pr c ⟨11, by decide⟩) (show k0_off67 c 12#32 = _ from k0_off67_eq c ⟨11, by decide⟩))) $$ HR H; iintro H
  iapply (fv_load I c 11 (by decide) 12 (by decide) (off := k0_off69 c 12#32) (k0_off69_eq c ⟨11, by decide⟩)) $$ H; iintro H
  iapply (wp_done c)
  iapply Hk $$ H

/-- Tiles of the last products received and added. -/
theorem part58 (c : Dev nD) (v2 : BitVec 32) (v1017 : FVec F S8x512 .f32) (v1019 : BitVec 32) (c8_i32_840 : BitVec 32) {Q} :
    Recs I ⊢ iprop(FvS I c 0 12 -∗ (∀ a, FvS I c 0 14 -∗ Q ⟨k0_pay25 v1017 (sf I c 12 (by decide)) (sf I c 13 (by decide)), a⟩)
      -∗ WP c (on (k0_part58 (F := F)) c v2 v1017 v1019 c8_i32_840) Q) := by
  iintro #HR H Hk
  rw [k0_part58_eq_skeleton]; unfold on k0_part58_skel
  simp -zeta -zetaHave only [semSignalWord, semWaitWord, Prog.lift, Prog.bind_op, Prog.bind_ret, Prog.pure_eq_ret]
  iapply (fv_wait I c 12 (by decide) (credit_rb (ℓ := 0)) (semR0 (pr c ⟨12, by decide⟩) (show k0_off67 c 13#32 = _ from k0_off67_eq c ⟨12, by decide⟩))) $$ HR H; iintro H
  iapply (fv_load I c 12 (by decide) 13 (by decide) (off := k0_off69 c 13#32) (k0_off69_eq c ⟨12, by decide⟩)) $$ H; iintro H
  iapply (fv_wait I c 13 (by decide) (credit_rb (ℓ := 0)) (semR0 (pr c ⟨13, by decide⟩) (show k0_off67 c 14#32 = _ from k0_off67_eq c ⟨13, by decide⟩))) $$ HR H; iintro H
  iapply (fv_load I c 13 (by decide) 14 (by decide) (off := k0_off69 c 14#32) (k0_off69_eq c ⟨13, by decide⟩)) $$ H; iintro H
  iapply (wp_done c)
  iapply Hk $$ H

/-- Tiles of the last products have left. -/
theorem part60 (c : Dev nD)  {Q} :
    Recs I ⊢ iprop(FuS I c 0 5 -∗ (∀ a, FuS I c 0 11 -∗ Q a)
      -∗ WP c (on (k0_part60 (F := F)) c) Q) := by
  iintro #HR H Hk
  rw [k0_part60_eq_skeleton]; unfold on k0_part60_skel
  simp -zeta -zetaHave only [semSignalWord, semWaitWord, Prog.lift, Prog.bind_op, Prog.bind_ret, Prog.pure_eq_ret]
  iapply (fu_step I c 5 (by decide) credit_pb (semA ⟨6, by decide⟩ rfl)) $$ HR H; iintro H
  iapply (fu_step I c 6 (by decide) credit_pb (semA ⟨7, by decide⟩ rfl)) $$ HR H; iintro H
  iapply (fu_step I c 7 (by decide) credit_pb (semA ⟨8, by decide⟩ rfl)) $$ HR H; iintro H
  iapply (fu_step I c 8 (by decide) credit_pb (semA ⟨9, by decide⟩ rfl)) $$ HR H; iintro H
  iapply (fu_step I c 9 (by decide) credit_pb (semA ⟨10, by decide⟩ rfl)) $$ HR H; iintro H
  iapply (fu_step I c 10 (by decide) credit_pb (semA ⟨11, by decide⟩ rfl)) $$ HR H; iintro H
  iapply (wp_done c)
  iapply Hk $$ H

end Cert.KernelIdealRun
-- ==== Proof.KernelIdealRun.Own0.lean ====
/-
# The owners' parts of the first layer
-/
module

public import proofs.«01_k».proof.Proof.KernelIdealRun.Common

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Dev nD → Inp F)

local notation "𝕄" => MT nD τ sig ℕ (Elt F) ℕ UU ℕ

/-- An owner reads the partial tiles of the first layer it has received. -/
theorem part1 (c : Dev nD) (hO : isO c) (h : k0_cond9 c = 1#1) {R : CellTallies nD τ sig ℕ} (hR : Abv (2) R) (v2 : BitVec 32) (v8 : BitVec 32) {Q} :
    Recs I ⊢ iprop(owns (c : Thread nD τ) (slot pb (wo c)) fullShare (tl (PP I (0 : Fin 2).val c) (wo c)) -∗ RvS I 0 c R 0
      -∗ (∀ a b, owns (c : Thread nD τ) (slot pb (wo c)) fullShare (tl (PP I (0 : Fin 2).val c) (wo c)) -∗ RvS I 0 c R 2 -∗ Q ⟨k0_pay2 (tl (PP I (0 : Fin 2).val c) (wo c)) (sl I 0 c 0 (by decide)) (sl I 0 c 1 (by decide)), a, b⟩)
      -∗ WP c (on (k0_part1 (F := F)) c v2 v8 h) Q) := by
  iintro #HR Hp H Hk
  rw [k0_part1_eq_skeleton]; unfold on k0_part1_skel
  simp -zeta -zetaHave only [Prog.lift, Prog.bind_op, Prog.bind_ret, Prog.pure_eq_ret]
  iapply (step_load_tile c pb (wo c) (off17_eq c hO)) $$ Hp; iintro Hp
  iapply (rv_wait I 0 c hO 0 (by decide) hR (credit_rb (ℓ := 0)) (semR0 (pr c ⟨0, by decide⟩) (show k0_off18 c 1#32 = _ from k0_off18_eq c ⟨0, by decide⟩))) $$ HR H; iintro H
  iapply (rv_load I 0 c 0 (by decide) 1 (by decide) (Memref.whole cc0_scratch1) rfl (off := k0_off20 c 1#32) (k0_off20_eq c ⟨0, by decide⟩)) $$ H; iintro H
  iapply (rv_wait I 0 c hO 1 (by decide) hR (credit_rb (ℓ := 0)) (semR0 (pr c ⟨1, by decide⟩) (show k0_off18 c 2#32 = _ from k0_off18_eq c ⟨1, by decide⟩))) $$ HR H; iintro H
  iapply (rv_load I 0 c 1 (by decide) 2 (by decide) (Memref.whole cc0_scratch1) rfl (off := k0_off20 c 2#32) (k0_off20_eq c ⟨1, by decide⟩)) $$ H; iintro H
  iapply (wp_done c)
  iapply Hk $$ Hp H

/-- An owner reads the partial tiles of the first layer it has received. -/
theorem part2 (c : Dev nD) (hO : isO c) (h : k0_cond9 c = 1#1) {R : CellTallies nD τ sig ℕ} (hR : Abv (2) R) (v2 : BitVec 32) (v1155 : FVec F S8x512 .f32) (v1157 : BitVec 32) (c8_i32_960 : BitVec 32) {Q} :
    Recs I ⊢ iprop(RvS I 0 c R 2
      -∗ (∀ a, RvS I 0 c R 4 -∗ Q ⟨k0_pay3 v1155 (sl I 0 c 2 (by decide)) (sl I 0 c 3 (by decide)), a⟩)
      -∗ WP c (on (k0_part2 (F := F)) c v2 h v1155 v1157 c8_i32_960) Q) := by
  iintro #HR H Hk
  rw [k0_part2_eq_skeleton]; unfold on k0_part2_skel
  simp -zeta -zetaHave only [Prog.lift, Prog.bind_op, Prog.bind_ret, Prog.pure_eq_ret]
  iapply (rv_wait I 0 c hO 2 (by decide) hR (credit_rb (ℓ := 0)) (semR0 (pr c ⟨2, by decide⟩) (show k0_off18 c 3#32 = _ from k0_off18_eq c ⟨2, by decide⟩))) $$ HR H; iintro H
  iapply (rv_load I 0 c 2 (by decide) 3 (by decide) (Memref.whole cc0_scratch1) rfl (off := k0_off20 c 3#32) (k0_off20_eq c ⟨2, by decide⟩)) $$ H; iintro H
  iapply (rv_wait I 0 c hO 3 (by decide) hR (credit_rb (ℓ := 0)) (semR0 (pr c ⟨3, by decide⟩) (show k0_off18 c 4#32 = _ from k0_off18_eq c ⟨3, by decide⟩))) $$ HR H; iintro H
  iapply (rv_load I 0 c 3 (by decide) 4 (by decide) (Memref.whole cc0_scratch1) rfl (off := k0_off20 c 4#32) (k0_off20_eq c ⟨3, by decide⟩)) $$ H; iintro H
  iapply (wp_done c)
  iapply Hk $$ H

/-- An owner reads the partial tiles of the first layer it has received. -/
theorem part3 (c : Dev nD) (hO : isO c) (h : k0_cond9 c = 1#1) {R : CellTallies nD τ sig ℕ} (hR : Abv (2) R) (v2 : BitVec 32) (v1183 : FVec F S8x512 .f32) (v1185 : BitVec 32) {Q} :
    Recs I ⊢ iprop(RvS I 0 c R 4
      -∗ (∀ a b, RvS I 0 c R 7 -∗ Q ⟨k0_pay4 v1183 (sl I 0 c 4 (by decide)) (sl I 0 c 5 (by decide)), a, b⟩)
      -∗ WP c (on (k0_part3 (F := F)) c v2 h v1183 v1185) Q) := by
  iintro #HR H Hk
  rw [k0_part3_eq_skeleton]; unfold on k0_part3_skel
  simp -zeta -zetaHave only [Prog.lift, Prog.bind_op, Prog.bind_ret, Prog.pure_eq_ret]
  iapply (rv_wait I 0 c hO 4 (by decide) hR (credit_rb (ℓ := 0)) (semR0 (pr c ⟨4, by decide⟩) (show k0_off18 c 5#32 = _ from k0_off18_eq c ⟨4, by decide⟩))) $$ HR H; iintro H
  iapply (rv_load I 0 c 4 (by decide) 5 (by decide) (Memref.whole cc0_scratch1) rfl (off := k0_off20 c 5#32) (k0_off20_eq c ⟨4, by decide⟩)) $$ H; iintro H
  iapply (rv_wait I 0 c hO 5 (by decide) hR (credit_rb (ℓ := 0)) (semR0 (pr c ⟨5, by decide⟩) (show k0_off18 c 6#32 = _ from k0_off18_eq c ⟨5, by decide⟩))) $$ HR H; iintro H
  iapply (rv_load I 0 c 5 (by decide) 6 (by decide) (Memref.whole cc0_scratch1) rfl (off := k0_off20 c 6#32) (k0_off20_eq c ⟨5, by decide⟩)) $$ H; iintro H
  iapply (rv_wait I 0 c hO 6 (by decide) hR (credit_rb (ℓ := 0)) (semR0 (pr c ⟨6, by decide⟩) (show k0_off18 c 7#32 = _ from k0_off18_eq c ⟨6, by decide⟩))) $$ HR H; iintro H
  iapply (wp_done c)
  iapply Hk $$ H

/-- An owner reads the partial tiles of the first layer it has received. -/
theorem part4 (c : Dev nD) (hO : isO c) (h : k0_cond9 c = 1#1) {R : CellTallies nD τ sig ℕ} (hR : Abv (2) R) (v2 : BitVec 32) (v1211 : FVec F S8x512 .f32) (v1213 : BitVec 32) (c8_i32_1011 : BitVec 32) {Q} :
    Recs I ⊢ iprop(RvS I 0 c R 7
      -∗ (∀ a b, RvS I 0 c R 9 -∗ Q ⟨k0_pay5 v1211 (sl I 0 c 6 (by decide)) (sl I 0 c 7 (by decide)) (sl I 0 c 8 (by decide)), a, b⟩)
      -∗ WP c (on (k0_part4 (F := F)) c v2 h v1211 v1213 c8_i32_1011) Q) := by
  iintro #HR H Hk
  rw [k0_part4_eq_skeleton]; unfold on k0_part4_skel
  simp -zeta -zetaHave only [Prog.lift, Prog.bind_op, Prog.bind_ret, Prog.pure_eq_ret]
  iapply (rv_load I 0 c 6 (by decide) 7 (by decide) (Memref.whole cc0_scratch1) rfl (off := k0_off20 c 7#32) (k0_off20_eq c ⟨6, by decide⟩)) $$ H; iintro H
  iapply (rv_wait I 0 c hO 7 (by decide) hR (credit_rb (ℓ := 0)) (semR0 (pr c ⟨7, by decide⟩) (show k0_off18 c 8#32 = _ from k0_off18_eq c ⟨7, by decide⟩))) $$ HR H; iintro H
  iapply (rv_load I 0 c 7 (by decide) 8 (by decide) (Memref.whole cc0_scratch1) rfl (off := k0_off20 c 8#32) (k0_off20_eq c ⟨7, by decide⟩)) $$ H; iintro H
  iapply (rv_wait I 0 c hO 8 (by decide) hR (credit_rb (ℓ := 0)) (semR0 (pr c ⟨8, by decide⟩) (show k0_off18 c 9#32 = _ from k0_off18_eq c ⟨8, by decide⟩))) $$ HR H; iintro H
  iapply (rv_load I 0 c 8 (by decide) 9 (by decide) (Memref.whole cc0_scratch1) rfl (off := k0_off20 c 9#32) (k0_off20_eq c ⟨8, by decide⟩)) $$ H; iintro H
  iapply (wp_done c)
  iapply Hk $$ H

/-- An owner reads the partial tiles of the first layer it has received. -/
theorem part5 (c : Dev nD) (hO : isO c) (h : k0_cond9 c = 1#1) {R : CellTallies nD τ sig ℕ} (hR : Abv (2) R) (v2 : BitVec 32) (v1253 : FVec F S8x512 .f32) (v1254 : BitVec 32) (c16_i32_1036 : BitVec 32) {Q} :
    Recs I ⊢ iprop(RvS I 0 c R 9
      -∗ (∀ a b, RvS I 0 c R 11 -∗ Q ⟨k0_pay6 v1253 (sl I 0 c 9 (by decide)) (sl I 0 c 10 (by decide)), a, b⟩)
      -∗ WP c (on (k0_part5 (F := F)) c v2 h v1253 v1254 c16_i32_1036) Q) := by
  iintro #HR H Hk
  rw [k0_part5_eq_skeleton]; unfold on k0_part5_skel
  simp -zeta -zetaHave only [Prog.lift, Prog.bind_op, Prog.bind_ret, Prog.pure_eq_ret]
  iapply (rv_wait I 0 c hO 9 (by decide) hR (credit_rb (ℓ := 0)) (semR0 (pr c ⟨9, by decide⟩) (show k0_off18 c 10#32 = _ from k0_off18_eq c ⟨9, by decide⟩))) $$ HR H; iintro H
  iapply (rv_load I 0 c 9 (by decide) 10 (by decide) (Memref.whole cc0_scratch1) rfl (off := k0_off20 c 10#32) (k0_off20_eq c ⟨9, by decide⟩)) $$ H; iintro H
  iapply (rv_wait I 0 c hO 10 (by decide) hR (credit_rb (ℓ := 0)) (semR0 (pr c ⟨10, by decide⟩) (show k0_off18 c 11#32 = _ from k0_off18_eq c ⟨10, by decide⟩))) $$ HR H; iintro H
  iapply (rv_load I 0 c 10 (by decide) 11 (by decide) (Memref.whole cc0_scratch1) rfl (off := k0_off20 c 11#32) (k0_off20_eq c ⟨10, by decide⟩)) $$ H; iintro H
  iapply (wp_done c)
  iapply Hk $$ H

/-- An owner reads the partial tiles of the first layer it has received. -/
theorem part6 (c : Dev nD) (hO : isO c) (h : k0_cond9 c = 1#1) {R : CellTallies nD τ sig ℕ} (hR : Abv (2) R) (v2 : BitVec 32) (v1281 : FVec F S8x512 .f32) (v1283 : BitVec 32) (v1286 : BitVec 32) {Q} :
    Recs I ⊢ iprop(RvS I 0 c R 11
      -∗ (∀ a, RvS I 0 c R 13 -∗ Q ⟨k0_pay7 v1281 (sl I 0 c 11 (by decide)) (sl I 0 c 12 (by decide)), a⟩)
      -∗ WP c (on (k0_part6 (F := F)) c v2 h v1281 v1283 v1286) Q) := by
  iintro #HR H Hk
  rw [k0_part6_eq_skeleton]; unfold on k0_part6_skel
  simp -zeta -zetaHave only [Prog.lift, Prog.bind_op, Prog.bind_ret, Prog.pure_eq_ret]
  iapply (rv_wait I 0 c hO 11 (by decide) hR (credit_rb (ℓ := 0)) (semR0 (pr c ⟨11, by decide⟩) (show k0_off18 c 12#32 = _ from k0_off18_eq c ⟨11, by decide⟩))) $$ HR H; iintro H
  iapply (rv_load I 0 c 11 (by decide) 12 (by decide) (Memref.whole cc0_scratch1) rfl (off := k0_off20 c 12#32) (k0_off20_eq c ⟨11, by decide⟩)) $$ H; iintro H
  iapply (rv_wait I 0 c hO 12 (by decide) hR (credit_rb (ℓ := 0)) (semR0 (pr c ⟨12, by decide⟩) (show k0_off18 c 13#32 = _ from k0_off18_eq c ⟨12, by decide⟩))) $$ HR H; iintro H
  iapply (rv_load I 0 c 12 (by decide) 13 (by decide) (Memref.whole cc0_scratch1) rfl (off := k0_off20 c 13#32) (k0_off20_eq c ⟨12, by decide⟩)) $$ H; iintro H
  iapply (wp_done c)
  iapply Hk $$ H

/-- An owner reads the partial tiles of the first layer it has received, and sends their sum. -/
theorem part7 (c : Dev nD) (hO : isO c) (h : k0_cond9 c = 1#1) {R : CellTallies nD τ sig ℕ} (hR : Abv (2) (R + DG 0 c)) (v2 : BitVec 32) (v8 : BitVec 32) (v134 : BitVec 32) (v138 : BitVec 32) (v1309 : FVec F S8x512 .f32) (v1311 : BitVec 32)
    (hv : k0_pay8 v1309 (sl I 0 c 13 (by decide)) (sl I 0 c 14 (by decide)) = AA I (0 : Fin 2).val (wo c)) {Q} :
    Recs I ⊢ iprop(RvS I 0 c (R + DG 0 c) 13 -∗ Agin 0 c -∗ (∀ a, AgS I 0 c R 1 -∗ Agout I 0 c -∗ Q a)
      -∗ WP c (on (k0_part7 (F := F)) c v2 v8 v134 v138 h v1309 v1311) Q) := by
  unfold Agin Agout
  iintro #HR H ⟨Hx, Hs, Ht, Hu, Ha⟩ Hk
  rw [k0_part7_eq_skeleton]; unfold on k0_part7_skel
  simp -zeta -zetaHave only [Prog.lift, Prog.bind_op, Prog.bind_ret, Prog.pure_eq_ret]
  iapply (rv_wait I 0 c hO 13 (by decide) hR (credit_rb (ℓ := 0)) (semR0 (pr c ⟨13, by decide⟩) (show k0_off18 c 14#32 = _ from k0_off18_eq c ⟨13, by decide⟩))) $$ HR H; iintro H
  iapply (rv_load I 0 c 13 (by decide) 14 (by decide) (Memref.whole cc0_scratch1) rfl (off := k0_off20 c 14#32) (k0_off20_eq c ⟨13, by decide⟩)) $$ H; iintro H
  iapply (rv_wait I 0 c hO 14 (by decide) hR (credit_rb (ℓ := 0)) (semR0 (pr c ⟨14, by decide⟩) (show k0_off18 c 15#32 = _ from k0_off18_eq c ⟨14, by decide⟩))) $$ HR H; iintro H
  iapply (rv_load I 0 c 14 (by decide) 15 (by decide) (Memref.whole cc0_scratch1) rfl (off := k0_off20 c 15#32) (k0_off20_eq c ⟨14, by decide⟩)) $$ H; iintro H
  ihave Hx := (show some1 c (slot (xb 0) (wo c)) ⊢ iprop(∃ X, owns (c : Thread nD τ) (slot (xb 0) (wo c)) fullShare X) from .rfl) $$ Hx
  icases Hx with ⟨%X, Hx⟩
  iapply (step_load_tile c (xb 0) (wo c) (off17_eq c hO)) $$ Hx; iintro Hx
  iapply (step_store_tile c (xb 0) (wo c) (off17_eq c hO)) $$ Hx; iintro Hx
  ihave Hx := (Entails.of_eq (congrArg (fun T => owns (c : Thread nD τ) (slot (xb 0) (wo c)) fullShare T) hv)) $$ Hx
  ihave H := (Entails.of_eq (show RvS I 0 c (R + DG 0 c) 15 = iprop(Owes c (R + DG 0 c) ∗ bigSep Finset.univ (rvΨ I 0 c)) from Wt_end c _ _ _)) $$ H
  icases H with ⟨HO, Hv⟩
  ihave H := (ag_start I 0 c hO R) $$ [Hx Hv Hs Ht Hu Ha HO]
  · isplitl [Hx]; · iassumption
    isplitl [Hv]; · iassumption
    isplitl [Hs]; · iassumption
    isplitl [Ht]; · iassumption
    isplitl [Hu]; · iassumption
    isplitl [Ha] <;> iassumption
  icases H with ⟨H, Ho⟩
  iapply (ag_step I 0 c hO 0 (by decide) (Memref.whole cc0_scratch3) rfl (k0_dev24_eq c) (off22_eq c hO)
    (semA ⟨1, by decide⟩ rfl) (semG0 (wo c) (off21_eq c hO))) $$ HR H; iintro H
  iapply (wp_done c)
  iapply Hk $$ H Ho

/-- An owner sends its reduced tile of the first layer on. -/
theorem part8 (c : Dev nD) (hO : isO c) (h : k0_cond9 c = 1#1) {R : CellTallies nD τ sig ℕ} (v142 : BitVec 32) (v146 : BitVec 32) (v150 : BitVec 32) (v154 : BitVec 32) (v158 : BitVec 32) {Q} :
    Recs I ⊢ iprop(AgS I 0 c R 1 -∗ (∀ a, AgS I 0 c R 6 -∗ Q a)
      -∗ WP c (on (k0_part8 (F := F)) c v142 v146 v150 v154 v158 h) Q) := by
  iintro #HR H Hk
  rw [k0_part8_eq_skeleton]; unfold on k0_part8_skel
  simp -zeta -zetaHave only [Prog.lift, Prog.bind_op, Prog.bind_ret, Prog.pure_eq_ret]
  iapply (ag_step I 0 c hO 1 (by decide) (Memref.whole cc0_scratch3) rfl (k0_dev25_eq c) (off22_eq c hO)
    (semA ⟨2, by decide⟩ rfl) (semG0 (wo c) (off21_eq c hO))) $$ HR H; iintro H
  iapply (ag_step I 0 c hO 2 (by decide) (Memref.whole cc0_scratch3) rfl (k0_dev26_eq c) (off22_eq c hO)
    (semA ⟨3, by decide⟩ rfl) (semG0 (wo c) (off21_eq c hO))) $$ HR H; iintro H
  iapply (ag_step I 0 c hO 3 (by decide) (Memref.whole cc0_scratch3) rfl (k0_dev27_eq c) (off22_eq c hO)
    (semA ⟨4, by decide⟩ rfl) (semG0 (wo c) (off21_eq c hO))) $$ HR H; iintro H
  iapply (ag_step I 0 c hO 4 (by decide) (Memref.whole cc0_scratch3) rfl (k0_dev28_eq c) (off22_eq c hO)
    (semA ⟨5, by decide⟩ rfl) (semG0 (wo c) (off21_eq c hO))) $$ HR H; iintro H
  iapply (ag_step I 0 c hO 5 (by decide) (Memref.whole cc0_scratch3) rfl (k0_dev29_eq c) (off22_eq c hO)
    (semA ⟨6, by decide⟩ rfl) (semG0 (wo c) (off21_eq c hO))) $$ HR H; iintro H
  iapply (wp_done c)
  iapply Hk $$ H

/-- An owner sends its reduced tile of the first layer on. -/
theorem part9 (c : Dev nD) (hO : isO c) (h : k0_cond9 c = 1#1) {R : CellTallies nD τ sig ℕ} (v162 : BitVec 32) (v166 : BitVec 32) (v170 : BitVec 32) (v174 : BitVec 32) (v1390 : BitVec 32) (c0_i32_1127 : BitVec 32) {Q} :
    Recs I ⊢ iprop(AgS I 0 c R 6 -∗ (∀ a, AgS I 0 c R 10 -∗ Q a)
      -∗ WP c (on (k0_part9 (F := F)) c v162 v166 v170 v174 h v1390 c0_i32_1127) Q) := by
  iintro #HR H Hk
  rw [k0_part9_eq_skeleton]; unfold on k0_part9_skel
  simp -zeta -zetaHave only [Prog.lift, Prog.bind_op, Prog.bind_ret, Prog.pure_eq_ret]
  iapply (ag_step I 0 c hO 6 (by decide) (Memref.whole cc0_scratch3) rfl (k0_dev30_eq c) (off22_eq c hO)
    (semA ⟨7, by decide⟩ rfl) (semG0 (wo c) (off21_eq c hO))) $$ HR H; iintro H
  iapply (ag_step I 0 c hO 7 (by decide) (Memref.whole cc0_scratch3) rfl (k0_dev31_eq c) (off22_eq c hO)
    (semA ⟨8, by decide⟩ rfl) (semG0 (wo c) (off21_eq c hO))) $$ HR H; iintro H
  iapply (ag_step I 0 c hO 8 (by decide) (Memref.whole cc0_scratch3) rfl (k0_dev32_eq c) (off22_eq c hO)
    (semA ⟨9, by decide⟩ rfl) (semG0 (wo c) (off21_eq c hO))) $$ HR H; iintro H
  iapply (ag_step I 0 c hO 9 (by decide) (Memref.whole cc0_scratch3) rfl (k0_dev33_eq c) (off22_eq c hO)
    (semA ⟨10, by decide⟩ rfl) (semG0 (wo c) (off21_eq c hO))) $$ HR H; iintro H
  iapply (wp_done c)
  iapply Hk $$ H

/-- An owner's work on the first layer, but for the last send. -/
theorem part10 (c : Dev nD) (hO : isO c) (h : k0_cond9 c = 1#1) {R : CellTallies nD τ sig ℕ} (hR : Abv 2 (R + DG 0 c)) (v2 v8 v134 v138 v142 v146 v150 v154 v158 v162 v166 v170 v174 v178 v182 v186 v190 : BitVec 32) {Q} :
    Recs I ⊢ iprop(owns (c : Thread nD τ) (slot pb (wo c)) fullShare (tl (PP I (0 : Fin 2).val c) (wo c)) -∗ RvS I 0 c (R + DG 0 c) 0 -∗ Agin 0 c
      -∗ (∀ a, owns (c : Thread nD τ) (slot pb (wo c)) fullShare (tl (PP I (0 : Fin 2).val c) (wo c)) -∗ AgS I 0 c R 14 -∗ Agout I 0 c -∗ Q a)
      -∗ WP c (on (k0_part10 (F := F)) c v2 v8 v134 v138 v142 v146 v150 v154 v158 v162 v166 v170 v174 v178 v182 v186 v190 h) Q) := by
  iintro #HR Hp H HI Hk
  rw [k0_part10_eq_skeleton]; unfold on k0_part10_skel
  simp -zeta -zetaHave only [Prog.lift, Prog.bind_op, Prog.bind_ret, Prog.pure_eq_ret]
  iapply (wp_seq c)
  iapply (part1 I c hO h hR) $$ HR Hp H; iintro %a %b Hp H
  iapply (wp_seq c)
  iapply (part2 I c hO h hR) $$ HR H; iintro %a H
  iapply (wp_seq c)
  iapply (part3 I c hO h hR) $$ HR H; iintro %a %b H
  iapply (wp_seq c)
  iapply (part4 I c hO h hR) $$ HR H; iintro %a %b H
  iapply (wp_seq c)
  iapply (part5 I c hO h hR) $$ HR H; iintro %a %b H
  iapply (wp_seq c)
  iapply (part6 I c hO h hR) $$ HR H; iintro %a H
  iapply (wp_seq c)
  iapply (part7 I c hO h hR (hv := red_own0 I c hO)) $$ HR H HI; iintro %a H Ho
  iapply (wp_seq c)
  iapply (part8 I c hO h) $$ HR H; iintro %a H
  iapply (wp_seq c)
  iapply (part9 I c hO h) $$ HR H; iintro %a H
  iapply (ag_step I 0 c hO 10 (by decide) (Memref.whole cc0_scratch3) rfl (k0_dev34_eq c) (off22_eq c hO)
    (semA ⟨11, by decide⟩ rfl) (semG0 (wo c) (off21_eq c hO))) $$ HR H; iintro H
  iapply (ag_step I 0 c hO 11 (by decide) (Memref.whole cc0_scratch3) rfl (k0_dev35_eq c) (off22_eq c hO)
    (semA ⟨12, by decide⟩ rfl) (semG0 (wo c) (off21_eq c hO))) $$ HR H; iintro H
  iapply (ag_step I 0 c hO 12 (by decide) (Memref.whole cc0_scratch3) rfl (k0_dev36_eq c) (off22_eq c hO)
    (semA ⟨13, by decide⟩ rfl) (semG0 (wo c) (off21_eq c hO))) $$ HR H; iintro H
  iapply (ag_step I 0 c hO 13 (by decide) (Memref.whole cc0_scratch3) rfl (k0_dev37_eq c) (off22_eq c hO)
    (semA ⟨14, by decide⟩ rfl) (semG0 (wo c) (off21_eq c hO))) $$ HR H; iintro H
  iapply (wp_done c)
  iapply Hk $$ Hp H Ho

/-- An owner's sends of the first layer have left. -/
theorem part11 (c : Dev nD) (hO : isO c) (h : k0_cond26 c = 1#1) {R : CellTallies nD τ sig ℕ} (hR : Abv 0 R) {Q} :
    Recs I ⊢ iprop(AwS I 0 c R 0 -∗ (∀ a, AwS I 0 c R 7 -∗ Q a)
      -∗ WP c (on (k0_part11 (F := F)) c h) Q) := by
  iintro #HR H Hk
  rw [k0_part11_eq_skeleton]; unfold on k0_part11_skel
  simp -zeta -zetaHave only [Prog.lift, Prog.bind_op, Prog.bind_ret, Prog.pure_eq_ret]
  iapply (aw_step I 0 c hO 0 (by decide) hR (credit_xb (ℓ := 0)) (semA ⟨1, by decide⟩ rfl)) $$ HR H; iintro H
  iapply (aw_step I 0 c hO 1 (by decide) hR (credit_xb (ℓ := 0)) (semA ⟨2, by decide⟩ rfl)) $$ HR H; iintro H
  iapply (aw_step I 0 c hO 2 (by decide) hR (credit_xb (ℓ := 0)) (semA ⟨3, by decide⟩ rfl)) $$ HR H; iintro H
  iapply (aw_step I 0 c hO 3 (by decide) hR (credit_xb (ℓ := 0)) (semA ⟨4, by decide⟩ rfl)) $$ HR H; iintro H
  iapply (aw_step I 0 c hO 4 (by decide) hR (credit_xb (ℓ := 0)) (semA ⟨5, by decide⟩ rfl)) $$ HR H; iintro H
  iapply (aw_step I 0 c hO 5 (by decide) hR (credit_xb (ℓ := 0)) (semA ⟨6, by decide⟩ rfl)) $$ HR H; iintro H
  iapply (aw_step I 0 c hO 6 (by decide) hR (credit_xb (ℓ := 0)) (semA ⟨7, by decide⟩ rfl)) $$ HR H; iintro H
  iapply (wp_done c)
  iapply Hk $$ H

/-- An owner's sends of the first layer have left. -/
theorem part12 (c : Dev nD) (hO : isO c) (h : k0_cond26 c = 1#1) {R : CellTallies nD τ sig ℕ} (hR : Abv 0 R) {Q} :
    Recs I ⊢ iprop(AwS I 0 c R 7 -∗ (∀ a, AwS I 0 c R 15 -∗ Q a)
      -∗ WP c (on (k0_part12 (F := F)) c h) Q) := by
  iintro #HR H Hk
  rw [k0_part12_eq_skeleton]; unfold on k0_part12_skel
  simp -zeta -zetaHave only [Prog.lift, Prog.bind_op, Prog.bind_ret, Prog.pure_eq_ret]
  iapply (aw_step I 0 c hO 7 (by decide) hR (credit_xb (ℓ := 0)) (semA ⟨8, by decide⟩ rfl)) $$ HR H; iintro H
  iapply (aw_step I 0 c hO 8 (by decide) hR (credit_xb (ℓ := 0)) (semA ⟨9, by decide⟩ rfl)) $$ HR H; iintro H
  iapply (aw_step I 0 c hO 9 (by decide) hR (credit_xb (ℓ := 0)) (semA ⟨10, by decide⟩ rfl)) $$ HR H; iintro H
  iapply (aw_step I 0 c hO 10 (by decide) hR (credit_xb (ℓ := 0)) (semA ⟨11, by decide⟩ rfl)) $$ HR H; iintro H
  iapply (aw_step I 0 c hO 11 (by decide) hR (credit_xb (ℓ := 0)) (semA ⟨12, by decide⟩ rfl)) $$ HR H; iintro H
  iapply (aw_step I 0 c hO 12 (by decide) hR (credit_xb (ℓ := 0)) (semA ⟨13, by decide⟩ rfl)) $$ HR H; iintro H
  iapply (aw_step I 0 c hO 13 (by decide) hR (credit_xb (ℓ := 0)) (semA ⟨14, by decide⟩ rfl)) $$ HR H; iintro H
  iapply (aw_step I 0 c hO 14 (by decide) hR (credit_xb (ℓ := 0)) (semA ⟨15, by decide⟩ rfl)) $$ HR H; iintro H
  iapply (wp_done c)
  iapply Hk $$ H

end Cert.KernelIdealRun
-- ==== Proof.KernelIdealRun.Own1.lean ====
/-
# The owners' parts of the second layer
-/
module

public import proofs.«01_k».proof.Proof.KernelIdealRun.Common

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Dev nD → Inp F)

local notation "𝕄" => MT nD τ sig ℕ (Elt F) ℕ UU ℕ

/-- An owner reads the partial tiles of the second layer it has received. -/
theorem part13 (c : Dev nD) (hO : isO c) (h : k0_cond35 c = 1#1) {R : CellTallies nD τ sig ℕ} (hR : Abv (4) R) (v2 : BitVec 32) (v8 : BitVec 32) {Q} :
    Recs I ⊢ iprop(owns (c : Thread nD τ) (slot pb (wo c)) fullShare (tl (PP I (1 : Fin 2).val c) (wo c)) -∗ RvS I 1 c R 0
      -∗ (∀ a b, owns (c : Thread nD τ) (slot pb (wo c)) fullShare (tl (PP I (1 : Fin 2).val c) (wo c)) -∗ RvS I 1 c R 2 -∗ Q ⟨k0_pay9 (tl (PP I (1 : Fin 2).val c) (wo c)) (sl I 1 c 0 (by decide)) (sl I 1 c 1 (by decide)), a, b⟩)
      -∗ WP c (on (k0_part13 (F := F)) c v2 v8 h) Q) := by
  iintro #HR Hp H Hk
  rw [k0_part13_eq_skeleton]; unfold on k0_part13_skel
  simp -zeta -zetaHave only [Prog.lift, Prog.bind_op, Prog.bind_ret, Prog.pure_eq_ret]
  iapply (step_load_tile c pb (wo c) (off48_eq c hO)) $$ Hp; iintro Hp
  iapply (rv_wait I 1 c hO 0 (by decide) hR (credit_rb (ℓ := 1)) (semR1 (pr c ⟨0, by decide⟩) (show k0_off49 c 1#32 = _ from k0_off49_eq c ⟨0, by decide⟩))) $$ HR H; iintro H
  iapply (rv_load I 1 c 0 (by decide) 1 (by decide) (Memref.whole cc0_scratch2) rfl (off := k0_off51 c 1#32) (k0_off51_eq c ⟨0, by decide⟩)) $$ H; iintro H
  iapply (rv_wait I 1 c hO 1 (by decide) hR (credit_rb (ℓ := 1)) (semR1 (pr c ⟨1, by decide⟩) (show k0_off49 c 2#32 = _ from k0_off49_eq c ⟨1, by decide⟩))) $$ HR H; iintro H
  iapply (rv_load I 1 c 1 (by decide) 2 (by decide) (Memref.whole cc0_scratch2) rfl (off := k0_off51 c 2#32) (k0_off51_eq c ⟨1, by decide⟩)) $$ H; iintro H
  iapply (wp_done c)
  iapply Hk $$ Hp H

/-- An owner reads the partial tiles of the second layer it has received. -/
theorem part14 (c : Dev nD) (hO : isO c) (h : k0_cond35 c = 1#1) {R : CellTallies nD τ sig ℕ} (hR : Abv (4) R) (v2 : BitVec 32) (v1155 : FVec F S8x512 .f32) (v1157 : BitVec 32) (c8_i32_960 : BitVec 32) {Q} :
    Recs I ⊢ iprop(RvS I 1 c R 2
      -∗ (∀ a, RvS I 1 c R 4 -∗ Q ⟨k0_pay10 v1155 (sl I 1 c 2 (by decide)) (sl I 1 c 3 (by decide)), a⟩)
      -∗ WP c (on (k0_part14 (F := F)) c v2 h v1155 v1157 c8_i32_960) Q) := by
  iintro #HR H Hk
  rw [k0_part14_eq_skeleton]; unfold on k0_part14_skel
  simp -zeta -zetaHave only [Prog.lift, Prog.bind_op, Prog.bind_ret, Prog.pure_eq_ret]
  iapply (rv_wait I 1 c hO 2 (by decide) hR (credit_rb (ℓ := 1)) (semR1 (pr c ⟨2, by decide⟩) (show k0_off49 c 3#32 = _ from k0_off49_eq c ⟨2, by decide⟩))) $$ HR H; iintro H
  iapply (rv_load I 1 c 2 (by decide) 3 (by decide) (Memref.whole cc0_scratch2) rfl (off := k0_off51 c 3#32) (k0_off51_eq c ⟨2, by decide⟩)) $$ H; iintro H
  iapply (rv_wait I 1 c hO 3 (by decide) hR (credit_rb (ℓ := 1)) (semR1 (pr c ⟨3, by decide⟩) (show k0_off49 c 4#32 = _ from k0_off49_eq c ⟨3, by decide⟩))) $$ HR H; iintro H
  iapply (rv_load I 1 c 3 (by decide) 4 (by decide) (Memref.whole cc0_scratch2) rfl (off := k0_off51 c 4#32) (k0_off51_eq c ⟨3, by decide⟩)) $$ H; iintro H
  iapply (wp_done c)
  iapply Hk $$ H

/-- An owner reads the partial tiles of the second layer it has received. -/
theorem part15 (c : Dev nD) (hO : isO c) (h : k0_cond35 c = 1#1) {R : CellTallies nD τ sig ℕ} (hR : Abv (4) R) (v2 : BitVec 32) (v1183 : FVec F S8x512 .f32) (v1185 : BitVec 32) {Q} :
    Recs I ⊢ iprop(RvS I 1 c R 4
      -∗ (∀ a b, RvS I 1 c R 7 -∗ Q ⟨k0_pay11 v1183 (sl I 1 c 4 (by decide)) (sl I 1 c 5 (by decide)), a, b⟩)
      -∗ WP c (on (k0_part15 (F := F)) c v2 h v1183 v1185) Q) := by
  iintro #HR H Hk
  rw [k0_part15_eq_skeleton]; unfold on k0_part15_skel
  simp -zeta -zetaHave only [Prog.lift, Prog.bind_op, Prog.bind_ret, Prog.pure_eq_ret]
  iapply (rv_wait I 1 c hO 4 (by decide) hR (credit_rb (ℓ := 1)) (semR1 (pr c ⟨4, by decide⟩) (show k0_off49 c 5#32 = _ from k0_off49_eq c ⟨4, by decide⟩))) $$ HR H; iintro H
  iapply (rv_load I 1 c 4 (by decide) 5 (by decide) (Memref.whole cc0_scratch2) rfl (off := k0_off51 c 5#32) (k0_off51_eq c ⟨4, by decide⟩)) $$ H; iintro H
  iapply (rv_wait I 1 c hO 5 (by decide) hR (credit_rb (ℓ := 1)) (semR1 (pr c ⟨5, by decide⟩) (show k0_off49 c 6#32 = _ from k0_off49_eq c ⟨5, by decide⟩))) $$ HR H; iintro H
  iapply (rv_load I 1 c 5 (by decide) 6 (by decide) (Memref.whole cc0_scratch2) rfl (off := k0_off51 c 6#32) (k0_off51_eq c ⟨5, by decide⟩)) $$ H; iintro H
  iapply (rv_wait I 1 c hO 6 (by decide) hR (credit_rb (ℓ := 1)) (semR1 (pr c ⟨6, by decide⟩) (show k0_off49 c 7#32 = _ from k0_off49_eq c ⟨6, by decide⟩))) $$ HR H; iintro H
  iapply (wp_done c)
  iapply Hk $$ H

/-- An owner reads the partial tiles of the second layer it has received. -/
theorem part16 (c : Dev nD) (hO : isO c) (h : k0_cond35 c = 1#1) {R : CellTallies nD τ sig ℕ} (hR : Abv (4) R) (v2 : BitVec 32) (v1211 : FVec F S8x512 .f32) (v1213 : BitVec 32) (c8_i32_1011 : BitVec 32) {Q} :
    Recs I ⊢ iprop(RvS I 1 c R 7
      -∗ (∀ a b, RvS I 1 c R 9 -∗ Q ⟨k0_pay12 v1211 (sl I 1 c 6 (by decide)) (sl I 1 c 7 (by decide)) (sl I 1 c 8 (by decide)), a, b⟩)
      -∗ WP c (on (k0_part16 (F := F)) c v2 h v1211 v1213 c8_i32_1011) Q) := by
  iintro #HR H Hk
  rw [k0_part16_eq_skeleton]; unfold on k0_part16_skel
  simp -zeta -zetaHave only [Prog.lift, Prog.bind_op, Prog.bind_ret, Prog.pure_eq_ret]
  iapply (rv_load I 1 c 6 (by decide) 7 (by decide) (Memref.whole cc0_scratch2) rfl (off := k0_off51 c 7#32) (k0_off51_eq c ⟨6, by decide⟩)) $$ H; iintro H
  iapply (rv_wait I 1 c hO 7 (by decide) hR (credit_rb (ℓ := 1)) (semR1 (pr c ⟨7, by decide⟩) (show k0_off49 c 8#32 = _ from k0_off49_eq c ⟨7, by decide⟩))) $$ HR H; iintro H
  iapply (rv_load I 1 c 7 (by decide) 8 (by decide) (Memref.whole cc0_scratch2) rfl (off := k0_off51 c 8#32) (k0_off51_eq c ⟨7, by decide⟩)) $$ H; iintro H
  iapply (rv_wait I 1 c hO 8 (by decide) hR (credit_rb (ℓ := 1)) (semR1 (pr c ⟨8, by decide⟩) (show k0_off49 c 9#32 = _ from k0_off49_eq c ⟨8, by decide⟩))) $$ HR H; iintro H
  iapply (rv_load I 1 c 8 (by decide) 9 (by decide) (Memref.whole cc0_scratch2) rfl (off := k0_off51 c 9#32) (k0_off51_eq c ⟨8, by decide⟩)) $$ H; iintro H
  iapply (wp_done c)
  iapply Hk $$ H

/-- An owner reads the partial tiles of the second layer it has received. -/
theorem part17 (c : Dev nD) (hO : isO c) (h : k0_cond35 c = 1#1) {R : CellTallies nD τ sig ℕ} (hR : Abv (4) R) (v2 : BitVec 32) (v1253 : FVec F S8x512 .f32) (v1254 : BitVec 32) (c16_i32_1036 : BitVec 32) {Q} :
    Recs I ⊢ iprop(RvS I 1 c R 9
      -∗ (∀ a b, RvS I 1 c R 11 -∗ Q ⟨k0_pay13 v1253 (sl I 1 c 9 (by decide)) (sl I 1 c 10 (by decide)), a, b⟩)
      -∗ WP c (on (k0_part17 (F := F)) c v2 h v1253 v1254 c16_i32_1036) Q) := by
  iintro #HR H Hk
  rw [k0_part17_eq_skeleton]; unfold on k0_part17_skel
  simp -zeta -zetaHave only [Prog.lift, Prog.bind_op, Prog.bind_ret, Prog.pure_eq_ret]
  iapply (rv_wait I 1 c hO 9 (by decide) hR (credit_rb (ℓ := 1)) (semR1 (pr c ⟨9, by decide⟩) (show k0_off49 c 10#32 = _ from k0_off49_eq c ⟨9, by decide⟩))) $$ HR H; iintro H
  iapply (rv_load I 1 c 9 (by decide) 10 (by decide) (Memref.whole cc0_scratch2) rfl (off := k0_off51 c 10#32) (k0_off51_eq c ⟨9, by decide⟩)) $$ H; iintro H
  iapply (rv_wait I 1 c hO 10 (by decide) hR (credit_rb (ℓ := 1)) (semR1 (pr c ⟨10, by decide⟩) (show k0_off49 c 11#32 = _ from k0_off49_eq c ⟨10, by decide⟩))) $$ HR H; iintro H
  iapply (rv_load I 1 c 10 (by decide) 11 (by decide) (Memref.whole cc0_scratch2) rfl (off := k0_off51 c 11#32) (k0_off51_eq c ⟨10, by decide⟩)) $$ H; iintro H
  iapply (wp_done c)
  iapply Hk $$ H

/-- An owner reads the partial tiles of the second layer it has received. -/
theorem part18 (c : Dev nD) (hO : isO c) (h : k0_cond35 c = 1#1) {R : CellTallies nD τ sig ℕ} (hR : Abv (4) R) (v2 : BitVec 32) (v1281 : FVec F S8x512 .f32) (v1283 : BitVec 32) (v1286 : BitVec 32) {Q} :
    Recs I ⊢ iprop(RvS I 1 c R 11
      -∗ (∀ a, RvS I 1 c R 13 -∗ Q ⟨k0_pay14 v1281 (sl I 1 c 11 (by decide)) (sl I 1 c 12 (by decide)), a⟩)
      -∗ WP c (on (k0_part18 (F := F)) c v2 h v1281 v1283 v1286) Q) := by
  iintro #HR H Hk
  rw [k0_part18_eq_skeleton]; unfold on k0_part18_skel
  simp -zeta -zetaHave only [Prog.lift, Prog.bind_op, Prog.bind_ret, Prog.pure_eq_ret]
  iapply (rv_wait I 1 c hO 11 (by decide) hR (credit_rb (ℓ := 1)) (semR1 (pr c ⟨11, by decide⟩) (show k0_off49 c 12#32 = _ from k0_off49_eq c ⟨11, by decide⟩))) $$ HR H; iintro H
  iapply (rv_load I 1 c 11 (by decide) 12 (by decide) (Memref.whole cc0_scratch2) rfl (off := k0_off51 c 12#32) (k0_off51_eq c ⟨11, by decide⟩)) $$ H; iintro H
  iapply (rv_wait I 1 c hO 12 (by decide) hR (credit_rb (ℓ := 1)) (semR1 (pr c ⟨12, by decide⟩) (show k0_off49 c 13#32 = _ from k0_off49_eq c ⟨12, by decide⟩))) $$ HR H; iintro H
  iapply (rv_load I 1 c 12 (by decide) 13 (by decide) (Memref.whole cc0_scratch2) rfl (off := k0_off51 c 13#32) (k0_off51_eq c ⟨12, by decide⟩)) $$ H; iintro H
  iapply (wp_done c)
  iapply Hk $$ H

/-- An owner reads the partial tiles of the second layer it has received, and sends their sum. -/
theorem part19 (c : Dev nD) (hO : isO c) (h : k0_cond35 c = 1#1) {R : CellTallies nD τ sig ℕ} (hR : Abv (4) (R + DG 1 c)) (v2 : BitVec 32) (v8 : BitVec 32) (v290 : BitVec 32) (v294 : BitVec 32) (v1309 : FVec F S8x512 .f32) (v1311 : BitVec 32)
    (hv : k0_pay15 v1309 (sl I 1 c 13 (by decide)) (sl I 1 c 14 (by decide)) = AA I (1 : Fin 2).val (wo c)) {Q} :
    Recs I ⊢ iprop(RvS I 1 c (R + DG 1 c) 13 -∗ Agin 1 c -∗ (∀ a, AgS I 1 c R 1 -∗ Agout I 1 c -∗ Q a)
      -∗ WP c (on (k0_part19 (F := F)) c v2 v8 v290 v294 h v1309 v1311) Q) := by
  unfold Agin Agout
  iintro #HR H ⟨Hx, Hs, Ht, Hu, Ha⟩ Hk
  rw [k0_part19_eq_skeleton]; unfold on k0_part19_skel
  simp -zeta -zetaHave only [Prog.lift, Prog.bind_op, Prog.bind_ret, Prog.pure_eq_ret]
  iapply (rv_wait I 1 c hO 13 (by decide) hR (credit_rb (ℓ := 1)) (semR1 (pr c ⟨13, by decide⟩) (show k0_off49 c 14#32 = _ from k0_off49_eq c ⟨13, by decide⟩))) $$ HR H; iintro H
  iapply (rv_load I 1 c 13 (by decide) 14 (by decide) (Memref.whole cc0_scratch2) rfl (off := k0_off51 c 14#32) (k0_off51_eq c ⟨13, by decide⟩)) $$ H; iintro H
  iapply (rv_wait I 1 c hO 14 (by decide) hR (credit_rb (ℓ := 1)) (semR1 (pr c ⟨14, by decide⟩) (show k0_off49 c 15#32 = _ from k0_off49_eq c ⟨14, by decide⟩))) $$ HR H; iintro H
  iapply (rv_load I 1 c 14 (by decide) 15 (by decide) (Memref.whole cc0_scratch2) rfl (off := k0_off51 c 15#32) (k0_off51_eq c ⟨14, by decide⟩)) $$ H; iintro H
  ihave Hx := (show some1 c (slot (xb 1) (wo c)) ⊢ iprop(∃ X, owns (c : Thread nD τ) (slot (xb 1) (wo c)) fullShare X) from .rfl) $$ Hx
  icases Hx with ⟨%X, Hx⟩
  iapply (step_load_tile c (xb 1) (wo c) (off48_eq c hO)) $$ Hx; iintro Hx
  iapply (step_store_tile c (xb 1) (wo c) (off48_eq c hO)) $$ Hx; iintro Hx
  ihave Hx := (Entails.of_eq (congrArg (fun T => owns (c : Thread nD τ) (slot (xb 1) (wo c)) fullShare T) hv)) $$ Hx
  ihave H := (Entails.of_eq (show RvS I 1 c (R + DG 1 c) 15 = iprop(Owes c (R + DG 1 c) ∗ bigSep Finset.univ (rvΨ I 1 c)) from Wt_end c _ _ _)) $$ H
  icases H with ⟨HO, Hv⟩
  ihave H := (ag_start I 1 c hO R) $$ [Hx Hv Hs Ht Hu Ha HO]
  · isplitl [Hx]; · iassumption
    isplitl [Hv]; · iassumption
    isplitl [Hs]; · iassumption
    isplitl [Ht]; · iassumption
    isplitl [Hu]; · iassumption
    isplitl [Ha] <;> iassumption
  icases H with ⟨H, Ho⟩
  iapply (ag_step I 1 c hO 0 (by decide) (Memref.whole cc0_scratch4) rfl (k0_dev47_eq c) (off53_eq c hO)
    (semA ⟨1, by decide⟩ rfl) (semG1 (wo c) (off52_eq c hO))) $$ HR H; iintro H
  iapply (wp_done c)
  iapply Hk $$ H Ho

/-- An owner sends its reduced tile of the second layer on. -/
theorem part20 (c : Dev nD) (hO : isO c) (h : k0_cond35 c = 1#1) {R : CellTallies nD τ sig ℕ} (v298 : BitVec 32) (v302 : BitVec 32) (v306 : BitVec 32) (v310 : BitVec 32) (v314 : BitVec 32) {Q} :
    Recs I ⊢ iprop(AgS I 1 c R 1 -∗ (∀ a, AgS I 1 c R 6 -∗ Q a)
      -∗ WP c (on (k0_part20 (F := F)) c v298 v302 v306 v310 v314 h) Q) := by
  iintro #HR H Hk
  rw [k0_part20_eq_skeleton]; unfold on k0_part20_skel
  simp -zeta -zetaHave only [Prog.lift, Prog.bind_op, Prog.bind_ret, Prog.pure_eq_ret]
  iapply (ag_step I 1 c hO 1 (by decide) (Memref.whole cc0_scratch4) rfl (k0_dev48_eq c) (off53_eq c hO)
    (semA ⟨2, by decide⟩ rfl) (semG1 (wo c) (off52_eq c hO))) $$ HR H; iintro H
  iapply (ag_step I 1 c hO 2 (by decide) (Memref.whole cc0_scratch4) rfl (k0_dev49_eq c) (off53_eq c hO)
    (semA ⟨3, by decide⟩ rfl) (semG1 (wo c) (off52_eq c hO))) $$ HR H; iintro H
  iapply (ag_step I 1 c hO 3 (by decide) (Memref.whole cc0_scratch4) rfl (k0_dev50_eq c) (off53_eq c hO)
    (semA ⟨4, by decide⟩ rfl) (semG1 (wo c) (off52_eq c hO))) $$ HR H; iintro H
  iapply (ag_step I 1 c hO 4 (by decide) (Memref.whole cc0_scratch4) rfl (k0_dev51_eq c) (off53_eq c hO)
    (semA ⟨5, by decide⟩ rfl) (semG1 (wo c) (off52_eq c hO))) $$ HR H; iintro H
  iapply (ag_step I 1 c hO 5 (by decide) (Memref.whole cc0_scratch4) rfl (k0_dev52_eq c) (off53_eq c hO)
    (semA ⟨6, by decide⟩ rfl) (semG1 (wo c) (off52_eq c hO))) $$ HR H; iintro H
  iapply (wp_done c)
  iapply Hk $$ H

/-- An owner sends its reduced tile of the second layer on. -/
theorem part21 (c : Dev nD) (hO : isO c) (h : k0_cond35 c = 1#1) {R : CellTallies nD τ sig ℕ} (v318 : BitVec 32) (v322 : BitVec 32) (v326 : BitVec 32) (v330 : BitVec 32) (v1390 : BitVec 32) (c0_i32_1127 : BitVec 32) {Q} :
    Recs I ⊢ iprop(AgS I 1 c R 6 -∗ (∀ a, AgS I 1 c R 10 -∗ Q a)
      -∗ WP c (on (k0_part21 (F := F)) c v318 v322 v326 v330 h v1390 c0_i32_1127) Q) := by
  iintro #HR H Hk
  rw [k0_part21_eq_skeleton]; unfold on k0_part21_skel
  simp -zeta -zetaHave only [Prog.lift, Prog.bind_op, Prog.bind_ret, Prog.pure_eq_ret]
  iapply (ag_step I 1 c hO 6 (by decide) (Memref.whole cc0_scratch4) rfl (k0_dev53_eq c) (off53_eq c hO)
    (semA ⟨7, by decide⟩ rfl) (semG1 (wo c) (off52_eq c hO))) $$ HR H; iintro H
  iapply (ag_step I 1 c hO 7 (by decide) (Memref.whole cc0_scratch4) rfl (k0_dev54_eq c) (off53_eq c hO)
    (semA ⟨8, by decide⟩ rfl) (semG1 (wo c) (off52_eq c hO))) $$ HR H; iintro H
  iapply (ag_step I 1 c hO 8 (by decide) (Memref.whole cc0_scratch4) rfl (k0_dev55_eq c) (off53_eq c hO)
    (semA ⟨9, by decide⟩ rfl) (semG1 (wo c) (off52_eq c hO))) $$ HR H; iintro H
  iapply (ag_step I 1 c hO 9 (by decide) (Memref.whole cc0_scratch4) rfl (k0_dev56_eq c) (off53_eq c hO)
    (semA ⟨10, by decide⟩ rfl) (semG1 (wo c) (off52_eq c hO))) $$ HR H; iintro H
  iapply (wp_done c)
  iapply Hk $$ H

/-- An owner's work on the second layer, but for the last send. -/
theorem part22 (c : Dev nD) (hO : isO c) (h : k0_cond35 c = 1#1) {R : CellTallies nD τ sig ℕ} (hR : Abv 4 (R + DG 1 c)) (v2 v8 v290 v294 v298 v302 v306 v310 v314 v318 v322 v326 v330 v334 v338 v342 v346 : BitVec 32) {Q} :
    Recs I ⊢ iprop(owns (c : Thread nD τ) (slot pb (wo c)) fullShare (tl (PP I (1 : Fin 2).val c) (wo c)) -∗ RvS I 1 c (R + DG 1 c) 0 -∗ Agin 1 c
      -∗ (∀ a, owns (c : Thread nD τ) (slot pb (wo c)) fullShare (tl (PP I (1 : Fin 2).val c) (wo c)) -∗ AgS I 1 c R 14 -∗ Agout I 1 c -∗ Q a)
      -∗ WP c (on (k0_part22 (F := F)) c v2 v8 v290 v294 v298 v302 v306 v310 v314 v318 v322 v326 v330 v334 v338 v342 v346 h) Q) := by
  iintro #HR Hp H HI Hk
  rw [k0_part22_eq_skeleton]; unfold on k0_part22_skel
  simp -zeta -zetaHave only [Prog.lift, Prog.bind_op, Prog.bind_ret, Prog.pure_eq_ret]
  iapply (wp_seq c)
  iapply (part13 I c hO h hR) $$ HR Hp H; iintro %a %b Hp H
  iapply (wp_seq c)
  iapply (part14 I c hO h hR) $$ HR H; iintro %a H
  iapply (wp_seq c)
  iapply (part15 I c hO h hR) $$ HR H; iintro %a %b H
  iapply (wp_seq c)
  iapply (part16 I c hO h hR) $$ HR H; iintro %a %b H
  iapply (wp_seq c)
  iapply (part17 I c hO h hR) $$ HR H; iintro %a %b H
  iapply (wp_seq c)
  iapply (part18 I c hO h hR) $$ HR H; iintro %a H
  iapply (wp_seq c)
  iapply (part19 I c hO h hR (hv := red_own1 I c hO)) $$ HR H HI; iintro %a H Ho
  iapply (wp_seq c)
  iapply (part20 I c hO h) $$ HR H; iintro %a H
  iapply (wp_seq c)
  iapply (part21 I c hO h) $$ HR H; iintro %a H
  iapply (ag_step I 1 c hO 10 (by decide) (Memref.whole cc0_scratch4) rfl (k0_dev57_eq c) (off53_eq c hO)
    (semA ⟨11, by decide⟩ rfl) (semG1 (wo c) (off52_eq c hO))) $$ HR H; iintro H
  iapply (ag_step I 1 c hO 11 (by decide) (Memref.whole cc0_scratch4) rfl (k0_dev58_eq c) (off53_eq c hO)
    (semA ⟨12, by decide⟩ rfl) (semG1 (wo c) (off52_eq c hO))) $$ HR H; iintro H
  iapply (ag_step I 1 c hO 12 (by decide) (Memref.whole cc0_scratch4) rfl (k0_dev59_eq c) (off53_eq c hO)
    (semA ⟨13, by decide⟩ rfl) (semG1 (wo c) (off52_eq c hO))) $$ HR H; iintro H
  iapply (ag_step I 1 c hO 13 (by decide) (Memref.whole cc0_scratch4) rfl (k0_dev60_eq c) (off53_eq c hO)
    (semA ⟨14, by decide⟩ rfl) (semG1 (wo c) (off52_eq c hO))) $$ HR H; iintro H
  iapply (wp_done c)
  iapply Hk $$ Hp H Ho

/-- An owner's sends of the second layer have left. -/
theorem part23 (c : Dev nD) (hO : isO c) (h : k0_cond52 c = 1#1) {R : CellTallies nD τ sig ℕ} (hR : Abv 0 R) {Q} :
    Recs I ⊢ iprop(AwS I 1 c R 0 -∗ (∀ a, AwS I 1 c R 7 -∗ Q a)
      -∗ WP c (on (k0_part23 (F := F)) c h) Q) := by
  iintro #HR H Hk
  rw [k0_part23_eq_skeleton]; unfold on k0_part23_skel
  simp -zeta -zetaHave only [Prog.lift, Prog.bind_op, Prog.bind_ret, Prog.pure_eq_ret]
  iapply (aw_step I 1 c hO 0 (by decide) hR (credit_xb (ℓ := 1)) (semA ⟨1, by decide⟩ rfl)) $$ HR H; iintro H
  iapply (aw_step I 1 c hO 1 (by decide) hR (credit_xb (ℓ := 1)) (semA ⟨2, by decide⟩ rfl)) $$ HR H; iintro H
  iapply (aw_step I 1 c hO 2 (by decide) hR (credit_xb (ℓ := 1)) (semA ⟨3, by decide⟩ rfl)) $$ HR H; iintro H
  iapply (aw_step I 1 c hO 3 (by decide) hR (credit_xb (ℓ := 1)) (semA ⟨4, by decide⟩ rfl)) $$ HR H; iintro H
  iapply (aw_step I 1 c hO 4 (by decide) hR (credit_xb (ℓ := 1)) (semA ⟨5, by decide⟩ rfl)) $$ HR H; iintro H
  iapply (aw_step I 1 c hO 5 (by decide) hR (credit_xb (ℓ := 1)) (semA ⟨6, by decide⟩ rfl)) $$ HR H; iintro H
  iapply (aw_step I 1 c hO 6 (by decide) hR (credit_xb (ℓ := 1)) (semA ⟨7, by decide⟩ rfl)) $$ HR H; iintro H
  iapply (wp_done c)
  iapply Hk $$ H

/-- An owner's sends of the second layer have left. -/
theorem part24 (c : Dev nD) (hO : isO c) (h : k0_cond52 c = 1#1) {R : CellTallies nD τ sig ℕ} (hR : Abv 0 R) {Q} :
    Recs I ⊢ iprop(AwS I 1 c R 7 -∗ (∀ a, AwS I 1 c R 15 -∗ Q a)
      -∗ WP c (on (k0_part24 (F := F)) c h) Q) := by
  iintro #HR H Hk
  rw [k0_part24_eq_skeleton]; unfold on k0_part24_skel
  simp -zeta -zetaHave only [Prog.lift, Prog.bind_op, Prog.bind_ret, Prog.pure_eq_ret]
  iapply (aw_step I 1 c hO 7 (by decide) hR (credit_xb (ℓ := 1)) (semA ⟨8, by decide⟩ rfl)) $$ HR H; iintro H
  iapply (aw_step I 1 c hO 8 (by decide) hR (credit_xb (ℓ := 1)) (semA ⟨9, by decide⟩ rfl)) $$ HR H; iintro H
  iapply (aw_step I 1 c hO 9 (by decide) hR (credit_xb (ℓ := 1)) (semA ⟨10, by decide⟩ rfl)) $$ HR H; iintro H
  iapply (aw_step I 1 c hO 10 (by decide) hR (credit_xb (ℓ := 1)) (semA ⟨11, by decide⟩ rfl)) $$ HR H; iintro H
  iapply (aw_step I 1 c hO 11 (by decide) hR (credit_xb (ℓ := 1)) (semA ⟨12, by decide⟩ rfl)) $$ HR H; iintro H
  iapply (aw_step I 1 c hO 12 (by decide) hR (credit_xb (ℓ := 1)) (semA ⟨13, by decide⟩ rfl)) $$ HR H; iintro H
  iapply (aw_step I 1 c hO 13 (by decide) hR (credit_xb (ℓ := 1)) (semA ⟨14, by decide⟩ rfl)) $$ HR H; iintro H
  iapply (aw_step I 1 c hO 14 (by decide) hR (credit_xb (ℓ := 1)) (semA ⟨15, by decide⟩ rfl)) $$ HR H; iintro H
  iapply (wp_done c)
  iapply Hk $$ H

end Cert.KernelIdealRun
-- ==== Proof.KernelIdealRun.Mixed.lean ====
/-
# What the parts that join two stages share
-/
module

public import proofs.«01_k».proof.Proof.KernelIdealRun.Simple
public import proofs.«01_k».proof.Proof.KernelIdealRun.Own0
public import proofs.«01_k».proof.Proof.KernelIdealRun.Own1

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Dev nD → Inp F)

local notation "𝕄" => MT nD τ sig ℕ (Elt F) ℕ UU ℕ

theorem z2 : (![0, 0] : Fin 2 → ℕ) = fun _ => 0 := by funext a; fin_cases a <;> rfl

/-- The kernel's test of a device's position against a word. -/
abbrev tw (c : Dev nD) (b : BitVec 32) : BitVec 1 :=
  Scalar.cmpi .ne (Scalar.extui (Scalar.cmpi .ne (v2w c) b) : BitVec 32) 0#32

/-- What an owner brings to its work in layer `ℓ`; other devices bring nothing. -/
def OwnIn (ℓ : Fin 2) (c : Dev nD) : sProp 𝕄 :=
  iprop(Own c (owns (c : Thread nD τ) (slot pb (wo c)) fullShare (tl (PP I ℓ.val c) (wo c)))
    ∗ Own c (bigSep Finset.univ (rvΦ (F := F) ℓ c)) ∗ Own c (Agin ℓ c))
/-- What an owner has after its work in layer `ℓ`. -/
def OwnOut (ℓ : Fin 2) (c : Dev nD) : sProp 𝕄 :=
  iprop(Own c (owns (c : Thread nD τ) (slot pb (wo c)) fullShare (tl (PP I ℓ.val c) (wo c)))
    ∗ Own c (bigSep Finset.univ (awΦ (F := F) ℓ c)) ∗ Own c (Agout I ℓ c))

/-- A device that owns no tile owes none. -/
theorem owes_idle (ℓ : Fin 2) (c : Dev nD) (h : ¬ isO c) (R : CellTallies nD τ sig ℕ) : Owes (F := F) c (R + DG ℓ c) ⊢ Owes c R :=
  Entails.of_eq (by unfold DG; rw [if_neg h, add_zero])

/-- Nothing to do for a device that owns no tile. -/
theorem own_skip (ℓ : Fin 2) (c : Dev nD) (h : ¬ isO c) : OwnIn I ℓ c ⊢ OwnOut I ℓ c := by
  unfold OwnIn OwnOut
  exact BI.sep_mono (BI.Entails.refl _) (BI.sep_mono (Own_mono c fun e => absurd e h) (Own_mono c fun e => absurd e h))

/-- What layer 0 leaves with a device. -/
def Left0 (c : Dev nD) : sProp 𝕄 :=
  iprop(owns (c : Thread nD τ) (xb 0) fullShare (asm (AA I (0 : Fin 2).val)) ∗ Own c (KA ((0 : Fin 2).val + 1) c)
    ∗ (bigSep Finset.univ fun w => At c (kG 0 w) (if ow w = c then 0 else 1)) ∗ Own c (bigSep Finset.univ fun r => At c (kR 0 (pr c r)) 1))
/-- What layer 1 leaves with a device. -/
def Left1 (c : Dev nD) : sProp 𝕄 :=
  iprop(owns (c : Thread nD τ) (xb 1) fullShare (asm (AA I (1 : Fin 2).val)) ∗ Own c (KA ((1 : Fin 2).val + 1) c)
    ∗ (bigSep Finset.univ fun w => At c (kG 1 w) (if ow w = c then 0 else 1)) ∗ (bigSep Finset.univ fun w => Gy (1 : Fin 2).val (ow w) c)
    ∗ Own c (bigSep Finset.univ (rvK (F := F) 1 c)) ∗ owns (c : Thread nD τ) pb fullShare (PP I (1 : Fin 2).val c) ∗ KS ((1 : Fin 2).val + 1) c)
/-- What the second layer needs from its start. -/
def Need1 (c : Dev nD) : sProp 𝕄 :=
  iprop((bigSep Finset.univ fun w => Un c w (Tok c (kS w) (1 : Fin 2).val c)) ∗ (bigSep Finset.univ fun w => Un c w (Tok (ow w) (kR 1 c) 0 c))
    ∗ (bigSep Finset.univ fun w => Un c w (some1 (ow w) (slot (rb 1) c))))
/-- What the barrier leaves for later. -/
def Left (c : Dev nD) : sProp 𝕄 :=
  iprop(atPos ER (cell c (.inl ())) 1 ∅ 0 ∗ (bigSep Finset.univ fun r => Nwn (pr c r) (some1 (pr c r) (slot (rb 0) c)))
    ∗ (bigSep Finset.univ fun w => Un c w (some1 (ow w) (slot (rb 1) c)))
    ∗ Own c (bigSep Finset.univ fun r => some1 (pr c r) (slot (xb 0) (wo c))) ∗ Own c (bigSep Finset.univ fun r => some1 (pr c r) (slot (xb 1) (wo c))))
/-- What the first layer needs from its start. -/
def Need0 (c : Dev nD) : sProp 𝕄 :=
  iprop(cred (tallyAt (cell c (.inl ())) 0 15) ∗ atPos ER (cell c (.inl ())) 0 ∅ 0 ∗ some1 c pb ∗ KS (0 : Fin 2).val c
    ∗ (bigSep Finset.univ fun w => Un c w (Tok c (kS w) (0 : Fin 2).val c)) ∗ (bigSep Finset.univ fun w => Un c w (Tok (ow w) (kR 0 c) 0 c)))

/-- An owner's three leftovers, apart. -/
theorem agout_split (ℓ : Fin 2) (c : Dev nD) : Own c (Agout I ℓ c) ⊢ iprop(Own c (owns (c : Thread nD τ) (slot (xb ℓ) (wo c)) (lf 0) (AA I ℓ (wo c)))
    ∗ Own c (Gy ℓ c c) ∗ Own c (bigSep Finset.univ (rvK (F := F) ℓ c))) := by
  unfold Agout; rw [Own_sep, Own_sep]

end Cert.KernelIdealRun
-- ==== Proof.KernelIdealRun.Mid0.lean ====
/-
# The parts that join stages: the first layer
-/
module

public import proofs.«01_k».proof.Proof.KernelIdealRun.Mixed

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Dev nD → Inp F)

local notation "𝕄" => MT nD τ sig ℕ (Elt F) ℕ UU ℕ

/-- The last signals, the first products, the barrier, and the first partial tiles sent. -/
theorem part28 (c : Dev nD) {R : CellTallies nD τ sig ℕ} (hR : Abv 1 (R + DR 0 c)) (v2 v81 a : BitVec 32) {Q} :
    Recs I ⊢ iprop(SigS c (R + DR 0 c) 13 -∗ Need0 c -∗ owns (c : Thread nD τ) (Memref.whole cc0_stg0_0) fullShare ((I c).x) -∗ owns (c : Thread nD τ) (Memref.whole cc0_stg1_0) fullShare ((I c).win 0) -∗ owns (c : Thread nD τ) (Memref.whole cc0_stg2_0) fullShare ((I c).wout 0)
      -∗ (∀ a, RsS I 0 c R 2 -∗ Own c (owns (c : Thread nD τ) (slot pb (wo c)) fullShare (tl (PP I (0 : Fin 2).val c) (wo c))) -∗ Left c -∗ owns (c : Thread nD τ) (Memref.whole cc0_stg0_0) fullShare ((I c).x) -∗ owns (c : Thread nD τ) (Memref.whole cc0_stg1_0) fullShare ((I c).win 0) -∗ owns (c : Thread nD τ) (Memref.whole cc0_stg2_0) fullShare ((I c).wout 0) -∗ Q a)
      -∗ WP c (on (k0_part28 (F := F)) c v2 (SemArray.scalar (sig.barrier 0 rfl)) v81 a) Q) := by
  unfold Need0 Left
  iintro #HR H ⟨Hc, Ha, Hp, Hk, Ht, Hu⟩ H0 H1 H2 HQ
  rw [k0_part28_eq_skeleton]; unfold on k0_part28_skel
  simp -zeta -zetaHave only [semSignalWord, semWaitWord, Prog.lift, Prog.bind_op, Prog.bind_ret, Prog.pure_eq_ret]
  iapply (sig_step I c 13 (by decide) (k0_dev14_eq c)) $$ HR H; iintro H
  iapply (sig_step I c 14 (by decide) (k0_dev15_eq c)) $$ HR H; iintro H
  ihave H := (Entails.of_eq (show SigS c (R + DR 0 c) 15 = _ from St_end c _ _ _ _)) $$ H
  icases H with ⟨HO, -⟩
  iapply (step_load_all c (Memref.whole cc0_stg0_0) (Memref.isWhole_whole _) z2) $$ H0; iintro H0
  iapply (step_load_all c (Memref.whole cc0_stg1_0) (Memref.isWhole_whole _) z2) $$ H1; iintro H1
  iapply (step_load_all c (Memref.whole cc0_stg2_0) (Memref.isWhole_whole _) z2) $$ H2; iintro H2
  iapply (step_barrier I c rfl rfl hR) $$ HR [Hc Ha HO]
  · isplitl [Hc]; · iassumption
    isplitl [Ha]; · iassumption
    iassumption
  iintro ⟨HO, Ha, Hb⟩
  ihave Hb := (bar_got c) $$ Hb
  icases Hb with ⟨Hb0, Hb1, Hb2, Hb3, Hb4⟩
  ihave Hp := (show some1 c pb ⊢ iprop(∃ X, owns (c : Thread nD τ) pb fullShare X) from .rfl) $$ Hp
  icases Hp with ⟨%X, Hp⟩
  iapply (step_load_all c (Memref.whole cc0_scratch0) (Memref.isWhole_whole _) z2) $$ Hp; iintro Hp
  iapply (step_store_all c (Memref.whole cc0_scratch0) (Memref.isWhole_whole _) z2) $$ Hp; iintro Hp
  ihave Hp := (show owns (c : Thread nD τ) pb fullShare (k0_pay16 (I c).x ((I c).win 0) ((I c).wout 0)) ⊢ owns (c : Thread nD τ) pb fullShare (PP I (0 : Fin 2).val c) from .rfl) $$ Hp
  ihave Hg := (gx_none (F := F) c) $$ []
  · iempintro
  ihave H := (rs_start I 0 c R) $$ [Hp Hk Ht Hu Hb0 Hg HO]
  · isplitl [Hp]; · iassumption
    isplitl [Hk]; · iassumption
    isplitl [Ht]; · iassumption
    isplitl [Hu]; · iassumption
    isplitl [Hb0]; · iassumption
    isplitl [Hg]; · iassumption
    iassumption
  icases H with ⟨H, Hp⟩
  iapply (rs_step I 0 c 0 (by decide) (Memref.whole cc0_scratch1) rfl (cond1_iff c) (k0_dev16_eq) (k0_off2_eq c) (b := 0) rfl
    (fun _ => semS 0 rfl) (fun h => semR0 c (k0_off1_eq c))) $$ HR H; iintro H
  iapply (rs_step I 0 c 1 (by decide) (Memref.whole cc0_scratch1) rfl (cond2_iff c) (k0_dev17_eq) (k0_off4_eq c) (b := 8) rfl
    (fun _ => semS 1 rfl) (fun h => semR0 c (k0_off3_eq c))) $$ HR H; iintro H
  iapply (wp_done c)
  iapply HQ $$ H Hp [Ha Hb1 Hb2 Hb3 Hb4] H0 H1 H2
  · isplitl [Ha]; · iassumption
    isplitl [Hb1]; · iassumption
    isplitl [Hb2]; · iassumption
    isplitl [Hb3]; · iassumption
    iassumption

/-- An owner's whole work on its tile, and the first reduced tiles awaited, in layer 0. -/
theorem part32 (c : Dev nD) {R : CellTallies nD τ sig ℕ} (hR : Abv 2 (R + DG 0 c)) (hG : Abv (3 + 2 * (0 : Fin 2).val) R) (v8 v134 v138 v142 v146 v150 v154 v158 v162 v166 v170 v174 v178 v182 v186 v190 v193 : BitVec 32) {Q} :
    Recs I ⊢ iprop(Owes c (R + DG 0 c) -∗ OwnIn I 0 c -∗ bigSep Finset.univ (gwΦ (F := F) 0 c)
      -∗ (GwS I 0 c R 5 -∗ OwnOut I 0 c -∗ Q (tw c 9#32))
      -∗ WP c (on (k0_part32 (F := F)) c (v2w c) v8 v134 v138 v142 v146 v150 v154 v158 v162 v166 v170 v174 v178 v182 v186 v190 v193) Q) := by
  iintro #HR HO Hi Hg HQ
  rw [k0_part32_eq_skeleton]; unfold on k0_part32_skel
  simp -zeta -zetaHave only [semSignalWord, semWaitWord, Prog.lift, Prog.bind_op, Prog.bind_ret, Prog.pure_eq_ret]
  by_cases hO : isO c
  case' pos =>
    ihave Hi := (show OwnIn I 0 c ⊢ _ from Entails.of_eq (by unfold OwnIn; rw [Own_yes hO, Own_yes hO, Own_yes hO])) $$ Hi
    icases Hi with ⟨Hp, Hv, HA⟩
    iapply (wp_then c ((cond9_iff c).mpr hO))
    iapply (wp_seq c)
    ihave H := (Entails.of_eq (show _ = RvS I 0 c (R + DG 0 c) 0 from Wt_start c _ _ _)) $$ [HO Hv]
    · isplitl [HO] <;> iassumption
    iapply (part10 I c hO ((cond9_iff c).mpr hO) hR) $$ HR Hp H HA; iintro %a Hp H Ho
    iapply (ag_step I 0 c hO 14 (by decide) (Memref.whole cc0_scratch3) rfl (k0_dev38_eq c) (off22_eq c hO)
    (semA ⟨15, by decide⟩ rfl) (semG0 (wo c) (off21_eq c hO))) $$ HR H; iintro H
    ihave H := (Entails.of_eq (show AgS I 0 c R 15 = _ from St_end c _ _ _ _)) $$ H
    icases H with ⟨HO, Hw⟩
    ihave Hi := (show _ ⊢ OwnOut I 0 c from Entails.of_eq (by unfold OwnOut; rw [Own_yes hO, Own_yes hO, Own_yes hO])) $$ [Hp Hw Ho]
    · isplitl [Hp]; · iassumption
      isplitl [Hw] <;> iassumption
  case' neg =>
    iapply (wp_else c (fun h => hO ((cond9_iff c).mp h)))
    ihave HO := (owes_idle 0 c hO R) $$ HO
    ihave Hi := (own_skip I 0 c hO) $$ Hi
  all_goals
    ihave H := (Entails.of_eq (show _ = GwS I 0 c R 0 from Wt_start c _ _ _)) $$ [HO Hg]
    · isplitl [HO] <;> iassumption
    iapply (gw_step I 0 c 0 (by decide) hG (show tw c 4#32 = 1#1 ↔ ow 0 ≠ c from v2w_iff c 0) (fun _ => credit_xb (ℓ := 0)) (fun _ => semG0 0 rfl)) $$ HR H; iintro H
    iapply (gw_step I 0 c 1 (by decide) hG (show tw c 5#32 = 1#1 ↔ ow 1 ≠ c from v2w_iff c 1) (fun _ => credit_xb (ℓ := 0)) (fun _ => semG0 1 rfl)) $$ HR H; iintro H
    iapply (gw_step I 0 c 2 (by decide) hG (show tw c 6#32 = 1#1 ↔ ow 2 ≠ c from v2w_iff c 2) (fun _ => credit_xb (ℓ := 0)) (fun _ => semG0 2 rfl)) $$ HR H; iintro H
    iapply (gw_step I 0 c 3 (by decide) hG (show tw c 7#32 = 1#1 ↔ ow 3 ≠ c from v2w_iff c 3) (fun _ => credit_xb (ℓ := 0)) (fun _ => semG0 3 rfl)) $$ HR H; iintro H
    iapply (gw_step I 0 c 4 (by decide) hG (show tw c 8#32 = 1#1 ↔ ow 4 ≠ c from v2w_iff c 4) (fun _ => credit_xb (ℓ := 0)) (fun _ => semG0 4 rfl)) $$ HR H; iintro H
    iapply (wp_done c)
    iapply HQ $$ H Hi

/-- The last reduced tiles awaited, and the first partial tiles away, in layer 0. -/
theorem part33 (c : Dev nD) {R : CellTallies nD τ sig ℕ} (hG : Abv (3 + 2 * (0 : Fin 2).val) R) (hS : Abv 0 R)  {Q} :
    Recs I ⊢ iprop(GwS I 0 c R 5 -∗ bigSep Finset.univ (swΦ (F := F) 0 c)
      -∗ (∀ a, SwS I 0 c R 6 -∗ bigSep Finset.univ (gwΨ I 0 c) -∗ Q a)
      -∗ WP c (on (k0_part33 (F := F)) c (v2w c) (tw c 9#32)) Q) := by
  iintro #HR H Hs HQ
  rw [k0_part33_eq_skeleton]; unfold on k0_part33_skel
  simp -zeta -zetaHave only [semSignalWord, semWaitWord, Prog.lift, Prog.bind_op, Prog.bind_ret, Prog.pure_eq_ret]
  iapply (gw_step I 0 c 5 (by decide) hG (show tw c 9#32 = 1#1 ↔ ow 5 ≠ c from v2w_iff c 5) (fun _ => credit_xb (ℓ := 0)) (fun _ => semG0 5 rfl)) $$ HR H; iintro H
  iapply (gw_step I 0 c 6 (by decide) hG (show tw c 10#32 = 1#1 ↔ ow 6 ≠ c from v2w_iff c 6) (fun _ => credit_xb (ℓ := 0)) (fun _ => semG0 6 rfl)) $$ HR H; iintro H
  iapply (gw_step I 0 c 7 (by decide) hG (show tw c 11#32 = 1#1 ↔ ow 7 ≠ c from v2w_iff c 7) (fun _ => credit_xb (ℓ := 0)) (fun _ => semG0 7 rfl)) $$ HR H; iintro H
  ihave H := (Entails.of_eq (show GwS I 0 c R 8 = _ from Wt_end c _ _ _)) $$ H
  icases H with ⟨HO, Hg⟩
  ihave H := (Entails.of_eq (show _ = SwS I 0 c R 0 from Wt_start c _ _ _)) $$ [HO Hs]
  · isplitl [HO] <;> iassumption
  iapply (sw_step I 0 c 0 (by decide) hS (cond18_iff c) (fun _ => credit_pb) (fun _ => semS 0 rfl)) $$ HR H; iintro H
  iapply (sw_step I 0 c 1 (by decide) hS (cond19_iff c) (fun _ => credit_pb) (fun _ => semS 1 rfl)) $$ HR H; iintro H
  iapply (sw_step I 0 c 2 (by decide) hS (cond20_iff c) (fun _ => credit_pb) (fun _ => semS 2 rfl)) $$ HR H; iintro H
  iapply (sw_step I 0 c 3 (by decide) hS (cond21_iff c) (fun _ => credit_pb) (fun _ => semS 3 rfl)) $$ HR H; iintro H
  iapply (sw_step I 0 c 4 (by decide) hS (cond22_iff c) (fun _ => credit_pb) (fun _ => semS 4 rfl)) $$ HR H; iintro H
  iapply (sw_step I 0 c 5 (by decide) hS (cond23_iff c) (fun _ => credit_pb) (fun _ => semS 5 rfl)) $$ HR H; iintro H
  iapply (wp_done c)
  iapply HQ $$ H Hg

/-- The first layer over: the second products, cut into tiles. -/
theorem part34 (c : Dev nD) {R : CellTallies nD τ sig ℕ} (hS : Abv 0 (R + DR 1 c)) (v2 : BitVec 32) (v5 : BitVec 1) (a : BitVec 32) {Q} :
    Recs I ⊢ iprop(SwS I 0 c (R + DR 1 c) 6 -∗ bigSep Finset.univ (gwΨ I 0 c) -∗ OwnOut I 0 c -∗ Need1 c
      -∗ owns (c : Thread nD τ) (Memref.whole cc0_stg3_0) fullShare ((I c).win 1) -∗ owns (c : Thread nD τ) (Memref.whole cc0_stg4_0) fullShare ((I c).wout 1)
      -∗ (∀ a, RsS I 1 c R 0 -∗ Own c (owns (c : Thread nD τ) (slot pb (wo c)) fullShare (tl (PP I (1 : Fin 2).val c) (wo c))) -∗ Left0 I c -∗ owns (c : Thread nD τ) (Memref.whole cc0_stg3_0) fullShare ((I c).win 1) -∗ owns (c : Thread nD τ) (Memref.whole cc0_stg4_0) fullShare ((I c).wout 1) -∗ Q a)
      -∗ WP c (on (k0_part34 (F := F)) c v2 v5 a) Q) := by
  unfold Need1 Left0
  iintro #HR H Hg Hi ⟨Hn0, Hn1, Hn2⟩ H3 H4 HQ
  rw [k0_part34_eq_skeleton]; unfold on k0_part34_skel
  simp -zeta -zetaHave only [semSignalWord, semWaitWord, Prog.lift, Prog.bind_op, Prog.bind_ret, Prog.pure_eq_ret]
  iapply (sw_step I 0 c 6 (by decide) hS (cond24_iff c) (fun _ => credit_pb) (fun _ => semS 6 rfl)) $$ HR H; iintro H
  iapply (sw_step I 0 c 7 (by decide) hS (cond25_iff c) (fun _ => credit_pb) (fun _ => semS 7 rfl)) $$ HR H; iintro H
  ihave H := (Entails.of_eq (show SwS I 0 c (R + DR 1 c) 8 = _ from Wt_end c _ _ _)) $$ H
  icases H with ⟨HO, Hs⟩
  ihave Hi := (show OwnOut I 0 c ⊢ _ from Entails.of_eq (by unfold OwnOut; rfl)) $$ Hi
  icases Hi with ⟨Hp, Hw, Ho⟩
  by_cases hO : isO c
  case' pos =>
    iapply (wp_then c ((cond26_iff c).mpr hO))
    ihave Hw := (Entails.of_eq (Own_yes hO _)) $$ Hw
    ihave H := (Entails.of_eq (show _ = AwS I 0 c (R + DR 1 c) 0 from Wt_start c _ _ _)) $$ [HO Hw]
    · isplitl [HO] <;> iassumption
    iapply (wp_seq c)
    iapply (part11 I c hO ((cond26_iff c).mpr hO) hS) $$ HR H; iintro %a H
    iapply (wp_seq c)
    iapply (part12 I c hO ((cond26_iff c).mpr hO) hS) $$ HR H; iintro %a H
    ihave H := (Entails.of_eq (show AwS I 0 c (R + DR 1 c) 15 = _ from Wt_end c _ _ _)) $$ H
    icases H with ⟨HO, Hw⟩
    ihave Hw := (Entails.of_eq (Own_yes hO (bigSep Finset.univ (awΨ I 0 c))).symm) $$ Hw
  case' neg =>
    iapply (wp_else c (fun h => hO ((cond26_iff c).mp h)))
    ihave Hw := (Own_mono c (P := bigSep Finset.univ (awΦ 0 c)) (Q := bigSep Finset.univ (awΨ I 0 c)) fun e => absurd e hO) $$ Hw
  all_goals
    ihave Hp := (sw_done I 0 c) $$ [Hs Hp]
    · isplitl [Hs] <;> iassumption
    icases Hp with ⟨Hp, HK⟩
    ihave Ho := (agout_split I 0 c) $$ Ho
    icases Ho with ⟨Ho, Hy, Hv⟩
    ihave Hx := (x_done I 0 c) $$ [Hg Hw Ho Hy]
    · isplitl [Hg]; · iassumption
      isplitl [Hw]; · iassumption
      isplitl [Ho] <;> iassumption
    icases Hx with ⟨Hx, Hka, Hkg, Hgy⟩
    ihave Hv := (rv_grant c) $$ Hv
    icases Hv with ⟨Hgx, Hkr⟩
    iapply (step_load_all c (Memref.whole cc0_scratch3) (Memref.isWhole_whole _) z2) $$ Hx; iintro Hx
    iapply (step_load_all c (Memref.whole cc0_stg3_0) (Memref.isWhole_whole _) z2) $$ H3; iintro H3
    iapply (step_load_all c (Memref.whole cc0_stg4_0) (Memref.isWhole_whole _) z2) $$ H4; iintro H4
    iapply (step_load_all c (Memref.whole cc0_scratch0) (Memref.isWhole_whole _) z2) $$ Hp; iintro Hp
    iapply (step_store_all c (Memref.whole cc0_scratch0) (Memref.isWhole_whole _) z2) $$ Hp; iintro Hp
    ihave Hp := (show owns (c : Thread nD τ) pb fullShare (k0_pay17 (asm (AA I (0 : Fin 2).val)) ((I c).win 1) ((I c).wout 1)) ⊢ owns (c : Thread nD τ) pb fullShare (PP I (1 : Fin 2).val c) from .rfl) $$ Hp
    ihave HK := (show KS (F := F) ((0 : Fin 2).val + 1) c ⊢ KS (1 : Fin 2).val c from .rfl) $$ HK
    ihave H := (rs_start I 1 c R) $$ [Hp HK Hn0 Hn1 Hn2 Hgx HO]
    · isplitl [Hp]; · iassumption
      isplitl [HK]; · iassumption
      isplitl [Hn0]; · iassumption
      isplitl [Hn1]; · iassumption
      isplitl [Hn2]; · iassumption
      isplitl [Hgx]; · iassumption
      iassumption
    icases H with ⟨H, Hp⟩
    iapply (wp_done c)
    iapply HQ $$ H Hp [Hx Hka Hkg Hkr] H3 H4
    · isplitl [Hx]; · iassumption
      isplitl [Hka]; · iassumption
      isplitl [Hkg]; · iassumption
      iassumption

end Cert.KernelIdealRun
-- ==== Proof.KernelIdealRun.Mid1.lean ====
/-
# The parts that join stages: the second layer and the last products
-/
module

public import proofs.«01_k».proof.Proof.KernelIdealRun.Mixed

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Dev nD → Inp F)

local notation "𝕄" => MT nD τ sig ℕ (Elt F) ℕ UU ℕ

/-- An owner's whole work on its tile, and the first reduced tiles awaited, in layer 1. -/
theorem part38 (c : Dev nD) {R : CellTallies nD τ sig ℕ} (hR : Abv 4 (R + DG 1 c)) (hG : Abv (3 + 2 * (1 : Fin 2).val) R) (v5 : BitVec 1) (v8 v290 v294 v298 v302 v306 v310 v314 v318 v322 v326 v330 v334 v338 v342 : BitVec 32) {Q} :
    Recs I ⊢ iprop(Owes c (R + DG 1 c) -∗ OwnIn I 1 c -∗ bigSep Finset.univ (gwΦ (F := F) 1 c)
      -∗ (GwS I 1 c R 4 -∗ OwnOut I 1 c -∗ Q 8#32)
      -∗ WP c (on (k0_part38 (F := F)) c (v2w c) v5 v8 v290 v294 v298 v302 v306 v310 v314 v318 v322 v326 v330 v334 v338 v342) Q) := by
  iintro #HR HO Hi Hg HQ
  rw [k0_part38_eq_skeleton]; unfold on k0_part38_skel
  simp -zeta -zetaHave only [semSignalWord, semWaitWord, Prog.lift, Prog.bind_op, Prog.bind_ret, Prog.pure_eq_ret]
  by_cases hO : isO c
  case' pos =>
    ihave Hi := (show OwnIn I 1 c ⊢ _ from Entails.of_eq (by unfold OwnIn; rw [Own_yes hO, Own_yes hO, Own_yes hO])) $$ Hi
    icases Hi with ⟨Hp, Hv, HA⟩
    iapply (wp_then c ((cond35_iff c).mpr hO))
    iapply (wp_seq c)
    ihave H := (Entails.of_eq (show _ = RvS I 1 c (R + DG 1 c) 0 from Wt_start c _ _ _)) $$ [HO Hv]
    · isplitl [HO] <;> iassumption
    iapply (part22 I c hO ((cond35_iff c).mpr hO) hR) $$ HR Hp H HA; iintro %a Hp H Ho
    iapply (ag_step I 1 c hO 14 (by decide) (Memref.whole cc0_scratch4) rfl (k0_dev61_eq c) (off53_eq c hO)
    (semA ⟨15, by decide⟩ rfl) (semG1 (wo c) (off52_eq c hO))) $$ HR H; iintro H
    ihave H := (Entails.of_eq (show AgS I 1 c R 15 = _ from St_end c _ _ _ _)) $$ H
    icases H with ⟨HO, Hw⟩
    ihave Hi := (show _ ⊢ OwnOut I 1 c from Entails.of_eq (by unfold OwnOut; rw [Own_yes hO, Own_yes hO, Own_yes hO])) $$ [Hp Hw Ho]
    · isplitl [Hp]; · iassumption
      isplitl [Hw] <;> iassumption
  case' neg =>
    iapply (wp_else c (fun h => hO ((cond35_iff c).mp h)))
    ihave HO := (owes_idle 1 c hO R) $$ HO
    ihave Hi := (own_skip I 1 c hO) $$ Hi
  all_goals
    ihave H := (Entails.of_eq (show _ = GwS I 1 c R 0 from Wt_start c _ _ _)) $$ [HO Hg]
    · isplitl [HO] <;> iassumption
    iapply (gw_step I 1 c 0 (by decide) hG (show tw c 4#32 = 1#1 ↔ ow 0 ≠ c from v2w_iff c 0) (fun _ => credit_xb (ℓ := 1)) (fun _ => semG1 0 rfl)) $$ HR H; iintro H
    iapply (gw_step I 1 c 1 (by decide) hG (show tw c 5#32 = 1#1 ↔ ow 1 ≠ c from v2w_iff c 1) (fun _ => credit_xb (ℓ := 1)) (fun _ => semG1 1 rfl)) $$ HR H; iintro H
    iapply (gw_step I 1 c 2 (by decide) hG (show tw c 6#32 = 1#1 ↔ ow 2 ≠ c from v2w_iff c 2) (fun _ => credit_xb (ℓ := 1)) (fun _ => semG1 2 rfl)) $$ HR H; iintro H
    iapply (gw_step I 1 c 3 (by decide) hG (show tw c 7#32 = 1#1 ↔ ow 3 ≠ c from v2w_iff c 3) (fun _ => credit_xb (ℓ := 1)) (fun _ => semG1 3 rfl)) $$ HR H; iintro H
    iapply (wp_done c)
    iapply HQ $$ H Hi

/-- The last reduced tiles awaited, and the first partial tiles away, in layer 1. -/
theorem part39 (c : Dev nD) {R : CellTallies nD τ sig ℕ} (hG : Abv (3 + 2 * (1 : Fin 2).val) R) (hS : Abv 0 R)  {Q} :
    Recs I ⊢ iprop(GwS I 1 c R 4 -∗ bigSep Finset.univ (swΦ (F := F) 1 c)
      -∗ (∀ a, SwS I 1 c R 4 -∗ bigSep Finset.univ (gwΨ I 1 c) -∗ Q a)
      -∗ WP c (on (k0_part39 (F := F)) c (v2w c) 8#32) Q) := by
  iintro #HR H Hs HQ
  rw [k0_part39_eq_skeleton]; unfold on k0_part39_skel
  simp -zeta -zetaHave only [semSignalWord, semWaitWord, Prog.lift, Prog.bind_op, Prog.bind_ret, Prog.pure_eq_ret]
  iapply (gw_step I 1 c 4 (by decide) hG (show tw c 8#32 = 1#1 ↔ ow 4 ≠ c from v2w_iff c 4) (fun _ => credit_xb (ℓ := 1)) (fun _ => semG1 4 rfl)) $$ HR H; iintro H
  iapply (gw_step I 1 c 5 (by decide) hG (show tw c 9#32 = 1#1 ↔ ow 5 ≠ c from v2w_iff c 5) (fun _ => credit_xb (ℓ := 1)) (fun _ => semG1 5 rfl)) $$ HR H; iintro H
  iapply (gw_step I 1 c 6 (by decide) hG (show tw c 10#32 = 1#1 ↔ ow 6 ≠ c from v2w_iff c 6) (fun _ => credit_xb (ℓ := 1)) (fun _ => semG1 6 rfl)) $$ HR H; iintro H
  iapply (gw_step I 1 c 7 (by decide) hG (show tw c 11#32 = 1#1 ↔ ow 7 ≠ c from v2w_iff c 7) (fun _ => credit_xb (ℓ := 1)) (fun _ => semG1 7 rfl)) $$ HR H; iintro H
  ihave H := (Entails.of_eq (show GwS I 1 c R 8 = _ from Wt_end c _ _ _)) $$ H
  icases H with ⟨HO, Hg⟩
  ihave H := (Entails.of_eq (show _ = SwS I 1 c R 0 from Wt_start c _ _ _)) $$ [HO Hs]
  · isplitl [HO] <;> iassumption
  iapply (sw_step I 1 c 0 (by decide) hS (cond44_iff c) (fun _ => credit_pb) (fun _ => semS 0 rfl)) $$ HR H; iintro H
  iapply (sw_step I 1 c 1 (by decide) hS (cond45_iff c) (fun _ => credit_pb) (fun _ => semS 1 rfl)) $$ HR H; iintro H
  iapply (sw_step I 1 c 2 (by decide) hS (cond46_iff c) (fun _ => credit_pb) (fun _ => semS 2 rfl)) $$ HR H; iintro H
  iapply (sw_step I 1 c 3 (by decide) hS (cond47_iff c) (fun _ => credit_pb) (fun _ => semS 3 rfl)) $$ HR H; iintro H
  iapply (wp_done c)
  iapply HQ $$ H Hg

/-- The second layer over. -/
theorem part40 (c : Dev nD) {R : CellTallies nD τ sig ℕ} (hS : Abv 0 R) (v2 : BitVec 32) (v5 : BitVec 1) (a : BitVec 32) {Q} :
    Recs I ⊢ iprop(SwS I 1 c R 4 -∗ bigSep Finset.univ (gwΨ I 1 c) -∗ OwnOut I 1 c -∗ owns (c : Thread nD τ) (Memref.whole cc0_stg5_0) fullShare ((I c).win 2)
      -∗ (Owes c R -∗ Left1 I c -∗ owns (c : Thread nD τ) (Memref.whole cc0_stg5_0) fullShare ((I c).win 2) -∗ Q (k0_pay18 (asm (AA I (1 : Fin 2).val)) ((I c).win 2)))
      -∗ WP c (on (k0_part40 (F := F)) c v2 v5 a) Q) := by
  unfold Left1
  iintro #HR H Hg Hi H5 HQ
  rw [k0_part40_eq_skeleton]; unfold on k0_part40_skel
  simp -zeta -zetaHave only [semSignalWord, semWaitWord, Prog.lift, Prog.bind_op, Prog.bind_ret, Prog.pure_eq_ret]
  iapply (sw_step I 1 c 4 (by decide) hS (cond48_iff c) (fun _ => credit_pb) (fun _ => semS 4 rfl)) $$ HR H; iintro H
  iapply (sw_step I 1 c 5 (by decide) hS (cond49_iff c) (fun _ => credit_pb) (fun _ => semS 5 rfl)) $$ HR H; iintro H
  iapply (sw_step I 1 c 6 (by decide) hS (cond50_iff c) (fun _ => credit_pb) (fun _ => semS 6 rfl)) $$ HR H; iintro H
  iapply (sw_step I 1 c 7 (by decide) hS (cond51_iff c) (fun _ => credit_pb) (fun _ => semS 7 rfl)) $$ HR H; iintro H
  ihave H := (Entails.of_eq (show SwS I 1 c R 8 = _ from Wt_end c _ _ _)) $$ H
  icases H with ⟨HO, Hs⟩
  ihave Hi := (show OwnOut I 1 c ⊢ _ from Entails.of_eq (by unfold OwnOut; rfl)) $$ Hi
  icases Hi with ⟨Hp, Hw, Ho⟩
  by_cases hO : isO c
  case' pos =>
    iapply (wp_then c ((cond52_iff c).mpr hO))
    ihave Hw := (Entails.of_eq (Own_yes hO _)) $$ Hw
    ihave H := (Entails.of_eq (show _ = AwS I 1 c R 0 from Wt_start c _ _ _)) $$ [HO Hw]
    · isplitl [HO] <;> iassumption
    iapply (wp_seq c)
    iapply (part23 I c hO ((cond52_iff c).mpr hO) hS) $$ HR H; iintro %a H
    iapply (wp_seq c)
    iapply (part24 I c hO ((cond52_iff c).mpr hO) hS) $$ HR H; iintro %a H
    ihave H := (Entails.of_eq (show AwS I 1 c R 15 = _ from Wt_end c _ _ _)) $$ H
    icases H with ⟨HO, Hw⟩
    ihave Hw := (Entails.of_eq (Own_yes hO (bigSep Finset.univ (awΨ I 1 c))).symm) $$ Hw
  case' neg =>
    iapply (wp_else c (fun h => hO ((cond52_iff c).mp h)))
    ihave Hw := (Own_mono c (P := bigSep Finset.univ (awΦ 1 c)) (Q := bigSep Finset.univ (awΨ I 1 c)) fun e => absurd e hO) $$ Hw
  all_goals
    ihave Hp := (sw_done I 1 c) $$ [Hs Hp]
    · isplitl [Hs] <;> iassumption
    icases Hp with ⟨Hp, HK⟩
    ihave Ho := (agout_split I 1 c) $$ Ho
    icases Ho with ⟨Ho, Hy, Hv⟩
    ihave Hx := (x_done I 1 c) $$ [Hg Hw Ho Hy]
    · isplitl [Hg]; · iassumption
      isplitl [Hw]; · iassumption
      isplitl [Ho] <;> iassumption
    icases Hx with ⟨Hx, Hka, Hkg, Hgy⟩
    iapply (step_load_all c (Memref.whole cc0_scratch4) (Memref.isWhole_whole _) z2) $$ Hx; iintro Hx
    iapply (step_load_all c (Memref.whole cc0_stg5_0) (Memref.isWhole_whole _) z2) $$ H5; iintro H5
    iapply (wp_done c)
    iapply HQ $$ HO [Hx Hka Hkg Hgy Hv Hp HK] H5
    · isplitl [Hx]; · iassumption
      isplitl [Hka]; · iassumption
      isplitl [Hkg]; · iassumption
      isplitl [Hgy]; · iassumption
      isplitl [Hv]; · iassumption
      isplitl [Hp]; · iassumption
      iassumption

/-- The last products, and the first tile of them sent. -/
theorem part41 (c : Dev nD) {R : CellTallies nD τ sig ℕ} (v2 : BitVec 32) {Q} :
    Recs I ⊢ iprop(Owes c (R + DF c) -∗ owns (c : Thread nD τ) pb fullShare (PP I (1 : Fin 2).val c) -∗ owns (c : Thread nD τ) (Memref.whole cc0_stg6_0) fullShare ((I c).wout 2)
      -∗ (bigSep Finset.univ fun r => grant (pr c r) c) -∗ (bigSep Finset.univ fun r : Fin 15 => Tok c (kA r.succ) (rA c) c) -∗ KA (rA c) c
      -∗ (bigSep Finset.univ fun r => Tok (pr c r) (kR 0 c) (rF (pr c r)) c)
      -∗ (∀ a, FsS I c R 1 -∗ owns (c : Thread nD τ) (slot pb (fw c)) (lf 0) (tl (P2 I c) (fw c)) -∗ Rest I c -∗ owns (c : Thread nD τ) (Memref.whole cc0_stg6_0) fullShare ((I c).wout 2) -∗ Q a)
      -∗ WP c (on (k0_part41 (F := F)) c v2 (k0_pay18 (asm (AA I (1 : Fin 2).val)) ((I c).win 2))) Q) := by
  iintro #HR HO Hp H6 Hg Ht Hk Hu HQ
  rw [k0_part41_eq_skeleton]; unfold on k0_part41_skel
  simp -zeta -zetaHave only [semSignalWord, semWaitWord, Prog.lift, Prog.bind_op, Prog.bind_ret, Prog.pure_eq_ret]
  iapply (step_load_all c (Memref.whole cc0_stg6_0) (Memref.isWhole_whole _) z2) $$ H6; iintro H6
  iapply (step_load_all c (Memref.whole cc0_scratch0) (Memref.isWhole_whole _) z2) $$ Hp; iintro Hp
  iapply (step_store_all c (Memref.whole cc0_scratch0) (Memref.isWhole_whole _) z2) $$ Hp; iintro Hp
  ihave Hp := (show owns (c : Thread nD τ) pb fullShare (k0_pay19 (k0_pay18 (asm (AA I (1 : Fin 2).val)) ((I c).win 2)) ((I c).wout 2)) ⊢ owns (c : Thread nD τ) pb fullShare (P2 I c) from .rfl) $$ Hp
  ihave H := (fs_start I c R) $$ [Hp Hg Ht Hk Hu HO]
  · isplitl [Hp]; · iassumption
    isplitl [Hg]; · iassumption
    isplitl [Ht]; · iassumption
    isplitl [Hk]; · iassumption
    isplitl [Hu]; · iassumption
    iassumption
  icases H with ⟨H, Hp, Hr⟩
  iapply (fs_step I c 0 (of_decide_eq_true rfl) (k0_dev62_eq c) (off65_eq c _) (k0_off64_eq c)
    (semA ⟨1, _⟩ rfl) (semR0 c (k0_off63_eq c))) $$ HR H; iintro H
  iapply (wp_done c)
  iapply HQ $$ H Hp Hr H6

/-- The last tile sent, and the device's own tile of the last products read. -/
theorem part52 (c : Dev nD) {R : CellTallies nD τ sig ℕ} (v2 v26 v820 a v821 : BitVec 32) {Q} :
    Recs I ⊢ iprop(FsS I c R 14 -∗ owns (c : Thread nD τ) (slot pb (fw c)) (lf 0) (tl (P2 I c) (fw c))
      -∗ (∀ a, Owes c R -∗ bigSep Finset.univ (fuΦ (F := F) c) -∗ owns (c : Thread nD τ) (slot pb (fw c)) (lf 0) (tl (P2 I c) (fw c)) -∗ Q ⟨tl (P2 I c) (fw c), a⟩)
      -∗ WP c (on (k0_part52 (F := F)) c v2 v26 v820 a v821) Q) := by
  iintro #HR H Hp HQ
  rw [k0_part52_eq_skeleton]; unfold on k0_part52_skel
  simp -zeta -zetaHave only [semSignalWord, semWaitWord, Prog.lift, Prog.bind_op, Prog.bind_ret, Prog.pure_eq_ret]
  iapply (fs_step I c 14 (of_decide_eq_true rfl) (k0_dev76_eq c) (off65_eq c _) (k0_off64_eq c)
    (semA ⟨15, _⟩ rfl) (semR0 c (k0_off63_eq c))) $$ HR H; iintro H
  ihave H := (Entails.of_eq (show FsS I c R 15 = _ from St_end c _ _ _ _)) $$ H
  icases H with ⟨HO, Hf⟩
  iapply (step_load_tile c pb (fw c) (off66_eq c)) $$ Hp; iintro Hp
  iapply (wp_done c)
  iapply HQ $$ HO Hf Hp

/-- The last tile received and added; the first of the tiles sent have left. -/
theorem part59 (c : Dev nD) (v1045 : FVec F S8x512 .f32) (v1047 : BitVec 32) {Q} :
    Recs I ⊢ iprop(FvS I c 0 14 -∗ bigSep Finset.univ (fuΦ (F := F) c)
      -∗ (FuS I c 0 5 -∗ bigSep Finset.univ (fvΨ I c) -∗ Q (k0_pay26 v1045 (sf I c 14 (by decide))))
      -∗ WP c (on (k0_part59 (F := F)) c v1045 v1047) Q) := by
  iintro #HR H Hf HQ
  rw [k0_part59_eq_skeleton]; unfold on k0_part59_skel
  simp -zeta -zetaHave only [semSignalWord, semWaitWord, Prog.lift, Prog.bind_op, Prog.bind_ret, Prog.pure_eq_ret]
  iapply (fv_wait I c 14 (by decide) (credit_rb (ℓ := 0)) (semR0 (pr c ⟨14, by decide⟩) (show k0_off67 c 15#32 = _ from k0_off67_eq c ⟨14, by decide⟩))) $$ HR H; iintro H
  iapply (fv_load I c 14 (by decide) 15 (by decide) (off := k0_off69 c 15#32) (k0_off69_eq c ⟨14, by decide⟩)) $$ H; iintro H
  ihave H := (Entails.of_eq (show FvS I c 0 15 = _ from Wt_end c _ _ _)) $$ H
  icases H with ⟨HO, Hv⟩
  ihave H := (Entails.of_eq (show _ = FuS I c 0 0 from Wt_start c _ _ _)) $$ [HO Hf]
  · isplitl [HO] <;> iassumption
  iapply (fu_step I c 0 (by decide) credit_pb (semA ⟨1, by decide⟩ rfl)) $$ HR H; iintro H
  iapply (fu_step I c 1 (by decide) credit_pb (semA ⟨2, by decide⟩ rfl)) $$ HR H; iintro H
  iapply (fu_step I c 2 (by decide) credit_pb (semA ⟨3, by decide⟩ rfl)) $$ HR H; iintro H
  iapply (fu_step I c 3 (by decide) credit_pb (semA ⟨4, by decide⟩ rfl)) $$ HR H; iintro H
  iapply (fu_step I c 4 (by decide) credit_pb (semA ⟨5, by decide⟩ rfl)) $$ HR H; iintro H
  iapply (wp_done c)
  iapply HQ $$ H Hv

end Cert.KernelIdealRun
-- ==== Proof.KernelIdealRun.BodyDefs.lean ====
/-
# What a device starts and ends the body with
-/
module

public import proofs.«01_k».proof.Proof.KernelIdealRun.Mid0
public import proofs.«01_k».proof.Proof.KernelIdealRun.Mid1

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Dev nD → Inp F)

local notation "𝕄" => MT nD τ sig ℕ (Elt F) ℕ UU ℕ

/-- The windows' contents, held throughout. -/
def Stgs (c : Dev nD) : sProp 𝕄 :=
  iprop(owns (c : Thread nD τ) (Memref.whole cc0_stg0_0) fullShare ((I c).x)
    ∗ owns (c : Thread nD τ) (Memref.whole cc0_stg1_0) fullShare ((I c).win 0)
    ∗ owns (c : Thread nD τ) (Memref.whole cc0_stg2_0) fullShare ((I c).wout 0)
    ∗ owns (c : Thread nD τ) (Memref.whole cc0_stg3_0) fullShare ((I c).win 1)
    ∗ owns (c : Thread nD τ) (Memref.whole cc0_stg4_0) fullShare ((I c).wout 1)
    ∗ owns (c : Thread nD τ) (Memref.whole cc0_stg5_0) fullShare ((I c).win 2)
    ∗ owns (c : Thread nD τ) (Memref.whole cc0_stg6_0) fullShare ((I c).wout 2))
/-- What the signals need. -/
def SigIn (c : Dev nD) : sProp 𝕄 :=
  iprop(some1 c (rb 0) ∗ some1 c (rb 1) ∗ some1 c (xb 0) ∗ some1 c (xb 1)
    ∗ (bigSep Finset.univ fun r => dutyTok ER (cell (pr c r) (.inl ())) 0 c) ∗ Owes c (O₀ c))
/-- What layer `ℓ` needs from the start. -/
def Lay (ℓ : Fin 2) (c : Dev nD) : sProp 𝕄 :=
  iprop(bigSep Finset.univ (gwΦ (F := F) ℓ c) ∗ Own c (bigSep Finset.univ (rvΦ (F := F) ℓ c)) ∗ Nwn c (bigSep Finset.univ fun r => At c (kR ℓ (pr c r)) 0)
    ∗ Own c (bigSep Finset.univ fun r : Fin 15 => Tok c (kA r.succ) ℓ c) ∗ Own c (bigSep Finset.univ fun r => Tok (pr c r) (kG ℓ (wo c)) 0 c))
/-- The second layer's tokens. -/
def Lay1 (c : Dev nD) : sProp 𝕄 :=
  iprop((bigSep Finset.univ fun w => Un c w (Tok c (kS w) (1 : Fin 2).val c)) ∗ (bigSep Finset.univ fun w => Un c w (Tok (ow w) (kR 1 c) 0 c)))
/-- What the last stage needs from the start. -/
def LayF (c : Dev nD) : sProp 𝕄 :=
  iprop(KA 0 c ∗ (bigSep Finset.univ fun r : Fin 15 => Tok c (kA r.succ) (rA c) c)
    ∗ (bigSep Finset.univ fun r => Tok (pr c r) (kR 0 c) (rF (pr c r)) c) ∗ (bigSep Finset.univ fun r => Cr c (kR 0 (pr c r)) 1))
/-- Everything a device starts the body with, but for its staged result. -/
def Start (c : Dev nD) : sProp 𝕄 := iprop(SigIn c ∗ Need0 c ∗ Stgs I c ∗ Lay 0 c ∗ Lay 1 c ∗ Lay1 c ∗ LayF c)
/-- What is left when the last tiles are on their way out. -/
def Aft (c : Dev nD) : sProp 𝕄 :=
  iprop(owns (c : Thread nD τ) (slot pb (fw c)) (lf 0) (tl (P2 I c) (fw c)) ∗ Rest I c ∗ bigSep Finset.univ (fvΨ I c) ∗ some1 c (slot (rb 0) c)
    ∗ Own c (bigSep Finset.univ (rvK (F := F) 1 c)) ∗ Idle c ∗ Nwn c (bigSep Finset.univ fun r => At c (kR 1 (pr c r)) 0)
    ∗ owns (c : Thread nD τ) (xb 0) fullShare (asm (AA I (0 : Fin 2).val)) ∗ owns (c : Thread nD τ) (xb 1) fullShare (asm (AA I (1 : Fin 2).val))
    ∗ (bigSep Finset.univ fun w => At c (kG 0 w) (if ow w = c then 0 else 1)) ∗ (bigSep Finset.univ fun w => At c (kG 1 w) (if ow w = c then 0 else 1))
    ∗ KS ((1 : Fin 2).val + 1) c ∗ atPos ER (cell c (.inl ())) 1 ∅ 0 ∗ Stgs I c)
/-- What the body leaves: the windows as they were, the buffers whole, and every cell at its last round. -/
def Final (c : Dev nD) : sProp 𝕄 :=
  iprop(Stgs I c ∗ (some1 c pb ∗ some1 c (rb 0) ∗ some1 c (rb 1) ∗ some1 c (xb 0) ∗ some1 c (xb 1)) ∗ atPos ER (cell c (.inl ())) 1 ∅ 0
    ∗ KS ((1 : Fin 2).val + 1) c ∗ (bigSep Finset.univ fun r : Fin 15 => At c (kA r.succ) (rA c + 1))
    ∗ (bigSep Finset.univ fun r => At c (kR 0 (pr c r)) (rF c + 1)) ∗ (bigSep Finset.univ fun r => At c (kR 1 (pr c r)) (rF c))
    ∗ (bigSep Finset.univ fun w => At c (kG 0 w) (if ow w = c then 0 else 1)) ∗ (bigSep Finset.univ fun w => At c (kG 1 w) (if ow w = c then 0 else 1)))

/-- The last buffers and positions, put together. -/
theorem aft_final (c : Dev nD) : iprop(bigSep Finset.univ (fuΨ I c) ∗ Aft I c) ⊢ Final I c := by
  unfold Aft Final
  iintro ⟨Hu, Hl, Hr, Hv, H0, Hk, Hi, Hn, Hx0, Hx1, Hg0, Hg1, HK, Hb, HS⟩
  ihave Hu := (fu_done I c) $$ [Hu Hl Hr]
  · isplitl [Hu]; · iassumption
    isplitl [Hl] <;> iassumption
  icases Hu with ⟨Hp, HA⟩
  ihave Hv := (fv_done I c) $$ [Hv H0]
  · isplitl [Hv] <;> iassumption
  icases Hv with ⟨H0, HR⟩
  ihave Hk := (rb1_done c) $$ [Hk Hi Hn]
  · isplitl [Hk]; · iassumption
    isplitl [Hi] <;> iassumption
  icases Hk with ⟨H1, HR1⟩
  ihave Hx0 := (owns_some1 c (xb 0) _) $$ Hx0
  ihave Hx1 := (owns_some1 c (xb 1) _) $$ Hx1
  isplitl [HS]; · iassumption
  isplitl [Hp H0 H1 Hx0 Hx1]
  · isplitl [Hp]; · iassumption
    isplitl [H0]; · iassumption
    isplitl [H1]; · iassumption
    isplitl [Hx0]; · iassumption
    iassumption
  isplitl [Hb]; · iassumption
  isplitl [HK]; · iassumption
  isplitl [HA]; · iassumption
  isplitl [HR]; · iassumption
  isplitl [HR1]; · iassumption
  isplitl [Hg0]; · iassumption
  iassumption

/-- The layer's tokens and positions, as an owner brings them. -/
theorem agin_join (ℓ : Fin 2) (c : Dev nD) : iprop(Own c (some1 c (slot (xb ℓ) (wo c))) ∗ Own c (bigSep Finset.univ fun r => some1 (pr c r) (slot (xb ℓ) (wo c)))
    ∗ Own c (bigSep Finset.univ fun r : Fin 15 => Tok c (kA r.succ) ℓ c) ∗ Own c (bigSep Finset.univ fun r => Tok (pr c r) (kG ℓ (wo c)) 0 c) ∗ Own c (KA ℓ.val c))
    ⊢ Own c (Agin (F := F) ℓ c) := by
  unfold Agin; rw [Own_sep, Own_sep, Own_sep, Own_sep]

/-- What a device sums at the last is its tile of the last sum. -/
theorem red_fin (c : Dev nD) :
    k0_pay26 (k0_pay25 (k0_pay24 (k0_pay23 (k0_pay22 (k0_pay21 (k0_pay20 (tl (P2 I c) (fw c)) (sf I c 0 (by decide)) (sf I c 1 (by decide))) (sf I c 2 (by decide))
      (sf I c 3 (by decide)) (sf I c 4 (by decide))) (sf I c 5 (by decide)) (sf I c 6 (by decide))) (sf I c 7 (by decide)) (sf I c 8 (by decide)))
      (sf I c 9 (by decide)) (sf I c 10 (by decide)) (sf I c 11 (by decide))) (sf I c 12 (by decide)) (sf I c 13 (by decide))) (sf I c 14 (by decide)) = RR I c := rfl

/-- The last stage's waits start. -/
theorem fv_begin (c : Dev nD) : iprop(Owes c 0 ∗ (bigSep Finset.univ fun r => Cr c (kR 0 (pr c r)) 1) ∗ Own c (bigSep Finset.univ fun r => At c (kR 0 (pr c r)) 1)
    ∗ Nwn c (bigSep Finset.univ fun r => At c (kR 0 (pr c r)) 0)) ⊢ FvS I c 0 0 := by
  rw [own_join c (fun n => bigSep Finset.univ fun r => At c (kR 0 (pr c r)) n) 1 0 (rF c) rF_owner rF_other, ← bigSep_sep']
  exact Entails.of_eq (Wt_start c _ _ _)

end Cert.KernelIdealRun
-- ==== Proof.KernelIdealRun.Body.lean ====
/-
# The body of the kernel
-/
module

public import proofs.«01_k».proof.Proof.KernelIdealRun.BodyDefs

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Dev nD → Inp F)

local notation "𝕄" => MT nD τ sig ℕ (Elt F) ℕ UU ℕ

/-- The body up to the last sends leaving. -/
theorem part61 (c : Dev nD) {Q} :
    Recs I ⊢ iprop(Start I c -∗ (FuS I c 0 14 -∗ Aft I c -∗ Q ⟨c, v2w c, RR I c⟩) -∗ WP c (on (k0_part61 (F := F))) Q) := by
  have abv2 : Abv 4 (DF c + DG 1 c) := Abv.add ((abv_DF c).mono (by decide)) (abv_DG 1 c)
  have abv3 : Abv 3 (DF c + DG 1 c + DR 1 c) := Abv.add (abv2.mono (by decide)) (abv_DR 1 c)
  have abv4 : Abv 2 (DF c + DG 1 c + DR 1 c + DG 0 c) := Abv.add (abv3.mono (by decide)) (abv_DG 0 c)
  have abv5 : Abv 1 (DF c + DG 1 c + DR 1 c + DG 0 c + DR 0 c) := Abv.add (abv4.mono (by decide)) (abv_DR 0 c)
  unfold Start Aft Stgs SigIn Lay Lay1 LayF
  iintro #HR ⟨⟨Hr0, Hr1, Hy0, Hy1, Hto, HO⟩, HN, ⟨H0, H1, H2, H3, H4, H5, H6⟩, ⟨Hg0, Hv0, Hn0, Hta0, Htg0⟩, ⟨Hg1, Hv1, Hn1, Hta1, Htg1⟩, ⟨Hts, Htr⟩, ⟨Hka, Htf, Htg, Hcf⟩⟩ HQ
  ihave HO := (show Owes (F := F) c (O₀ c) ⊢ Owes c (DF c + DG 1 c + DR 1 c + DG 0 c + DR 0 c + DB c) from .rfl) $$ HO
  ihave H := (sig_start (F := F) c (DF c + DG 1 c + DR 1 c + DG 0 c + DR 0 c)) $$ [Hr0 Hr1 Hy0 Hy1 Hto HO]
  · isplitl [Hr0]; · iassumption
    isplitl [Hr1]; · iassumption
    isplitl [Hy0]; · iassumption
    isplitl [Hy1]; · iassumption
    isplitl [Hto]; · iassumption
    iassumption
  icases H with ⟨H, Hrb, Hid, Hx0o, Hx1o⟩
  ihave Hka := (Entails.of_eq (own_or c (KA (F := F) 0 c))) $$ Hka
  icases Hka with ⟨Hka, Hkan⟩
  ihave Hka := (show Own c (KA (F := F) 0 c) ⊢ Own c (KA (0 : Fin 2).val c) from .rfl) $$ Hka
  rw [k0_part61_eq_skeleton]; unfold on k0_part61_skel
  simp -zeta -zetaHave only [semSignalWord, semWaitWord, Prog.lift, Prog.bind_op, Prog.bind_ret, Prog.pure_eq_ret]
  iapply (wp_seq c)
  iapply (part25 I c) $$ HR H; iintro %v5 %v8 %v26 %v33 %a H
  iapply (wp_seq c)
  iapply (part26 I c) $$ HR H; iintro %a H
  iapply (wp_seq c)
  iapply (part27 I c) $$ HR H; iintro %a H
  iapply (wp_seq c)
  iapply (part28 I c abv5) $$ HR H HN H0 H1 H2; iintro %a H Hp HL H0 H1 H2
  ihave HL := (show Left (F := F) c ⊢ _ from Entails.of_eq (by unfold Left; rfl)) $$ HL
  icases HL with ⟨Hb, Hbn, Hb1, Hx0s, Hx1s⟩
  iapply (wp_seq c)
  iapply (part29 I c) $$ HR H; iintro %a H
  ihave H := (Entails.of_eq (show RsS I 0 c (DF c + DG 1 c + DR 1 c + DG 0 c) 8 = _ from St_end c _ _ _ _)) $$ H
  icases H with ⟨HO, Hs⟩
  iapply (wp_seq c)
  iapply (part30 c); iintro %a
  iapply (wp_seq c)
  iapply (part31 c); iintro %a
  ihave HA := (agin_join 0 c) $$ [Hx0o Hx0s Hta0 Htg0 Hka]
  · isplitl [Hx0o]; · iassumption
    isplitl [Hx0s]; · iassumption
    isplitl [Hta0]; · iassumption
    isplitl [Htg0]; · iassumption
    iassumption
  ihave Hi := (show _ ⊢ OwnIn I 0 c from Entails.of_eq (by unfold OwnIn; rfl)) $$ [Hp Hv0 HA]
  · isplitl [Hp]; · iassumption
    isplitl [Hv0]; · iassumption
    iassumption
  iapply (wp_seq c)
  iapply (part32 I c abv4 abv3) $$ HR HO Hi Hg0; iintro H Hi
  iapply (wp_seq c)
  iapply (part33 I c abv3 (abv3.mono (by decide))) $$ HR H Hs; iintro %a H Hg
  ihave HN := (show _ ⊢ Need1 (F := F) c from Entails.of_eq (by unfold Need1; rfl)) $$ [Hts Htr Hb1]
  · isplitl [Hts]; · iassumption
    isplitl [Htr]; · iassumption
    iassumption
  iapply (wp_seq c)
  iapply (part34 I c (abv3.mono (by decide))) $$ HR H Hg Hi HN H3 H4; iintro %a H Hp HL H3 H4
  ihave HL := (show Left0 I c ⊢ _ from Entails.of_eq (by unfold Left0; rfl)) $$ HL
  icases HL with ⟨Hx0, Hka, Hkg0, Hkr⟩
  iapply (wp_seq c)
  iapply (part35 I c) $$ HR H; iintro %a H
  iapply (wp_seq c)
  iapply (part36 I c) $$ HR H; iintro %a H
  ihave H := (Entails.of_eq (show RsS I 1 c (DF c + DG 1 c) 8 = _ from St_end c _ _ _ _)) $$ H
  icases H with ⟨HO, Hs⟩
  ihave Hka := (show Own c (KA (F := F) ((0 : Fin 2).val + 1) c) ⊢ Own c (KA (1 : Fin 2).val c) from .rfl) $$ Hka
  iapply (wp_seq c)
  iapply (part37 c); iintro %a
  ihave HA := (agin_join 1 c) $$ [Hx1o Hx1s Hta1 Htg1 Hka]
  · isplitl [Hx1o]; · iassumption
    isplitl [Hx1s]; · iassumption
    isplitl [Hta1]; · iassumption
    isplitl [Htg1]; · iassumption
    iassumption
  ihave Hi := (show _ ⊢ OwnIn I 1 c from Entails.of_eq (by unfold OwnIn; rfl)) $$ [Hp Hv1 HA]
  · isplitl [Hp]; · iassumption
    isplitl [Hv1]; · iassumption
    iassumption
  iapply (wp_seq c)
  iapply (part38 I c abv2 (abv_DF c)) $$ HR HO Hi Hg1; iintro H Hi
  iapply (wp_seq c)
  iapply (part39 I c (abv_DF c) ((abv_DF c).mono (by decide))) $$ HR H Hs; iintro %a H Hg
  iapply (wp_seq c)
  iapply (part40 I c ((abv_DF c).mono (by decide))) $$ HR H Hg Hi H5; iintro HO HL H5
  ihave HL := (show Left1 I c ⊢ _ from Entails.of_eq (by unfold Left1; rfl)) $$ HL
  icases HL with ⟨Hx1, Hka, Hkg1, Hgy, Hrk, Hp, HK⟩
  ihave Hgr := (grants I c) $$ HR Hgy Hbn
  ihave Hka := (Entails.of_eq (own_join c (fun n => KA (F := F) n c) ((1 : Fin 2).val + 1) 0 (rA c) rA_owner rA_other)) $$ [Hka Hkan]
  · isplitl [Hka] <;> iassumption
  ihave HO := (show Owes (F := F) c (DF c) ⊢ Owes c (0 + DF c) from Entails.of_eq (by rw [zero_add])) $$ HO
  iapply (wp_seq c)
  iapply (part41 I c) $$ HR HO Hp H6 Hgr Htf Hka Htg; iintro %a H Hp Hr H6
  iapply (wp_seq c)
  iapply (part42 I c) $$ HR H; iintro %a H
  iapply (wp_seq c)
  iapply (part43 I c) $$ HR H; iintro %a H
  iapply (wp_seq c)
  iapply (part44 I c) $$ HR H; iintro %a H
  iapply (wp_seq c)
  iapply (part45 I c) $$ HR H; iintro %a H
  iapply (wp_seq c)
  iapply (part46 I c) $$ HR H; iintro %a H
  iapply (wp_seq c)
  iapply (part47 I c) $$ HR H; iintro %a H
  iapply (wp_seq c)
  iapply (part48 I c) $$ HR H; iintro %a H
  iapply (wp_seq c)
  iapply (part49 I c) $$ HR H; iintro %a H
  iapply (wp_seq c)
  iapply (part50 I c) $$ HR H; iintro %a H
  iapply (wp_seq c)
  iapply (part51 I c) $$ HR H; iintro %a H
  iapply (wp_seq c)
  iapply (part52 I c) $$ HR H Hp; iintro %a HO Hf Hp
  ihave H := (fv_begin I c) $$ [HO Hcf Hkr Hn0]
  · isplitl [HO]; · iassumption
    isplitl [Hcf]; · iassumption
    isplitl [Hkr]; · iassumption
    iassumption
  iapply (wp_seq c)
  iapply (part53 I c) $$ HR H; iintro H
  iapply (wp_seq c)
  iapply (part54 I c) $$ HR H; iintro %a %a H
  iapply (wp_seq c)
  iapply (part55 I c) $$ HR H; iintro %a H
  iapply (wp_seq c)
  iapply (part56 I c) $$ HR H; iintro H
  iapply (wp_seq c)
  iapply (part57 I c) $$ HR H; iintro %a %a H
  iapply (wp_seq c)
  iapply (part58 I c) $$ HR H; iintro %a H
  iapply (wp_seq c)
  iapply (part59 I c) $$ HR H Hf; iintro H Hv
  iapply (wp_seq c)
  iapply (part60 I c) $$ HR H; iintro %a H
  iapply (fu_step I c 11 (by decide) credit_pb (semA ⟨12, by decide⟩ rfl)) $$ HR H; iintro H
  iapply (fu_step I c 12 (by decide) credit_pb (semA ⟨13, by decide⟩ rfl)) $$ HR H; iintro H
  iapply (fu_step I c 13 (by decide) credit_pb (semA ⟨14, by decide⟩ rfl)) $$ HR H; iintro H
  iapply (wp_done c)
  rw [red_fin]
  iapply HQ $$ H [Hp Hr Hv Hrb Hrk Hid Hn1 Hx0 Hx1 Hkg0 Hkg1 HK Hb H0 H1 H2 H3 H4 H5 H6]
  · isplitl [Hp]; · iassumption
    isplitl [Hr]; · iassumption
    isplitl [Hv]; · iassumption
    isplitl [Hrb]; · iassumption
    isplitl [Hrk]; · iassumption
    isplitl [Hid]; · iassumption
    isplitl [Hn1]; · iassumption
    isplitl [Hx0]; · iassumption
    isplitl [Hx1]; · iassumption
    isplitl [Hkg0]; · iassumption
    isplitl [Hkg1]; · iassumption
    isplitl [HK]; · iassumption
    isplitl [Hb]; · iassumption
    isplitl [H0]; · iassumption
    isplitl [H1]; · iassumption
    isplitl [H2]; · iassumption
    isplitl [H3]; · iassumption
    isplitl [H4]; · iassumption
    isplitl [H5]; · iassumption
    iassumption

/-- The kernel's body on device `c`. -/
theorem body (c : Dev nD) {Q} :
    Recs I ⊢ iprop(Start I c -∗ some1 c (Memref.whole cc0_stg7_0 : Memref sig .tc .vmem S4x512 .f32)
      -∗ (Owes c 0 -∗ Final I c -∗ owns (c : Thread nD τ) (Memref.whole cc0_stg7_0) fullShare (res I c) -∗ Q ⟨⟩) -∗ WP c (on (cc0_body (F := F))) Q) := by
  iintro #HR HS H7 HQ
  rw [cc0_body_eq_skeleton]; unfold on cc0_body_skel
  simp -zeta -zetaHave only [semSignalWord, semWaitWord, Prog.lift, Prog.bind_op, Prog.bind_ret, Prog.pure_eq_ret]
  iapply (wp_seq c)
  iapply (part61 I c) $$ HR HS; iintro H HA
  iapply (fu_step I c 14 (by decide) credit_pb (semA ⟨15, by decide⟩ rfl)) $$ HR H; iintro H
  ihave H := (Entails.of_eq (show FuS I c 0 15 = _ from Wt_end c _ _ _)) $$ H
  icases H with ⟨HO, Hu⟩
  ihave HF := (aft_final I c) $$ [Hu HA]
  · isplitl [Hu] <;> iassumption
  ihave H7 := (show some1 c (Memref.whole cc0_stg7_0 : Memref sig .tc .vmem S4x512 .f32) ⊢ iprop(∃ X, owns (c : Thread nD τ) (Memref.whole cc0_stg7_0 : Memref sig .tc .vmem S4x512 .f32) fullShare X) from .rfl) $$ H7
  icases H7 with ⟨%X, H7⟩
  iapply (step_load_all c (Memref.whole cc0_stg7_0) (Memref.isWhole_whole _) z2) $$ H7; iintro H7
  iapply (step_store_all c (Memref.whole cc0_stg7_0) (Memref.isWhole_whole _) z2) $$ H7; iintro H7
  iapply (wp_done c)
  ihave H7 := (show owns (c : Thread nD τ) (Memref.whole cc0_stg7_0 : Memref sig .tc .vmem S4x512 .f32) fullShare (k0_pay1 (v2w c) (RR I c)) ⊢ owns (c : Thread nD τ) (Memref.whole cc0_stg7_0) fullShare (res I c) from .rfl) $$ H7
  iapply HQ $$ HO HF H7

end Cert.KernelIdealRun
-- ==== Proof.KernelIdealRun.Deal.lean ====
/-
# What a launch deals each device: cells, tokens, positions
-/
module

public import proofs.«01_k».proof.Proof.KernelIdealRun.BodyDefs

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Dev nD → Inp F)

local notation "𝕄" => MT nD τ sig ℕ (Elt F) ℕ UU ℕ

/-- A device's cell, as a pair names it. -/
def cellOf' (g : Dev nD × CK) : GSem nD τ sig := cell g.1 g.2
theorem cellOf'_inj : Function.Injective cellOf' := by
  rintro ⟨c, k⟩ ⟨c', k'⟩ h
  obtain ⟨h1, h2⟩ := cell_inj h
  exact Prod.ext h1 h2
/-- Every cell. -/
def allCells : Finset (GSem nD τ sig) := Finset.univ.map ⟨cellOf', cellOf'_inj⟩

/-- What a device pays for: the barriers; its send cells, twice; its gather cells, three times; its peers' landing cells
    of the first layer, twice, and of the second; its peers' gather cells. -/
abbrev Pays := Fin 15 ⊕ (Fin 8 × Fin 2) ⊕ (Fin 15 × Fin 3) ⊕ (Fin 15 × Fin 2) ⊕ Fin 15 ⊕ (Fin 15 × Fin 2)

/-- The cell and the round of a payment of device `c`. -/
def payAt (c : Dev nD) : Pays → (Dev nD × CK) × ℕ
  | .inl r => ((pr c r, .inl ()), 0)
  | .inr (.inl (w, n)) => ((c, .inr (kS w)), n.val)
  | .inr (.inr (.inl (r, n))) => ((c, .inr (kA r.succ)), n.val)
  | .inr (.inr (.inr (.inl (r, n)))) => ((pr c r, .inr (kR 0 c)), n.val)
  | .inr (.inr (.inr (.inr (.inl r)))) => ((pr c r, .inr (kR 1 c)), 0)
  | .inr (.inr (.inr (.inr (.inr (r, ℓ))))) => ((pr c r, .inr (kG ℓ (wo c))), 0)

theorem payAt_inj (c : Dev nD) : Function.Injective (payAt c) := by
  rintro (r | ⟨w, n⟩ | ⟨r, n⟩ | ⟨r, n⟩ | r | ⟨r, ℓ⟩) (r' | ⟨w', n'⟩ | ⟨r', n'⟩ | ⟨r', n'⟩ | r' | ⟨r', ℓ'⟩) h <;>
    simp only [payAt, kS, kA, kR, kG, Prod.mk.injEq, Sum.inr.injEq, Sum.inl.injEq, reduceCtorEq, and_false, false_and, and_true, true_and, Fin.succ_inj] at h
  · rw [pr_inj c r r' h]
  · rw [h.1, Fin.ext h.2]
  · rw [h.1, Fin.ext h.2]
  · rw [pr_inj c r r' h.1, Fin.ext h.2]
  · exact absurd h.1.2 (by decide)
  · exact absurd h.1.2 (by decide)
  · rw [pr_inj c r r' h]
  · rw [pr_inj c r r' h.1, h.2]

/-- A payment's token: the cell, the round, the payer. -/
def tokAt (x : Dev nD × Pays) : GSem nD τ sig × ℕ × Dev nD := (cellOf' (payAt x.1 x.2).1, (payAt x.1 x.2).2, x.1)
theorem tokAt_inj : Function.Injective tokAt := by
  rintro ⟨c, j⟩ ⟨c', j'⟩ h
  have hc : c = c' := congrArg (fun x : GSem nD τ sig × ℕ × Dev nD => x.2.2) h
  subst hc
  have h1 := cellOf'_inj (congrArg (fun x : GSem nD τ sig × ℕ × Dev nD => x.1) h)
  have h2 := congrArg (fun x : GSem nD τ sig × ℕ × Dev nD => x.2.1) h
  exact congrArg (Prod.mk c) (payAt_inj c (Prod.ext h1 h2))
/-- Every token. -/
def allToks : Finset (GSem nD τ sig × ℕ × Dev nD) := Finset.univ.map ⟨tokAt, tokAt_inj⟩

/-- The tokens device `c` pays with. -/
def toks (c : Dev nD) : sProp 𝕄 := bigSep Finset.univ fun j : Pays => dutyTok ER (cell (payAt c j).1.1 (payAt c j).1.2) (payAt c j).2 c
/-- A device's positions, at the rounds `n`. -/
def poss (n : CK → ℕ) (c : Dev nD) : sProp 𝕄 := bigSep Finset.univ fun k : CK => atPos ER (cell c k) (n k) ∅ 0

/-- The three positions no transfer ever moves. -/
def Stay (c : Dev nD) : sProp 𝕄 := iprop(At c (kA 0) 0 ∗ At c (kR 0 c) 0 ∗ At c (kR 1 c) 0)

theorem bigSep_two (Φ : Fin 2 → sProp 𝕄) : bigSep Finset.univ Φ = iprop(Φ 0 ∗ Φ 1) := bigSep_univ_eq_bigSepL [0, 1] (by decide) (by decide) Φ
theorem bigSep_three (Φ : Fin 3 → sProp 𝕄) : bigSep Finset.univ Φ = iprop(Φ 0 ∗ Φ 1 ∗ Φ 2) := bigSep_univ_eq_bigSepL [0, 1, 2] (by decide) (by decide) Φ
theorem bigSep_one (Φ : Unit → sProp 𝕄) : bigSep Finset.univ Φ = Φ () := bigSep_univ_eq_bigSepL [()] (by decide) (by decide) Φ

/-- All the cells of a device, kind by kind. -/
theorem kinds (c : Dev nD) (Φ : CK → sProp 𝕄) : bigSep Finset.univ Φ
    = iprop(Φ (.inl ()) ∗ (bigSep Finset.univ fun w => Φ (.inr (kS w))) ∗ (Φ (.inr (kA 0)) ∗ bigSep Finset.univ fun r : Fin 15 => Φ (.inr (kA r.succ)))
      ∗ ((Φ (.inr (kR 0 c)) ∗ bigSep Finset.univ fun r => Φ (.inr (kR 0 (pr c r)))) ∗ (Φ (.inr (kR 1 c)) ∗ bigSep Finset.univ fun r => Φ (.inr (kR 1 (pr c r)))))
      ∗ (bigSep Finset.univ fun w => Φ (.inr (kG 0 w))) ∗ bigSep Finset.univ fun w => Φ (.inr (kG 1 w))) := by
  rw [bigSep_univ_sum, bigSep_univ_sum, bigSep_univ_sum, bigSep_univ_sum, bigSep_univ_prod, bigSep_univ_prod, bigSep_two, bigSep_two, bigSep_sixteen, bigSep_dev c, bigSep_dev c, bigSep_one]
  rfl

/-- All the tokens of a device, kind by kind. -/
theorem toks_kinds (c : Dev nD) : (toks c : sProp 𝕄)
    = iprop((bigSep Finset.univ fun r => dutyTok ER (cell (pr c r) (.inl ())) 0 c)
      ∗ (bigSep Finset.univ fun w => iprop(Tok c (kS w) (0 : Fin 2).val c ∗ Tok c (kS w) (1 : Fin 2).val c))
      ∗ (bigSep Finset.univ fun r : Fin 15 => iprop(Tok c (kA r.succ) (0 : Fin 3).val c ∗ Tok c (kA r.succ) (1 : Fin 3).val c ∗ Tok c (kA r.succ) (2 : Fin 3).val c))
      ∗ (bigSep Finset.univ fun r => iprop(Tok (pr c r) (kR 0 c) (0 : Fin 2).val c ∗ Tok (pr c r) (kR 0 c) (1 : Fin 2).val c))
      ∗ (bigSep Finset.univ fun r => Tok (pr c r) (kR 1 c) 0 c)
      ∗ (bigSep Finset.univ fun r => iprop(Tok (pr c r) (kG 0 (wo c)) 0 c ∗ Tok (pr c r) (kG 1 (wo c)) 0 c))) := by
  unfold toks
  rw [bigSep_univ_sum, bigSep_univ_sum, bigSep_univ_sum, bigSep_univ_sum, bigSep_univ_sum, bigSep_univ_prod, bigSep_univ_prod, bigSep_univ_prod, bigSep_univ_prod]
  simp only [bigSep_two, bigSep_three]
  rfl

theorem un_drop (c : Dev nD) (Φ : Fin 8 → sProp 𝕄) : bigSep Finset.univ Φ ⊢ bigSep Finset.univ fun w => Un c w (Φ w) := by
  rw [tiles_un c Φ]; iintro ⟨-, H⟩; iexact H
theorem own_drop (c : Dev nD) (P : sProp 𝕄) : P ⊢ Own c P := by
  rw [own_or c P]; by_cases h : isO c
  · rw [Own_yes h, Nwn_yes h, emp_r, Own_yes h]
  · rw [Own_no h, Nwn_no h, emp_l, Own_no h]; iintro -; iempintro
theorem peers_drop (c : Dev nD) (Φ : Dev nD → sProp 𝕄) : (bigSep Finset.univ fun r => Φ (pr c r)) ⊢ bigSep Finset.univ fun w => Un c w (Φ (ow w)) := by
  rw [peers_split]; iintro ⟨H, -⟩; iexact H

/-- A peer's landing tokens: one for a partial tile, if it reduces, and one for the last stage. -/
theorem land_toks (c : Dev nD) : (bigSep Finset.univ fun r => iprop(Tok (pr c r) (kR 0 c) (0 : Fin 2).val c ∗ Tok (pr c r) (kR 0 c) (1 : Fin 2).val c) : sProp 𝕄)
    ⊢ iprop((bigSep Finset.univ fun w => Un c w (Tok (ow w) (kR 0 c) 0 c)) ∗ bigSep Finset.univ fun r => Tok (pr c r) (kR 0 c) (rF (pr c r)) c) := by
  rw [← own_only c fun t => Tok t (kR 0 c) 0 c, ← bigSep_sep']
  have hp : ∀ r, iprop(Tok (pr c r) (kR 0 c) (0 : Fin 2).val c ∗ Tok (pr c r) (kR 0 c) (1 : Fin 2).val c)
      ⊢ (iprop((if isO (pr c r) then Tok (pr c r) (kR 0 c) 0 c else iprop(emp)) ∗ Tok (pr c r) (kR 0 c) (rF (pr c r)) c) : sProp 𝕄) := fun r => by
    by_cases h : isO (pr c r)
    · rw [if_pos h, rF_owner h]; exact .rfl
    · rw [if_neg h, rF_other h, emp_l]; iintro ⟨H, -⟩; iexact H
  exact bigSep_mono fun r _ => hp r

/-- A device's gather-send tokens: two for an owner's layers, and one for the last stage. -/
theorem gather_toks (c : Dev nD) :
    (bigSep Finset.univ fun r : Fin 15 => iprop(Tok c (kA r.succ) (0 : Fin 3).val c ∗ Tok c (kA r.succ) (1 : Fin 3).val c ∗ Tok c (kA r.succ) (2 : Fin 3).val c) : sProp 𝕄)
    ⊢ iprop(Own c (bigSep Finset.univ fun r : Fin 15 => Tok c (kA r.succ) (0 : Fin 2) c) ∗ Own c (bigSep Finset.univ fun r : Fin 15 => Tok c (kA r.succ) (1 : Fin 2) c)
      ∗ bigSep Finset.univ fun r : Fin 15 => Tok c (kA r.succ) (rA c) c) := by
  rw [bigSep_sep', bigSep_sep']
  by_cases h : isO c
  · rw [Own_yes h, Own_yes h, rA_owner h]; exact .rfl
  · rw [Own_no h, Own_no h, rA_other h, emp_l, emp_l]; iintro ⟨H, -⟩; iexact H

/-- An owner's credits, and everyone's positions, on the landing cells of a layer. -/
theorem land_wait (ℓ : Fin 2) (c : Dev nD) : iprop((bigSep Finset.univ fun r : Fin 15 => if isO c then Cr c (kR ℓ (pr c r)) 0 else iprop(emp)) ∗ bigSep Finset.univ fun r => At c (kR ℓ (pr c r)) 0)
    ⊢ (iprop(Own c (bigSep Finset.univ (rvΦ ℓ c)) ∗ Nwn c (bigSep Finset.univ fun r => At c (kR ℓ (pr c r)) 0)) : sProp 𝕄) := by
  by_cases h : isO c
  · rw [Own_yes h, Nwn_yes h, emp_r, bigSep_congr fun r _ => if_pos h, ← bigSep_sep']; exact .rfl
  · rw [Own_no h, Nwn_no h, emp_l]; iintro ⟨-, H⟩; iexact H

/-- The credits and the positions on the gather cells of a layer. -/
theorem gath_wait (ℓ : Fin 2) (c : Dev nD) : iprop((bigSep Finset.univ fun w : Fin 8 => if ow w = c then iprop(emp) else Cr c (kG ℓ w) 0) ∗ bigSep Finset.univ fun w => At c (kG ℓ w) 0)
    ⊢ (bigSep Finset.univ (gwΦ ℓ c) : sProp 𝕄) := by
  rw [← bigSep_sep']
  have hp : ∀ w, iprop((if ow w = c then iprop(emp) else Cr c (kG ℓ w) 0) ∗ At c (kG ℓ w) 0) ⊢ (gwΦ ℓ c w : sProp 𝕄) := fun w => by
    unfold gwΦ Un; iintro ⟨H1, H2⟩; isplitl [H2] <;> iassumption
  exact bigSep_mono fun w _ => hp w

/-- Every send cell is at its first round. -/
theorem reach_S (c : Dev nD) : Recs I ⊢ bigSep Finset.univ fun w => Un c w (Rch c (kS w) (0 : Fin 2).val) :=
  (show Recs I ⊢ bigSep Finset.univ fun w => Rch c (kS w) (0 : Fin 2).val from
    bigSep_intro_persistent fun w _ => Recs_reached I c (.inr (kS w))).trans (un_drop c _)
theorem reach_A (c : Dev nD) : Recs I ⊢ bigSep Finset.univ fun r : Fin 15 => Rch c (kA r.succ) 0 :=
  bigSep_intro_persistent fun r _ => Recs_reached I c (.inr (kA r.succ))

/-- What a launch deals device `c` is what its body starts with. -/
theorem deal (c : Dev nD) : Recs I ⊢ iprop(poss (fun _ => 0) c -∗ toks c -∗ cred (C₀ c) -∗ Owes c (O₀ c) -∗ Stgs I c
    -∗ (some1 c pb ∗ some1 c (rb 0) ∗ some1 c (rb 1) ∗ some1 c (xb 0) ∗ some1 c (xb 1)) -∗ (Start I c ∗ Stay c)) := by
  have hP := kinds (F := F) c fun k => atPos ER (cell c k) 0 ∅ 0
  iintro #HR HP HT HC HO HS ⟨Hp, Hr0, Hr1, Hx0, Hx1⟩
  ihave HP := (show poss (F := F) (fun _ => 0) c ⊢ _ from Entails.of_eq hP) $$ HP
  ihave HT := (Entails.of_eq (toks_kinds (F := F) c)) $$ HT
  ihave HC := (cred_C₀ (F := F) c) $$ HC
  icases HP with ⟨HB, HPS, ⟨HA0, HPA⟩, ⟨⟨HR00, HPR0⟩, ⟨HR10, HPR1⟩⟩, HPG0, HPG1⟩
  icases HT with ⟨HTB, HTS, HTA, HTF, HTR, HTG⟩
  icases HC with ⟨HCB, HCR0, HCG0, HCR1, HCG1, HCF⟩
  ihave HTS := (Entails.of_eq (bigSep_sep' Finset.univ (fun w => Tok (F := F) c (kS w) (0 : Fin 2).val c) (fun w => Tok c (kS w) (1 : Fin 2).val c))) $$ HTS
  icases HTS with ⟨HTS0, HTS1⟩
  ihave HTG := (Entails.of_eq (bigSep_sep' Finset.univ (fun r => Tok (F := F) (pr c r) (kG 0 (wo c)) 0 c) (fun r => Tok (pr c r) (kG 1 (wo c)) 0 c))) $$ HTG
  icases HTG with ⟨HTG0, HTG1⟩
  ihave HTS0 := (un_drop (F := F) c fun w => Tok c (kS w) (0 : Fin 2).val c) $$ HTS0
  ihave HTS1 := (un_drop (F := F) c fun w => Tok c (kS w) (1 : Fin 2).val c) $$ HTS1
  ihave HTG0 := (own_drop (F := F) c _) $$ HTG0
  ihave HTG1 := (own_drop (F := F) c _) $$ HTG1
  ihave HTF := (land_toks (F := F) c) $$ HTF
  icases HTF with ⟨HTR0, HTF⟩
  ihave HTR := (peers_drop (F := F) c fun t => Tok t (kR 1 c) 0 c) $$ HTR
  ihave HTA := (gather_toks (F := F) c) $$ HTA
  icases HTA with ⟨HTA0, HTA1, HTAF⟩
  ihave HW0 := (land_wait (F := F) 0 c) $$ [HCR0 HPR0]
  · isplitl [HCR0] <;> iassumption
  icases HW0 with ⟨HW0, HN0⟩
  ihave HW1 := (land_wait (F := F) 1 c) $$ [HCR1 HPR1]
  · isplitl [HCR1] <;> iassumption
  icases HW1 with ⟨HW1, HN1⟩
  ihave HG0 := (gath_wait (F := F) 0 c) $$ [HCG0 HPG0]
  · isplitl [HCG0] <;> iassumption
  ihave HG1 := (gath_wait (F := F) 1 c) $$ [HCG1 HPG1]
  · isplitl [HCG1] <;> iassumption
  ihave HRS := (reach_S I c) $$ HR
  ihave HRA := (reach_A I c) $$ HR
  ihave HKA := (show iprop((bigSep Finset.univ fun r : Fin 15 => At c (kA r.succ) 0) ∗ bigSep Finset.univ fun r : Fin 15 => Rch c (kA r.succ) 0) ⊢ (KA 0 c : sProp 𝕄) from
    by rw [← bigSep_sep']; exact .rfl) $$ [HPA HRA]
  · isplitl [HPA] <;> iassumption
  ihave HKS := (show iprop((bigSep Finset.univ fun w => At c (kS w) 0) ∗ bigSep Finset.univ fun w => Un c w (Rch c (kS w) (0 : Fin 2).val)) ⊢ (KS (0 : Fin 2).val c : sProp 𝕄) from
    by unfold KS
       rw [bigSep_congr fun w (_ : w ∈ Finset.univ) => show At (F := F) c (kS w) 0 = At c (kS w) (if ow w = c then 0 else (0 : Fin 2).val) from by split <;> rfl]) $$ [HPS HRS]
  · isplitl [HPS] <;> iassumption
  unfold Start SigIn Need0 Lay Lay1 LayF Stay
  isplitr [HA0 HR00 HR10]
  · isplitl [Hr0 Hr1 Hx0 Hx1 HTB HO]
    · isplitl [Hr0]; · iassumption
      isplitl [Hr1]; · iassumption
      isplitl [Hx0]; · iassumption
      isplitl [Hx1]; · iassumption
      isplitl [HTB] <;> iassumption
    isplitl [HCB HB Hp HKS HTS0 HTR0]
    · isplitl [HCB]; · iassumption
      isplitl [HB]; · iassumption
      isplitl [Hp]; · iassumption
      isplitl [HKS]; · iassumption
      isplitl [HTS0] <;> iassumption
    isplitl [HS]; · iassumption
    isplitl [HG0 HW0 HN0 HTA0 HTG0]
    · isplitl [HG0]; · iassumption
      isplitl [HW0]; · iassumption
      isplitl [HN0]; · iassumption
      isplitl [HTA0] <;> iassumption
    isplitl [HG1 HW1 HN1 HTA1 HTG1]
    · isplitl [HG1]; · iassumption
      isplitl [HW1]; · iassumption
      isplitl [HN1]; · iassumption
      isplitl [HTA1] <;> iassumption
    isplitl [HTS1 HTR]
    · isplitl [HTS1] <;> iassumption
    isplitl [HKA]; · iassumption
    isplitl [HTAF]; · iassumption
    isplitl [HTF] <;> iassumption
  · isplitl [HA0]; · iassumption
    isplitl [HR00] <;> iassumption

/-- The positions after the body are every cell's last round. -/
theorem done_poss (c : Dev nD) : iprop(Stay c ∗ atPos ER (cell c (.inl ())) 1 ∅ 0
    ∗ KS ((1 : Fin 2).val + 1) c ∗ (bigSep Finset.univ fun r : Fin 15 => At c (kA r.succ) (rA c + 1))
    ∗ (bigSep Finset.univ fun r => At c (kR 0 (pr c r)) (rF c + 1)) ∗ (bigSep Finset.univ fun r => At c (kR 1 (pr c r)) (rF c))
    ∗ (bigSep Finset.univ fun w => At c (kG 0 w) (if ow w = c then 0 else 1)) ∗ (bigSep Finset.univ fun w => At c (kG 1 w) (if ow w = c then 0 else 1)))
    ⊢ (poss (fin c) c : sProp 𝕄) := by
  have e0 : (bigSep Finset.univ fun r => At (F := F) c (kR 0 (pr c r)) (fin c (.inr (kR 0 (pr c r))))) = bigSep Finset.univ fun r => At c (kR 0 (pr c r)) (rF c + 1) :=
    bigSep_congr fun r _ => by rw [show fin c (.inr (kR 0 (pr c r))) = rF c + 1 from if_neg (pr_ne c r)]
  have e1 : (bigSep Finset.univ fun r => At (F := F) c (kR 1 (pr c r)) (fin c (.inr (kR 1 (pr c r))))) = bigSep Finset.univ fun r => At c (kR 1 (pr c r)) (rF c) :=
    bigSep_congr fun r _ => by rw [show fin c (.inr (kR 1 (pr c r))) = rF c from if_neg (pr_ne c r)]
  have e2 : (bigSep Finset.univ fun r : Fin 15 => At (F := F) c (kA r.succ) (fin c (.inr (kA r.succ)))) = bigSep Finset.univ fun r : Fin 15 => At c (kA r.succ) (rA c + 1) :=
    bigSep_congr fun r _ => by exact congrArg (At c (kA r.succ)) (show (if r.succ = 0 then 0 else rA c + 1) = rA c + 1 from if_neg (Fin.succ_ne_zero r))
  have e3 : fin c (.inr (kR 0 c)) = 0 := if_pos rfl
  have e4 : fin c (.inr (kR 1 c)) = 0 := if_pos rfl
  have e : (poss (fin c) c : sProp 𝕄) = iprop(atPos ER (cell c (.inl ())) 1 ∅ 0 ∗ (bigSep Finset.univ fun w => At c (kS w) (if ow w = c then 0 else (1 : Fin 2).val + 1))
      ∗ (At c (kA 0) 0 ∗ bigSep Finset.univ fun r : Fin 15 => At c (kA r.succ) (rA c + 1))
      ∗ ((At c (kR 0 c) 0 ∗ bigSep Finset.univ fun r => At c (kR 0 (pr c r)) (rF c + 1)) ∗ (At c (kR 1 c) 0 ∗ bigSep Finset.univ fun r => At c (kR 1 (pr c r)) (rF c)))
      ∗ (bigSep Finset.univ fun w => At c (kG 0 w) (if ow w = c then 0 else 1)) ∗ bigSep Finset.univ fun w => At c (kG 1 w) (if ow w = c then 0 else 1)) := by
    unfold poss
    rw [kinds c, e0, e1, e2, e3, e4]; rfl
  rw [e]
  unfold Stay KS
  iintro ⟨⟨HA, HR0, HR1⟩, HB, ⟨HS, -⟩, HPA, HP0, HP1, HG0, HG1⟩
  isplitl [HB]; · iassumption
  isplitl [HS]; · iassumption
  isplitl [HA HPA]
  · isplitl [HA] <;> iassumption
  isplitl [HR0 HR1 HP0 HP1]
  · isplitl [HR0 HP0]
    · isplitl [HR0] <;> iassumption
    isplitl [HR1] <;> iassumption
  isplitl [HG0] <;> iassumption

/-- A cell past its last round closes. -/
theorem close_cell (c : Dev nD) (k : CK) : Recs I ⊢ iprop(atPos ER (cell c k) (fin c k) ∅ 0 -∗ |={Set.univ}=> semVal (cell c k) 0) := by
  iintro #HR HA
  ihave HI := (Recs_inv I c k) $$ HR
  icases HI with ⟨%κ, #HI⟩
  iapply (Rounds.cell_close ER (Rd I) (Set.mem_univ κ) (fun h => h) (R := fin c k) (duties_later I c k))
  isplitr; · iexact HI
  iexact HA

/-- All the cells close. -/
theorem close_all (c : Dev nD) : iprop(Recs I ∗ poss (fin c) c) ⊢ |={Set.univ}=> (bigSep Finset.univ fun k : CK => semVal (cell c k) 0 : sProp 𝕄) := by
  have hp : ∀ k, iprop(Recs I ∗ atPos ER (cell c k) (fin c k) ∅ 0) ⊢ (|={Set.univ}=> semVal (cell c k) 0 : sProp 𝕄) := fun k => by
    iintro ⟨HR, HA⟩
    iapply (close_cell I c k) $$ HR HA
  have hq : iprop(Recs I ∗ poss (fin c) c) ⊢ bigSep Finset.univ fun k : CK => iprop(Recs I ∗ atPos ER (cell c k) (fin c k) ∅ 0) := by
    rw [bigSep_sep']
    exact sep_mono_left (BI.bigSep_of_persistent Finset.univ (Recs I))
  exact hq.trans ((bigSep_mono fun k _ => hp k).trans (bigSep_fupd _ _))

end Cert.KernelIdealRun
-- ==== Proof.KernelIdealRun.LaunchBody.lean ====
/-
# The body, as the pipeline runs it
-/
module

public import proofs.«01_k».proof.Proof.KernelIdealRun.Body
public import proofs.«01_k».proof.Proof.KernelIdealRun.Deal
public import proofs.«01_k».proof.Proof.Gen.KernelIdeal.Frame
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

variable (m : (ℓ : Loc nD τ sig) → Buf (Elt F) ℓ) (ρ : Dev nD → PrngReg)

/-- Memory as launched. -/
abbrev s₁ : MemSt nD τ sig (Elt F) := ⟨m, fun _ => 0, ρ⟩

/-- What each device is given: the blocks its windows fetch. -/
def inp (c : Dev nD) : Inp F where
  x := iblk m c 0 t0_0
  win := fun | 0 => iblk m c 1 t0_0 | 1 => iblk m c 3 t0_0 | 2 => iblk m c 5 t0_0
  wout := fun | 0 => iblk m c 2 t0_0 | 1 => iblk m c 4 t0_0 | 2 => iblk m c 6 t0_0

/-! ## The pipeline's proof data -/

set_option maxRecDepth 65536 in
/-- What a device's body starts from. -/
def start (c : Dev nD) : sProp 𝕄 := iprop(Recs (inp m) ∗ poss (fun _ => 0) c ∗ toks c ∗ cred (C₀ c))

/-- The kernel's own buffers. -/
def Scr (c : Dev nD) : sProp 𝕄 := iprop(some1 c pb ∗ some1 c (rb 0) ∗ some1 c (rb 1) ∗ some1 c (xb 0) ∗ some1 c (xb 1))
def Φ₀ (c : Dev nD) : sProp 𝕄 := iprop(start m c ∗ Scr c)
def Φ₁ (c : Dev nD) : sProp 𝕄 := iprop(Scr c ∗ bigSep Finset.univ fun k : CK => semVal (cell c k) 0)

def dats (_ : Fin 1) (c : Dev nD) : Dat τ (Elt F) ℕ ℕ UU ℕ cfg0 c where
  A w := (s₁ m ρ).mem ((cfg0.win w).arr.view.loc (c : Thread nD τ))
  after w _ := match w with
    | ⟨0, _⟩ => (inp m c).x
    | ⟨1, _⟩ => (inp m c).win 0
    | ⟨2, _⟩ => (inp m c).wout 0
    | ⟨3, _⟩ => (inp m c).win 1
    | ⟨4, _⟩ => (inp m c).wout 1
    | ⟨5, _⟩ => (inp m c).win 2
    | ⟨6, _⟩ => (inp m c).wout 2
    | ⟨7, _⟩ => res (inp m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body's obligation -/

abbrev stg (c : Dev nD) (b : Ref sig .tc) (X : b.ty.Contents (Elt F)) : sProp 𝕄 := owns (c : Thread nD τ) (Memref.whole b) fullShare X

def bodyPre (c : Dev nD) : sProp 𝕄 :=
  iprop(Φ₀ m c ∗ (dats m ρ 0 c).owesAt 0 t0_0.castSucc
    ∗ (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))
def bodyPost (c : Dev nD) : sProp 𝕄 :=
  iprop(Φ₁ c ∗ (dats m ρ 0 c).owesAt 0 t0_0.succ ∗ stg c cc0_stg0_0 (inp m c).x ∗ stg c cc0_stg1_0 ((inp m c).win 0)
    ∗ stg c cc0_stg2_0 ((inp m c).wout 0) ∗ stg c cc0_stg3_0 ((inp m c).win 1) ∗ stg c cc0_stg4_0 ((inp m c).wout 1)
    ∗ stg c cc0_stg5_0 ((inp m c).win 2) ∗ stg c cc0_stg6_0 ((inp m c).wout 2) ∗ stg c cc0_stg7_0 (res (inp m) c))

/-- A fetched window holds its block. -/
theorem before_fetch (c : Dev nD) (w : Fin 8) (h : (cfg0.win w).fetch t0_0 = true) (d) : (dats m ρ 0 c).before w t0_0 d = (dats m ρ 0 c).fetched w t0_0 d := if_pos h
theorem stg_of (c : Dev nD) (b : Ref sig .tc) {α : Type} (X : α → b.ty.Contents (Elt F)) (Y : b.ty.Contents (Elt F)) (h : ∀ d, X d = Y) :
    iprop(∃ d, stg c b (X d)) ⊢ stg c b Y := by
  iintro ⟨%d, H⟩
  ihave H := (show stg c b (X d) ⊢ stg c b Y from Entails.of_eq (by rw [h d])) $$ H
  iexact H

theorem sep_both {P P' R R' : sProp 𝕄} (h : P ⊢ P') (h' : R ⊢ R') : iprop(P ∗ R) ⊢ iprop(P' ∗ R') := BIClass.sep_mono h h'

/-- The windows hold the blocks they fetched. -/
theorem staged (c : Dev nD) : iprop(
    (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d)))
    ⊢ Stgs (inp m) c := by
  exact (sep_both (stg_of c cc0_stg0_0 _ _ fun d => (before_fetch m ρ c 0 rfl d).trans rfl)
    (sep_both (stg_of c cc0_stg1_0 _ _ fun d => (before_fetch m ρ c 1 rfl d).trans rfl)
    (sep_both (stg_of c cc0_stg2_0 _ _ fun d => (before_fetch m ρ c 2 rfl d).trans rfl)
    (sep_both (stg_of c cc0_stg3_0 _ _ fun d => (before_fetch m ρ c 3 rfl d).trans rfl)
    (sep_both (stg_of c cc0_stg4_0 _ _ fun d => (before_fetch m ρ c 4 rfl d).trans rfl)
    (sep_both (stg_of c cc0_stg5_0 _ _ fun d => (before_fetch m ρ c 5 rfl d).trans rfl)
    (stg_of c cc0_stg6_0 _ _ fun d => (before_fetch m ρ c 6 rfl d).trans rfl)))))))

/-- The body, from what the pipeline hands it to what it takes back. -/
theorem body_run (c : Dev nD) : bodyPre m ρ c ⊢ WP c (on (cc0_body (F := F))) fun _ => bodyPost m ρ c := by
  unfold bodyPre Φ₀ start
  iintro ⟨⟨⟨#HR, HP, HT, HC⟩, HSc⟩, Ho, H0, H1, H2, H3, H4, H5, H6, ⟨%d7, H7⟩⟩
  ihave HO := (show (dats m ρ 0 c).owesAt 0 t0_0.castSucc ⊢ Owes c (O₀ c) from by
    unfold Dat.owesAt Pipeline.owesWithin Owes
    iintro ⟨%W, %hW, HO⟩
    iexists W; iexact HO) $$ Ho
  ihave HS := (staged m ρ c) $$ [H0 H1 H2 H3 H4 H5 H6]
  · isplitl [H0]; · iassumption
    isplitl [H1]; · iassumption
    isplitl [H2]; · iassumption
    isplitl [H3]; · iassumption
    isplitl [H4]; · iassumption
    isplitl [H5] <;> iassumption
  ihave H7 := (owns_some1 c (Memref.whole cc0_stg7_0 : Memref sig .tc .vmem S4x512 .f32) _) $$ H7
  ihave HSc := (show Scr (F := F) c ⊢ iprop(some1 c pb ∗ some1 c (rb 0) ∗ some1 c (rb 1) ∗ some1 c (xb 0) ∗ some1 c (xb 1)) from .rfl) $$ HSc
  ihave HD := (deal (inp m) c) $$ HR HP HT HC HO HS HSc
  icases HD with ⟨HD, HY⟩
  iapply (show WP c (on (cc0_body (F := F))) (fun _ => iprop(|={Set.univ}=> bodyPost m ρ c)) ⊢ WP c (on (cc0_body (F := F))) (fun _ => bodyPost m ρ c) from wp_fupd _ _ _ _ _)
  iapply (body (inp m) c) $$ HR HD H7
  iintro HO HF H7
  unfold Final
  icases HF with ⟨HS, HSc, HF⟩
  ihave HF := (done_poss (F := F) c) $$ [HY HF]
  · isplitl [HY] <;> iassumption
  imod (close_all (inp m) c) $$ [HF] with HV
  · isplitr; · iexact HR
    iexact HF
  imodintro
  unfold bodyPost Φ₁ Scr Stgs
  icases HS with ⟨H0, H1, H2, H3, H4, H5, H6⟩
  isplitl [HSc HV]
  · isplitl [HSc] <;> iassumption
  isplitl [HO]
  · iapply (show Owes (F := F) c 0 ⊢ (dats m ρ 0 c).owesAt 0 t0_0.succ from by
      unfold Dat.owesAt Pipeline.owesWithin Owes
      iintro ⟨%W, HO⟩
      iexists W
      isplitr; · ipureintro; exact fun _ _ => Or.inl trivial
      iexact HO) $$ HO
  isplitl [H0]; · iassumption
  isplitl [H1]; · iassumption
  isplitl [H2]; · iassumption
  isplitl [H3]; · iassumption
  isplitl [H4]; · iassumption
  isplitl [H5]; · iassumption
  isplitl [H6] <;> iassumption

set_option maxRecDepth 8000 in
/-- The library runs the kernel's body on the kernel's own buffers. -/
theorem body_is : (defs₀ (F := F) Proc.tc 0 (t0_0, cfg0.slots t0_0)) = on (cc0_body (F := F)) := rfl

attribute [local irreducible] res in
set_option maxRecDepth 8000 in
/-- The library's body obligation on device `c`. -/
theorem body_obligation (c : Dev nD) : BodyObligation (dats (F := F) m ρ 0 c) (defs₀ (F := F)) 𝒱₀ 0 Set.univ := fun t => by
  rw [fin_N0 t, bigSep_W0, bigSep_W0, body_is]
  simp only [owns_whole_eq]
  have h : bodyPre m ρ c ⊢ WP c (on (cc0_body (F := F))) fun _ => bodyPost m ρ c := body_run m ρ c
  unfold bodyPre stg at h
  simp only [owns_whole_eq] at h
  refine BI.Entails.trans (Q := _) ?_ (BI.Entails.trans h (wp_mono _ _ _ fun _ => ?_))
  · refine sep_both .rfl (sep_both .rfl (sep_both .rfl (sep_both .rfl (sep_both .rfl (sep_both .rfl (sep_both .rfl (sep_both .rfl (sep_both .rfl .rfl))))))))
  · unfold bodyPost stg
    simp only [owns_whole_eq]
    exact sep_both .rfl (sep_both .rfl (sep_both .rfl (sep_both .rfl (sep_both .rfl (sep_both .rfl (sep_both .rfl (sep_both .rfl (sep_both .rfl .rfl))))))))
end Cert.KernelIdealRun
-- ==== Proof.KernelIdealRun.Launch.lean ====
/-
# The launch: from any memory, the run
-/
module

public import proofs.«01_k».proof.Proof.KernelIdealRun.LaunchBody

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## The launch -/

set_option maxRecDepth 65536 in
theorem ownSemFacts : Pipeline.OwnSemFacts cfg0.spec osem where
  isScoped := by decide
  inj := fun k k' h => by injection h with h; exact odma_inj k k' h
  disj := by decide

theorem share_eq (c : Dev nD) (w : Fin cfg0.W) : (dats m ρ 0 c).share w = fullShare := by unfold Dat.share; split <;> rfl

/-- The ghost state at launch. -/
def u₀ : UU :=
  (initOf (Pipeline.cells cfgs cellOf_inj) (Pipeline.launchToks cfgs cellOf_inj), initOf allCells allToks)

/-- What the launch deals device `c`. -/
def G (c : Dev nD) : sProp 𝕄 :=
  iprop((bigSep Finset.univ fun k : CK => roundState ER (Rd (inp m)) (cell c k) 0)
    ∗ (bigSep Finset.univ fun k : CK => reached ER (cell c k) 0) ∗ poss (fun _ => 0) c ∗ toks c)

/-- The invariants, and that every cell is at its first round. -/
def Rec0 : sProp 𝕄 :=
  iprop((bigSep Finset.univ fun g : Dev nD × CK => iprop(∃ κ, cellInv ER (Rd (inp m)) κ (cell g.1 g.2)))
    ∗ (bigSep Finset.univ fun g : Dev nD × CK => reached ER (cell g.1 g.2) 0))
instance Rec0_persistent : BI.Persistent (Rec0 m) := by unfold Rec0; infer_instance
/-- What the global step makes of it. -/
def G' (c : Dev nD) : sProp 𝕄 := iprop(Rec0 m ∗ poss (fun _ => 0) c ∗ toks c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd (inp m)) allCells allToks) $$ HX with ⟨Hst, Hr, Hat, Htok⟩
  imodintro
  ihave Hst' := (Entails.of_eq (hX fun g => roundState ER (Rd (inp m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  isplitl [Hst']; · iexact Hst'
  isplitl [Hr']; · iexact Hr'
  isplitl [Hat'] <;> iassumption

theorem unscopedSems0_eq (c : Dev nD) : (unscopedSems0 c : sProp 𝕄) = semVal (cell c (.inl ())) 0 := by
  unfold unscopedSems0; rw [bigSep_eq_bigSepL_of_eq [SemLoc.reg barS] (by decide) (by decide)]; rfl

/-- The semaphores are the cells. -/
theorem sems_eq (c : Dev nD) :
    iprop(unscopedSems0 c ∗ Pipeline.ownSems0 (Ix := ℕ) (Name := ℕ) (U := UU) (Lvl := ℕ) (Val := Elt F) (τ := τ) osem c)
      = (bigSep Finset.univ fun k : CK => semVal (cell c k) 0 : sProp 𝕄) := by
  rw [unscopedSems0_eq, bigSep_univ_sum, bigSep_one]; rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (inp m)) κ (cell c k)))
          ∗ (bigSep Finset.univ fun k : CK => reached ER (cell c k) 0) ∗ (poss (fun _ => 0) c ∗ toks c)) := by
  unfold G
  iintro ⟨Hos, Hus, Hst, Hr, Hat, Htok⟩
  ihave Hv := (Entails.of_eq (sems_eq (F := F) c)) $$ [Hos Hus]
  · isplitl [Hus] <;> iassumption
  imod (show iprop((bigSep Finset.univ fun k : CK => semVal (cell c k) 0) ∗ bigSep Finset.univ fun k : CK => roundState ER (Rd (inp m)) (cell c k) 0)
      ⊢ (|={Set.univ}=> bigSep Finset.univ fun k => iprop(∃ κ : ℕ, cellInv ER (Rd (inp m)) κ (cell c k)) : sProp 𝕄) from by
        rw [← bigSep_sep']
        exact (bigSep_mono fun k _ => (Rounds.body_intro ER (Rd (inp m)) (cell c k)).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

theorem regroup :
    (bigSep Finset.univ fun c : Dev nD => iprop((bigSep Finset.univ fun k => iprop(∃ κ : ℕ, cellInv ER (Rd (inp m)) κ (cell c k)))
          ∗ (bigSep Finset.univ fun k : CK => reached ER (cell c k) 0) ∗ (poss (fun _ => 0) c ∗ toks c)) : sProp 𝕄)
      ⊢ bigSep Finset.univ (G' m) := by
  have h : (bigSep Finset.univ (G' m) : sProp 𝕄) = iprop((bigSep Finset.univ fun _ : Dev nD => Rec0 m) ∗ bigSep Finset.univ fun c : Dev nD => iprop(poss (fun _ => 0) c ∗ toks c)) := by
    rw [← bigSep_sep']; rfl
  rw [h, bigSep_sep', bigSep_sep', ← bigSep_univ_prod (fun g : Dev nD × CK => iprop(∃ κ : ℕ, cellInv ER (Rd (inp m)) κ (cell g.1 g.2))),
    ← bigSep_univ_prod (fun g : Dev nD × CK => (reached ER (cell g.1 g.2) 0 : sProp 𝕄))]
  iintro ⟨HI, HR, H⟩
  isplitl [HI HR]
  · iapply (BI.bigSep_of_persistent Finset.univ (Rec0 m))
    unfold Rec0
    isplitl [HI] <;> iassumption
  iexact H

/-- The global step: every device's semaphores at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

set_option maxRecDepth 65536 in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (Entails.of_eq (Pipeline.launchCred_of_sum O₀ C₀ sum_O₀ local_C₀ c)) $$ Hcr
  imodintro
  unfold start G' Rec0 Recs
  icases HG with ⟨⟨HI, HR⟩, HP, HT⟩
  isplitl
  · isplitl [HI HR Hlev]
    · isplitl [HI]; · iexact HI
      isplitl [HR]; · iexact HR
      iapply (show (levAts L lv : sProp 𝕄) ⊢ Levels from .rfl) $$ Hlev
    isplitl [HP]; · iexact HP
    isplitl [HT]; · iexact HT
    iexact Hc
  · iempintro

/-- A buffer whole at some contents, in either form. -/
theorem some1_whole (c : Dev nD) (b : Ref sig .tc) : (iprop(∃ X, owns (c : Thread nD τ) (Memref.whole b) fullShare X) : sProp 𝕄)
    = iprop(∃ f : Buf (Elt F) ((c : Thread nD τ).loc b), ((c : Thread nD τ).loc b) ↦{fullShare} f) := by
  have e (X) : (owns (c : Thread nD τ) (Memref.whole b) fullShare X : sProp 𝕄) = iprop(((c : Thread nD τ).loc b) ↦{fullShare} X) := owns_whole (c : Thread nD τ) b fullShare X
  simp only [e]

theorem scr_eq (c : Dev nD) : (Pipeline.scopedRest cfg0.spec c : sProp 𝕄) = Scr c := by
  rw [scopedRest0_eq]
  unfold Scr some1
  rw [← some1_whole c cc0_scratch0, ← some1_whole c cc0_scratch1, ← some1_whole c cc0_scratch2, ← some1_whole c cc0_scratch3, ← some1_whole c cc0_scratch4]; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq]
  unfold Φ₁
  rw [← sems_eq]
  iintro ⟨Hr, Hu, Ho⟩
  isplitl [Hu]; · iexact Hu
  isplitl [Ho] <;> iassumption

/-- A staging semaphore is none of the kernel's own, so of the lowest level. -/
theorem lv_stage (c : Dev nD) (w : Fin cfg0.W) (s : Fin (cfg0.win w).nbuf) : lv ((c : Thread nD τ), .dma ((cfg0.win w).sem s)) 0 ≤ 0 := by
  have h : ∀ k, csem k ≠ .dma ((cfg0.win w).sem s) := by
    rintro (⟨⟩ | k)
    · exact fun h => by cases h
    · exact ownSemFacts.disj k w s
  have e : kindOf (.dma ((cfg0.win w).sem s)) = none := by
    unfold kindOf; exact dif_neg fun ⟨k, hk⟩ => h k hk
  show (match kindOf (.dma ((cfg0.win w).sem s)) with | some k => lvK 0 k | none => 0) ≤ 0
  rw [e]

set_option maxRecDepth 65536 in
theorem waits (c : Dev nD) : (levAts L lv : sProp 𝕄) ⊢ Pipeline.cellsWaits cfgs (dats m ρ) 0 0 c :=
  Pipeline.cellsWaits_intro cfgs (dats m ρ) 0 0 c fun w s t =>
    mayWait (n := 0) (by
      rcases t with ⟨_ | _, ht⟩
      · exact abv_O₀ c
      · exact Abv.zero 0) c _ 0 (by decide) (lv_stage c w s)

/-! ## The run -/

/-- What the windows' arrays end at. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, the kernel runs: it ends, its arrays at the computed contents and every
    counter back at zero. -/
theorem run_main : θ_run defs (onTc (τ := τ) (main (F := F))) (s₁ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealRun
-- ==== Proof.KernelIdealRun.Ends.lean ====
/- What the run leaves: the argument arrays unchanged and the result array at `res`. -/
module

public import proofs.«01_k».proof.Proof.KernelIdealRun.Launch

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- The argument arrays of device `c` are what they were at launch. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

/-- An array no window writes ends as it was. -/
theorem kept {r : PUnit × MemSt nD τ sig (Elt F)} (h : QC m ρ r) (c : Dev nD) : Kept m r c :=
  ⟨(h c 0).trans ((dats m ρ 0 c).arrAt_in 0 rfl _), (h c 1).trans ((dats m ρ 0 c).arrAt_in 1 rfl _),
    (h c 3).trans ((dats m ρ 0 c).arrAt_in 3 rfl _), (h c 5).trans ((dats m ρ 0 c).arrAt_in 5 rfl _),
    (h c 2).trans ((dats m ρ 0 c).arrAt_in 2 rfl _), (h c 4).trans ((dats m ρ 0 c).arrAt_in 4 rfl _),
    (h c 6).trans ((dats m ρ 0 c).arrAt_in 6 rfl _)⟩

/-- The kernel runs, its argument arrays end unchanged and every counter reads zero. -/
theorem run_kept : θ_run defs (onTc (τ := τ) (main (F := F))) ⟨m, fun _ => 0, ρ⟩
    (fun r => (∀ c : Dev nD, Kept m r c) ∧ r.2.sem = fun _ => 0) :=
  (θ_run defs _ _).mono (fun _ h => ⟨kept m ρ h.1, h.2⟩) (run_main m ρ)

end Cert.KernelIdealRun
-- ==== Proof.Layers.lean ====
/-
# The mathematics of a layer

One layer is `max (X · A) 0 · W`. Cut along the hidden axis, it is the sum of the layers of the blocks: no finiteness is
needed, the extended reals' addition being commutative and associative.
-/
module

public import Idealize.ShloMosaic.Lib.Layout
public import Idealize.ShloMosaic.Lib.ValueIdx
public import Idealize.ShloMosaic.Lib.ValueIdxCore
public import Idealize.ShloMosaic.Lib.MatmulPlain
public import Idealize.ShloMosaic.Lib.Pipeline.Value

@[expose] public section

noncomputable section

namespace Cert.Layers

open Idealize.ShloMosaic Idealize.ShloMosaic.ValueIdx

/-- A matrix of extended reals. -/
abbrev Mat (a b : ℕ) : Type := (⟨2, ![a, b]⟩ : Shape).Idx → EReal

/-- Entry `(r, d)` of a layer with `H` hidden columns: the product with `A`, its negative entries cut to zero, then the
    product with `W`. -/
def entry {H : ℕ} (X : Mat 64 512) (A : Mat 512 H) (W : Mat H 512) (r : Fin 64) (d : Fin 512) : EReal :=
  ∑ k : Fin H, max (∑ j : Fin 512, X (ix2 r j) * A (ix2 j k)) 0 * W (ix2 k d)

/-- The layer. -/
def layer {H : ℕ} (X : Mat 64 512) (A : Mat 512 H) (W : Mat H 512) : Mat 64 512 := fun i => entry X A W (i 0) (i 1)

/-- Block `c` of the columns. -/
abbrev colBlk (A : Mat 512 16384) (c : Fin 16) : Mat 512 1024 := Layout.block ⟨2, ![512, 1024]⟩ ⟨2, ![512, 16384]⟩ 1 16 c A
/-- Block `c` of the rows. -/
abbrev rowBlk (W : Mat 16384 512) (c : Fin 16) : Mat 1024 512 := Layout.block ⟨2, ![1024, 512]⟩ ⟨2, ![16384, 512]⟩ 0 16 c W

/-- Where hidden column `k` of block `c` is in the whole. -/
def hid (c : Fin 16) (k : Fin 1024) : Fin 16384 := (finProdFinEquiv (c, k) : Fin (16 * 1024))

/-- A column of block `c` is that column of the whole. -/
theorem cols (A : Mat 512 16384) (c : Fin 16) (j : Fin 512) (k : Fin 1024) : colBlk A c (ix2 j k) = A (ix2 j (hid c k)) := by
  refine congrArg A (funext fun a => Fin.ext ?_)
  fin_cases a
  · rfl
  · show c.val * 1024 + k.val = k.val + 1024 * c.val; omega

/-- A row of block `c` is that row of the whole. -/
theorem rows (W : Mat 16384 512) (c : Fin 16) (k : Fin 1024) (d : Fin 512) : rowBlk W c (ix2 k d) = W (ix2 (hid c k) d) := by
  refine congrArg W (funext fun a => Fin.ext ?_)
  fin_cases a
  · show c.val * 1024 + k.val = k.val + 1024 * c.val; omega
  · rfl

/-- A sum over the hidden columns, block by block. -/
theorem sum_hid (f : Fin 16384 → EReal) : ∑ c : Fin 16, ∑ k : Fin 1024, f (hid c k) = ∑ k : Fin 16384, f k :=
  (Fintype.sum_prod_type' (f := fun c k => f (hid c k))).symm.trans
    (Equiv.sum_comp (finProdFinEquiv (m := 16) (n := 1024)) (fun k : Fin (16 * 1024) => f k))

/-- An entry of a layer is the sum of that entry of its sixteen blocks' layers. -/
theorem entry_blocks (X : Mat 64 512) (A : Mat 512 16384) (W : Mat 16384 512) (r : Fin 64) (d : Fin 512) :
    ∑ c : Fin 16, entry X (colBlk A c) (rowBlk W c) r d = entry X A W r d := by
  unfold entry
  rw [← sum_hid]
  refine Finset.sum_congr rfl fun c _ => Finset.sum_congr rfl fun k _ => ?_
  rw [rows]
  congr 2
  exact Finset.sum_congr rfl fun j _ => by rw [cols]

/-- A layer is the sum of its sixteen blocks' layers. -/
theorem layer_blocks (X : Mat 64 512) (A : Mat 512 16384) (W : Mat 16384 512) :
    (fun i => ∑ c : Fin 16, layer X (colBlk A c) (rowBlk W c) i) = layer X A W :=
  funext fun i => entry_blocks X A W (i 0) (i 1)

end Cert.Layers
-- ==== Proof.KernelIdealRun.Value.lean ====
/-
# What a device returns, at the ideal instance
-/
module

public import proofs.«01_k».proof.Proof.KernelIdealRun.Ends
public import proofs.«01_k».proof.Proof.Layers

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Layers Idealize.ShloMosaic.ValueIdx

/-! ## A device's part of a layer -/

/-- The product into the hidden columns, at an index. -/
theorem mm_in (X : Mat 64 512) (A : Mat 512 1024) (r : Fin 64) (k : Fin 1024) :
    matmul (F := Ideal) (φ₁ := .f32) (φ₂ := .f32) dot_S64x512_S512x1024_S64x1024_1_0_0_1_n_n none X A (constant S64x1024 .f32 0x00000000#32) (ix2 r k)
      = ∑ j : Fin 512, X (ix2 r j) * A (ix2 j k) := by
  have h := Ideal.matmul_plain_apply (M := 64) (K := 512) (N := 1024) (φ₁ := .f32) (φ₂ := .f32) none X A (constant S64x1024 .f32 0x00000000#32) r k
  refine Eq.trans h ?_
  show Ideal.ofBits .f32 0x00000000#32 + _ = _
  rw [Ideal.ofBits_zero_f32, zero_add]

/-- The product out of the hidden columns, at an index. -/
theorem mm_out (H : Mat 64 1024) (W : Mat 1024 512) (r : Fin 64) (d : Fin 512) :
    matmul (F := Ideal) (φ₁ := .f32) (φ₂ := .f32) dot_S64x1024_S1024x512_S64x512_1_0_0_1_n_n none H W (constant S64x512 .f32 0x00000000#32) (ix2 r d)
      = ∑ k : Fin 1024, H (ix2 r k) * W (ix2 k d) := by
  have h := Ideal.matmul_plain_apply (M := 64) (K := 1024) (N := 512) (φ₁ := .f32) (φ₂ := .f32) none H W (constant S64x512 .f32 0x00000000#32) r d
  refine Eq.trans h ?_
  show Ideal.ofBits .f32 0x00000000#32 + _ = _
  rw [Ideal.ofBits_zero_f32, zero_add]

/-- A device's part of a layer is the layer of its blocks. -/
theorem part_eq (X : Mat 64 512) (A : Mat 512 1024) (W : Mat 1024 512) : (k0_pay17 (F := Ideal) X A W : Mat 64 512) = layer X A W := by
  funext i
  obtain ⟨r, d, rfl⟩ : ∃ r d, i = ix2 r d := ⟨i 0, i 1, eq_ix2 i⟩
  show _ = entry X A W r d
  unfold k0_pay17 entry
  simp only [shapeCast_self]
  rw [mm_out]
  refine Finset.sum_congr rfl fun k _ => congrArg (· * W (ix2 k d)) ?_
  show max (matmul (F := Ideal) (φ₁ := .f32) (φ₂ := .f32) dot_S64x512_S512x1024_S64x1024_1_0_0_1_n_n none X A (constant S64x1024 .f32 0x00000000#32) (ix2 r k)) (Ideal.ofBits .f32 0x00000000#32) = _
  rw [mm_in, Ideal.ofBits_zero_f32]

/-- The first layer's product is written as the second's. -/
theorem pay16_eq (X : Mat 64 512) (A : Mat 512 1024) (W : Mat 1024 512) : k0_pay16 (F := Ideal) X A W = k0_pay17 X A W := by
  unfold k0_pay16 k0_pay17; simp only [shapeCast_self]
/-- The last layer's product, made in two steps, is the second's. -/
theorem pay19_eq (X : Mat 64 512) (A : Mat 512 1024) (W : Mat 1024 512) : k0_pay19 (F := Ideal) (k0_pay18 X A) W = k0_pay17 X A W := by
  unfold k0_pay19 k0_pay18 k0_pay17; rfl

/-! ## The sums over the devices -/

/-- A device's own term and its fifteen peers' are all the devices' terms. -/
theorem sum_ring (f : Dev nD → EReal) (c : Dev nD) : f c + ∑ r : Fin 15, f (pr c r) = ∑ d : Dev nD, f d := by
  refine Eq.trans ?_ ((Fin.sum_univ_succ (n := 15) fun r : Fin 16 => f (Equiv.addLeft (c : Fin 16) r)).symm.trans
    (Equiv.sum_comp (Equiv.addLeft (c : Fin 16)) f))
  refine congrArg₂ (· + ·) (congrArg f (add_zero (c : Fin 16)).symm) (Finset.sum_congr rfl fun r _ => congrArg f (Fin.ext ?_))
  show (c.val + r.val + 1) % 16 = (c.val + (r.val + 1)) % 16
  rw [Nat.add_assoc]

/-- Sixteen tiles added in order are their sum. -/
theorem sum15_apply (T : FVec Ideal S8x512 .f32) (S : Fin 15 → FVec Ideal S8x512 .f32) (j : S8x512.Idx) :
    sum15 T S j = T j + ∑ r : Fin 15, S r j := by
  simp only [sum15, ValueIdx.addf_apply, Fin.sum_univ_succ, Fin.sum_univ_zero, add_zero, ← add_assoc]
  rfl

/-- The sum of the devices' tiles is the tile of the devices' sum. -/
theorem sum_tiles (P : Dev nD → Mat 64 512) (c : Dev nD) (w : Fin 8) :
    sum15 (F := Ideal) (tl (F := Ideal) (n := 8) (P c) w) (fun r => tl (F := Ideal) (n := 8) (P (pr c r)) w) = tl (F := Ideal) (n := 8) (fun i => ∑ d : Dev nD, P d i) w := by
  funext j
  rw [sum15_apply]
  exact sum_ring (fun d => tl (F := Ideal) (n := 8) (P d) w j) c

/-- The reduced tiles together are the devices' sum. -/
theorem asm_red (P : Dev nD → Mat 64 512) : (asm (F := Ideal) (red P) : Mat 64 512) = fun i => ∑ d : Dev nD, P d i :=
  tl_ext (n := 8) fun w => by
    rw [tl_asm]
    show shapeCast S8x512 _ _ = _
    rw [shapeCast_self]
    exact sum_tiles P (ow w) w

/-! ## The three layers -/

section
variable (I : Dev nD → Inp Ideal) (x : Mat 64 512) (A : Fin 3 → Mat 512 16384) (W : Fin 3 → Mat 16384 512)

/-- Every device holds the activations and its blocks of the weights. -/
def Holds : Prop := ∀ c : Dev nD, (I c).x = x ∧ (∀ l, (I c).win l = colBlk (A l) c) ∧ ∀ l, (I c).wout l = rowBlk (W l) c

variable {I x A W}

theorem X1_eq (h : Holds I x A W) : (X1 I : Mat 64 512) = layer x (A 0) (W 0) := by
  unfold X1
  rw [asm_red, ← layer_blocks]
  funext i
  refine Finset.sum_congr rfl fun c _ => ?_
  unfold P0
  rw [(h c).1, (h c).2.1, (h c).2.2, pay16_eq, part_eq]

theorem X2_eq (h : Holds I x A W) : (X2 I : Mat 64 512) = layer (layer x (A 0) (W 0)) (A 1) (W 1) := by
  unfold X2
  rw [asm_red, ← layer_blocks]
  funext i
  refine Finset.sum_congr rfl fun c _ => ?_
  unfold P1
  rw [X1_eq h, (h c).2.1, (h c).2.2, part_eq]

/-- Device `c`'s tile of the last sum is that tile of the last layer. -/
theorem RR_eq (h : Holds I x A W) (c : Dev nD) :
    RR I c = tl (F := Ideal) (n := 8) (layer (layer (layer x (A 0) (W 0)) (A 1) (W 1)) (A 2) (W 2)) (fw c) := by
  unfold RR
  refine (sum_tiles (P2 I) c (fw c)).trans (congrArg (fun X : Mat 64 512 => tl (F := Ideal) (n := 8) X (fw c)) ?_)
  rw [← layer_blocks]
  funext i
  refine Finset.sum_congr rfl fun d _ => ?_
  unfold P2
  rw [X2_eq h, (h d).2.1, (h d).2.2, pay19_eq, part_eq]

end

/-- Of its tile of eight rows a device returns the half that its position's parity names: block `c` of four rows. -/
theorem half_eq (X : Mat 64 512) (c : Dev nD) :
    k0_pay1 (F := Ideal) (v2w c) (tl (F := Ideal) (n := 8) X (fw c)) = Layout.block ⟨2, ![4, 512]⟩ ⟨2, ![64, 512]⟩ 0 16 c X := by
  have hc : Scalar.cmpi .eq (Scalar.remsi (v2w c) 2#32) 0#32 = if c.val % 2 = 0 then 1#1 else 0#1 := by revert c; decide
  unfold k0_pay1
  dsimp only
  rw [hc]
  funext i
  have h0 : (i 0).val < 4 := (i 0).isLt
  by_cases hp : c.val % 2 = 0
  · rw [if_pos hp, select_one]
    rw [extractStridedSlice_apply (s := S8x512) (t := S4x512) _ _ _ i (ix2 (⟨(i 0).val, by omega⟩ : Fin 8) (⟨(i 1).val, (i 1).isLt⟩ : Fin 512)) (by
      intro a; fin_cases a <;> exact (Nat.zero_add _).symm)]
    refine congrArg X (funext fun a => Fin.ext ?_)
    fin_cases a
    · show 8 * (c.val / 2) + 1 * (i 0).val = c.val * 4 + (i 0).val; omega
    · show 0 + 1 * (i 1).val = (i 1).val; omega
  · rw [if_neg hp, select_zero]
    rw [extractStridedSlice_apply (s := S8x512) (t := S4x512) _ _ _ i (ix2 (⟨4 + (i 0).val, by omega⟩ : Fin 8) (⟨(i 1).val, (i 1).isLt⟩ : Fin 512)) (by
      intro a; fin_cases a
      · rfl
      · exact (Nat.zero_add _).symm)]
    refine congrArg X (funext fun a => Fin.ext ?_)
    fin_cases a
    · show 8 * (c.val / 2) + 1 * (4 + (i 0).val) = c.val * 4 + (i 0).val; omega
    · show 0 + 1 * (i 1).val = (i 1).val; omega

/-! ## The arrays -/

section
variable (m : (ℓ : Loc nD τ sig) → Buf (Elt Ideal) ℓ) (ρ : Dev nD → PrngReg)

/-- What window 0 stages is the whole of its array. -/
theorem blk0 (c : Dev nD) : iblk (F := Ideal) m c 0 t0_0 = m ((c.tc : Thread nD τ).loc main_arg0) :=
  Memref.read_access_unit_zero (Elt Ideal) main_arg0 (funext fun a => by fin_cases a <;> decide) (fun a => by fin_cases a <;> decide) _

/-- What window 1 stages is the whole of its array. -/
theorem blk1 (c : Dev nD) : iblk (F := Ideal) m c 1 t0_0 = m ((c.tc : Thread nD τ).loc main_arg1) :=
  Memref.read_access_unit_zero (Elt Ideal) main_arg1 (funext fun a => by fin_cases a <;> decide) (fun a => by fin_cases a <;> decide) _

/-- What window 2 stages is the whole of its array. -/
theorem blk2 (c : Dev nD) : iblk (F := Ideal) m c 2 t0_0 = m ((c.tc : Thread nD τ).loc main_arg4) :=
  Memref.read_access_unit_zero (Elt Ideal) main_arg4 (funext fun a => by fin_cases a <;> decide) (fun a => by fin_cases a <;> decide) _

/-- What window 3 stages is the whole of its array. -/
theorem blk3 (c : Dev nD) : iblk (F := Ideal) m c 3 t0_0 = m ((c.tc : Thread nD τ).loc main_arg2) :=
  Memref.read_access_unit_zero (Elt Ideal) main_arg2 (funext fun a => by fin_cases a <;> decide) (fun a => by fin_cases a <;> decide) _

/-- What window 4 stages is the whole of its array. -/
theorem blk4 (c : Dev nD) : iblk (F := Ideal) m c 4 t0_0 = m ((c.tc : Thread nD τ).loc main_arg5) :=
  Memref.read_access_unit_zero (Elt Ideal) main_arg5 (funext fun a => by fin_cases a <;> decide) (fun a => by fin_cases a <;> decide) _

/-- What window 5 stages is the whole of its array. -/
theorem blk5 (c : Dev nD) : iblk (F := Ideal) m c 5 t0_0 = m ((c.tc : Thread nD τ).loc main_arg3) :=
  Memref.read_access_unit_zero (Elt Ideal) main_arg3 (funext fun a => by fin_cases a <;> decide) (fun a => by fin_cases a <;> decide) _

/-- What window 6 stages is the whole of its array. -/
theorem blk6 (c : Dev nD) : iblk (F := Ideal) m c 6 t0_0 = m ((c.tc : Thread nD τ).loc main_arg6) :=
  Memref.read_access_unit_zero (Elt Ideal) main_arg6 (funext fun a => by fin_cases a <;> decide) (fun a => by fin_cases a <;> decide) _

attribute [local irreducible] res in
/-- The result array ends at what the device returns. -/
theorem finalA_o (c : Dev nD) : finalA (F := Ideal) m ρ c 7 = res (inp m) c := by
  have h : ((cfg0.win 7).blk t0_0).view.read (Elt Ideal) (finalA (F := Ideal) m ρ c 7) = res (inp m) c := by
    unfold finalA
    rw [show cfg0.N = ((0 : Fin 1) : Fin cfg0.N).val + 1 from rfl, (dats m ρ 0 c).arrAt_succ 7 (0 : Fin 1)]
    rw [show (cfg0.win 7).flush (0 : Fin 1) = true from by decide, if_pos rfl]
    exact View.read_write_univ _ _
  exact (Memref.read_access_unit_zero (Elt Ideal) main_v1 (funext fun a => by fin_cases a <;> decide) (fun a => by fin_cases a <;> decide) _).symm.trans h

/-- Devices whose arrays are the activations and blocks of the weights hold them. -/
theorem holds (x : Mat 64 512) (A₀ A₁ A₂ : Mat 512 16384) (W₀ W₁ W₂ : Mat 16384 512)
    (h : ∀ c : Dev nD, m ((c.tc : Thread nD τ).loc main_arg0) = x
      ∧ m ((c.tc : Thread nD τ).loc main_arg1) = colBlk A₀ c ∧ m ((c.tc : Thread nD τ).loc main_arg2) = colBlk A₁ c
      ∧ m ((c.tc : Thread nD τ).loc main_arg3) = colBlk A₂ c
      ∧ m ((c.tc : Thread nD τ).loc main_arg4) = rowBlk W₀ c ∧ m ((c.tc : Thread nD τ).loc main_arg5) = rowBlk W₁ c
      ∧ m ((c.tc : Thread nD τ).loc main_arg6) = rowBlk W₂ c) :
    Holds (inp m) x ![A₀, A₁, A₂] ![W₀, W₁, W₂] := fun c => by
  obtain ⟨h0, h1, h2, h3, h4, h5, h6⟩ := h c
  refine ⟨(blk0 m c).trans h0, fun l => ?_, fun l => ?_⟩
  · match l with
    | 0 => exact (blk1 m c).trans h1
    | 1 => exact (blk3 m c).trans h2
    | 2 => exact (blk5 m c).trans h3
  · match l with
    | 0 => exact (blk2 m c).trans h4
    | 1 => exact (blk4 m c).trans h5
    | 2 => exact (blk6 m c).trans h6

/-- What a device returns is its block of the three layers. -/
theorem res_eq {I : Dev nD → Inp Ideal} {x : Mat 64 512} {A : Fin 3 → Mat 512 16384} {W : Fin 3 → Mat 16384 512} (h : Holds I x A W) (c : Dev nD) :
    res I c = Layout.block ⟨2, ![4, 512]⟩ ⟨2, ![64, 512]⟩ 0 16 c (layer (layer (layer x (A 0) (W 0)) (A 1) (W 1)) (A 2) (W 2)) := by
  unfold res
  rw [RR_eq h c]
  exact half_eq _ c

/-- From devices holding the activations and their blocks of the weights, the kernel runs, every device's result ends
    at its block of the three layers, and the arguments end unchanged. -/
theorem run_value {x : Mat 64 512} {A : Fin 3 → Mat 512 16384} {W : Fin 3 → Mat 16384 512} (h : Holds (inp m) x A W) :
    θ_run defs (onTc (τ := τ) (main (F := Ideal))) ⟨m, fun _ => 0, ρ⟩ (fun r => ∀ c : Dev nD,
      r.2.mem ((c.tc : Thread nD τ).loc main_v1) = Layout.block ⟨2, ![4, 512]⟩ ⟨2, ![64, 512]⟩ 0 16 c (layer (layer (layer x (A 0) (W 0)) (A 1) (W 1)) (A 2) (W 2))
      ∧ Kept m r c) :=
  (θ_run defs _ _).mono (fun _ hr c => ⟨(hr.1 c 7).trans ((finalA_o m ρ c).trans (res_eq h c)), kept m ρ hr.1 c⟩) (run_main m ρ)

end

end Cert.KernelIdealRun
-- ==== Proof.RefValue.lean ====
/- The reference's result is three layers. -/
module

public import proofs.«01_k».proof.Proof.Layers
public import proofs.«01_k».proof.Proof.RefRun

@[expose] public section

noncomputable section

namespace Cert.RefRun

open Cert.ReferenceIdeal Cert.ReferenceIdeal.Read Idealize.ShloMosaic Idealize.ShloMosaic.TcCoe Idealize.ShloMosaic.ValueIdx Cert.Layers

/-- The reference's rectifier cuts at zero. -/
theorem relu (x : EReal) : FloatOps.maximumf (F := Ideal) (φ := .f32) x (FloatOps.ofBits .f32 0x00000000#32) = max x 0 :=
  congrArg (max x) Ideal.ofBits_zero_f32

/-- The first layer. -/
theorem v3_eq (x : Mat 64 512) (A : Mat 512 16384) (W : Mat 16384 512) :
    (val_main_v3 (F := Ideal) x A W : Mat 64 512) = layer x A W := by
  funext i
  rw [val_main_v3_apply]
  show _ = entry x A W (i 0) (i 1)
  unfold entry
  refine Finset.sum_congr rfl fun k _ => ?_
  rw [val_main_v2_apply, val_main_v0_apply, val_main_v1_apply, val_main_cst_apply]
  refine congrArg₂ (· * ·) ((relu _).trans (congrArg (max · 0) (Finset.sum_congr rfl fun j _ => ?_))) (congrArg W ?_)
  · exact congrArg₂ (· * ·) (congrArg x (by funext a; fin_cases a <;> rfl)) (congrArg A (by funext a; fin_cases a <;> rfl))
  · funext a; fin_cases a <;> rfl

/-- The reference's later layers are the first layer's function of the layer before. -/
theorem v11_eq (x : Mat 64 512) (A₀ A₁ A₂ : Mat 512 16384) (W₀ W₁ W₂ : Mat 16384 512) :
    (val_main_v11 (F := Ideal) x A₀ A₁ A₂ W₀ W₁ W₂ : Mat 64 512) = layer (layer (layer x A₀ W₀) A₁ W₁) A₂ W₂ :=
  (show val_main_v11 (F := Ideal) x A₀ A₁ A₂ W₀ W₁ W₂ = val_main_v3 (F := Ideal) (val_main_v3 (F := Ideal) (val_main_v3 (F := Ideal) x A₀ W₀) A₁ W₁) A₂ W₂
    from rfl).trans (by rw [v3_eq, v3_eq, v3_eq])

end Cert.RefRun
-- ==== Proof.lean ====
/- The claims: each program's run, and that the kernel's results are the reference's blocks. -/
module

public import proofs.«01_k».proof.Defs
public import proofs.«01_k».proof.Proof.Same
public import proofs.«01_k».proof.Proof.RefRun
public import proofs.«01_k».proof.Proof.KernelIdealRun.Value
public import proofs.«01_k».proof.Proof.RefValue
public import proofs.«01_k».proof.Proof.Gen.Kernel

@[expose] public section

noncomputable section

namespace Cert.Proof

open Idealize.ShloMosaic Idealize.SL.Sem

/-- The idealized kernel runs, keeps its arguments and leaves every counter at zero. -/
theorem frame_ideal : Cert.quiescent_KernelIdeal (hKernelIdeal := Cert.KernelIdeal.Gen.facts) := fun m g _ =>
  Cert.KernelIdealRun.run_kept m g

/-- So does the kernel, being the same program over other numbers. -/
theorem frame_kernel : Cert.quiescent_Kernel (hKernel := Cert.Kernel.Gen.facts) := fun m g _ =>
  letI := Cert.Kernel.Gen.facts
  letI := Cert.KernelIdeal.Gen.facts
  (Cert.Same.run_eq (F := Bits) m g _).mpr (Cert.KernelIdealRun.run_kept (F := Bits) m g)

/-- From arguments that agree, every device of the idealized kernel ends holding its block of what the reference computes. -/
theorem algebraic : Cert.algebraic_KernelIdeal_ReferenceIdeal (hKernelIdeal := Cert.KernelIdeal.Gen.facts) (hReferenceIdeal := Cert.ReferenceIdeal.Gen.facts) := by
  intro m g m' g' _ hagree
  letI := Cert.KernelIdeal.Gen.facts
  letI := Cert.ReferenceIdeal.Gen.facts
  refine ⟨Cert.Layers.layer (Cert.Layers.layer (Cert.Layers.layer _ _ _) _ _) _ _,
    Cert.KernelIdealRun.run_value m g (Cert.KernelIdealRun.holds m _ _ _ _ _ _ _ hagree), ?_⟩
  exact (θ_run _ _ _).mono (fun r h => ⟨(h 0).1.trans ((Cert.ReferenceIdeal.Read.val_main_v11_eq (F := Ideal) _ _ _ _ _ _ _).trans
    (Cert.RefRun.v11_eq _ _ _ _ _ _ _)), (h 0).2⟩) (Cert.ReferenceIdeal.Value.run (F := Ideal) m' g')

/-- Everything claimed. -/
theorem claim : Cert.Claim := ⟨Cert.Kernel.Gen.facts, Cert.KernelIdeal.Gen.facts, Cert.ReferenceIdeal.Gen.facts,
  frame_kernel, frame_ideal, Cert.RefRun.frame, trivial, algebraic⟩

end Cert.Proof

end
